-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Rotation (m : (ℓ : Loc Cert.Rotation.nD Cert.Rotation.τ Cert.Rotation.sig) → Buf (Elt Bits) ℓ) : Prop :=
  True

def Pre_RotationIdeal (m : (ℓ : Loc Cert.RotationIdeal.nD Cert.RotationIdeal.τ Cert.RotationIdeal.sig) → Buf (Elt Ideal) ℓ) : Prop :=
  True

def Pre_RotationIdeal_finite [hPre_finite : Cert.Pre_finite.Facts] (m : (ℓ : Loc Cert.RotationIdeal.nD Cert.RotationIdeal.τ Cert.RotationIdeal.sig) → Buf (Elt Ideal) ℓ) : Prop :=
  ∀ c : Dev Cert.RotationIdeal.nD,
    (Cert.Pre_finite.fn (F := Ideal) (m ((c.tc : Thread Cert.RotationIdeal.nD Cert.RotationIdeal.τ).loc Cert.RotationIdeal.main_arg0)) (m ((c.tc : Thread Cert.RotationIdeal.nD Cert.RotationIdeal.τ).loc Cert.RotationIdeal.main_arg1))) = (fun _ => 1#1)

def Pre_RotationReferenceIdeal (m : (ℓ : Loc Cert.RotationReferenceIdeal.nD Cert.RotationReferenceIdeal.τ Cert.RotationReferenceIdeal.sig) → Buf (Elt Ideal) ℓ) : Prop :=
  True

def Pre_RotationReferenceIdeal_finite [hPre_finite : Cert.Pre_finite.Facts] (m : (ℓ : Loc Cert.RotationReferenceIdeal.nD Cert.RotationReferenceIdeal.τ Cert.RotationReferenceIdeal.sig) → Buf (Elt Ideal) ℓ) : Prop :=
  ∀ c : Dev Cert.RotationReferenceIdeal.nD,
    (Cert.Pre_finite.fn (F := Ideal) (m ((c.tc : Thread Cert.RotationReferenceIdeal.nD Cert.RotationReferenceIdeal.τ).loc Cert.RotationReferenceIdeal.main_arg0)) (m ((c.tc : Thread Cert.RotationReferenceIdeal.nD Cert.RotationReferenceIdeal.τ).loc Cert.RotationReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Rotation [hRotation : Cert.Rotation.Facts] : Prop :=
  ∀ (m : (ℓ : Loc Cert.Rotation.nD Cert.Rotation.τ Cert.Rotation.sig) → Buf (Elt Bits) ℓ) (g : Dev Cert.Rotation.nD → PrngReg), Pre_Rotation m →
    θ_run (Cert.Rotation.defs (F := Bits)) (onTc (τ := Cert.Rotation.τ) (Cert.Rotation.main (F := Bits))) ⟨m, fun _ => 0, g⟩ (fun r => (∀ c : Dev Cert.Rotation.nD,
      r.2.mem ((c.tc : Thread Cert.Rotation.nD Cert.Rotation.τ).loc Cert.Rotation.main_arg0) = m ((c.tc : Thread Cert.Rotation.nD Cert.Rotation.τ).loc Cert.Rotation.main_arg0)
      ∧ r.2.mem ((c.tc : Thread Cert.Rotation.nD Cert.Rotation.τ).loc Cert.Rotation.main_arg1) = m ((c.tc : Thread Cert.Rotation.nD Cert.Rotation.τ).loc Cert.Rotation.main_arg1))
      ∧ r.2.sem = fun _ => 0)

def quiescent_RotationIdeal [hRotationIdeal : Cert.RotationIdeal.Facts] : Prop :=
  ∀ (m : (ℓ : Loc Cert.RotationIdeal.nD Cert.RotationIdeal.τ Cert.RotationIdeal.sig) → Buf (Elt Ideal) ℓ) (g : Dev Cert.RotationIdeal.nD → PrngReg), Pre_RotationIdeal m →
    θ_run (Cert.RotationIdeal.defs (F := Ideal)) (onTc (τ := Cert.RotationIdeal.τ) (Cert.RotationIdeal.main (F := Ideal))) ⟨m, fun _ => 0, g⟩ (fun r => (∀ c : Dev Cert.RotationIdeal.nD,
      r.2.mem ((c.tc : Thread Cert.RotationIdeal.nD Cert.RotationIdeal.τ).loc Cert.RotationIdeal.main_arg0) = m ((c.tc : Thread Cert.RotationIdeal.nD Cert.RotationIdeal.τ).loc Cert.RotationIdeal.main_arg0)
      ∧ r.2.mem ((c.tc : Thread Cert.RotationIdeal.nD Cert.RotationIdeal.τ).loc Cert.RotationIdeal.main_arg1) = m ((c.tc : Thread Cert.RotationIdeal.nD Cert.RotationIdeal.τ).loc Cert.RotationIdeal.main_arg1))
      ∧ r.2.sem = fun _ => 0)

def quiescent_RotationIdeal_pre_finite [hRotationIdeal : Cert.RotationIdeal.Facts] [hPre_finite : Cert.Pre_finite.Facts] : Prop :=
  ∀ (m : (ℓ : Loc Cert.RotationIdeal.nD Cert.RotationIdeal.τ Cert.RotationIdeal.sig) → Buf (Elt Ideal) ℓ) (g : Dev Cert.RotationIdeal.nD → PrngReg), Pre_RotationIdeal_finite m →
    θ_run (Cert.RotationIdeal.defs (F := Ideal)) (onTc (τ := Cert.RotationIdeal.τ) (Cert.RotationIdeal.main (F := Ideal))) ⟨m, fun _ => 0, g⟩ (fun r => (∀ c : Dev Cert.RotationIdeal.nD,
      r.2.mem ((c.tc : Thread Cert.RotationIdeal.nD Cert.RotationIdeal.τ).loc Cert.RotationIdeal.main_arg0) = m ((c.tc : Thread Cert.RotationIdeal.nD Cert.RotationIdeal.τ).loc Cert.RotationIdeal.main_arg0)
      ∧ r.2.mem ((c.tc : Thread Cert.RotationIdeal.nD Cert.RotationIdeal.τ).loc Cert.RotationIdeal.main_arg1) = m ((c.tc : Thread Cert.RotationIdeal.nD Cert.RotationIdeal.τ).loc Cert.RotationIdeal.main_arg1))
      ∧ r.2.sem = fun _ => 0)

def quiescent_RotationReferenceIdeal [hRotationReferenceIdeal : Cert.RotationReferenceIdeal.Facts] : Prop :=
  ∀ (m : (ℓ : Loc Cert.RotationReferenceIdeal.nD Cert.RotationReferenceIdeal.τ Cert.RotationReferenceIdeal.sig) → Buf (Elt Ideal) ℓ) (g : Dev Cert.RotationReferenceIdeal.nD → PrngReg), Pre_RotationReferenceIdeal m →
    θ_run (Cert.RotationReferenceIdeal.defs (F := Ideal)) (onTc (τ := Cert.RotationReferenceIdeal.τ) (Cert.RotationReferenceIdeal.main (F := Ideal))) ⟨m, fun _ => 0, g⟩ (fun r => (∀ c : Dev Cert.RotationReferenceIdeal.nD,
      r.2.mem ((c.tc : Thread Cert.RotationReferenceIdeal.nD Cert.RotationReferenceIdeal.τ).loc Cert.RotationReferenceIdeal.main_arg0) = m ((c.tc : Thread Cert.RotationReferenceIdeal.nD Cert.RotationReferenceIdeal.τ).loc Cert.RotationReferenceIdeal.main_arg0)
      ∧ r.2.mem ((c.tc : Thread Cert.RotationReferenceIdeal.nD Cert.RotationReferenceIdeal.τ).loc Cert.RotationReferenceIdeal.main_arg1) = m ((c.tc : Thread Cert.RotationReferenceIdeal.nD Cert.RotationReferenceIdeal.τ).loc Cert.RotationReferenceIdeal.main_arg1))
      ∧ r.2.sem = fun _ => 0)

def quiescent_RotationReferenceIdeal_pre_finite [hRotationReferenceIdeal : Cert.RotationReferenceIdeal.Facts] [hPre_finite : Cert.Pre_finite.Facts] : Prop :=
  ∀ (m : (ℓ : Loc Cert.RotationReferenceIdeal.nD Cert.RotationReferenceIdeal.τ Cert.RotationReferenceIdeal.sig) → Buf (Elt Ideal) ℓ) (g : Dev Cert.RotationReferenceIdeal.nD → PrngReg), Pre_RotationReferenceIdeal_finite m →
    θ_run (Cert.RotationReferenceIdeal.defs (F := Ideal)) (onTc (τ := Cert.RotationReferenceIdeal.τ) (Cert.RotationReferenceIdeal.main (F := Ideal))) ⟨m, fun _ => 0, g⟩ (fun r => (∀ c : Dev Cert.RotationReferenceIdeal.nD,
      r.2.mem ((c.tc : Thread Cert.RotationReferenceIdeal.nD Cert.RotationReferenceIdeal.τ).loc Cert.RotationReferenceIdeal.main_arg0) = m ((c.tc : Thread Cert.RotationReferenceIdeal.nD Cert.RotationReferenceIdeal.τ).loc Cert.RotationReferenceIdeal.main_arg0)
      ∧ r.2.mem ((c.tc : Thread Cert.RotationReferenceIdeal.nD Cert.RotationReferenceIdeal.τ).loc Cert.RotationReferenceIdeal.main_arg1) = m ((c.tc : Thread Cert.RotationReferenceIdeal.nD Cert.RotationReferenceIdeal.τ).loc Cert.RotationReferenceIdeal.main_arg1))
      ∧ r.2.sem = fun _ => 0)

def preserves_Kernel_KernelIdeal : Prop :=
  IdealRules.bf16_pair.BufferStatement Cert.KernelIdeal.S2x256x2x128 Cert.KernelIdeal.S2x256x1x128
  ∧ IdealRules.bf16_pair.PackStatement Cert.KernelIdeal.S256x128
  ∧ IdealRules.bf16_pair.Statement Cert.KernelIdeal.S512x128 Cert.KernelIdeal.S256x128
  ∧ IdealRules.bf16_pair.PackStatement Cert.KernelIdeal.S128x256
  ∧ IdealRules.bf16_pair.Statement Cert.KernelIdeal.S1x128x2x128 Cert.KernelIdeal.S1x128x1x128
  ∧ IdealRules.bf16_pair.Statement Cert.KernelIdeal.S1x256x2x128 Cert.KernelIdeal.S1x256x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Rotation_RotationIdeal : Prop :=
  IdealRules.bf16_pair.BufferStatement Cert.RotationIdeal.S512x2x128 Cert.RotationIdeal.S512x1x128
  ∧ IdealRules.bf16_pair.PackStatement Cert.RotationIdeal.S32x128
  ∧ IdealRules.bf16_pair.Statement Cert.RotationIdeal.S32x2x128 Cert.RotationIdeal.S32x1x128
  ∧ IdealRules.bf16_pair.Statement Cert.RotationIdeal.S512x2x128 Cert.RotationIdeal.S512x1x128
  ∧ IdealRules.bf16_pair.Statement Cert.RotationIdeal.S1024x128 Cert.RotationIdeal.S512x128
  ∧ IdealRules.bf16_pair.PackStatement Cert.RotationIdeal.S128x512
  ∧ IdealRules.bf16_pair.Statement Cert.RotationIdeal.S128x2x32 Cert.RotationIdeal.S128x1x32
  ∧ IdealRules.bf16_pair.Statement Cert.RotationIdeal.S8x32x32 Cert.RotationIdeal.S8x16x32
  ∧ IdealRules.bf16_pair.SelectZeroStatement Cert.RotationIdeal.S128x256
  ∧ IdealRules.bf16_pair.Statement Cert.RotationIdeal.S256x256 Cert.RotationIdeal.S128x256

def algebraic_RotationIdeal_RotationReferenceIdeal_pre_finite [hRotationIdeal : Cert.RotationIdeal.Facts] [hRotationReferenceIdeal : Cert.RotationReferenceIdeal.Facts] [hPre_finite : Cert.Pre_finite.Facts] : Prop :=
  ∀ (m : (ℓ : Loc Cert.RotationIdeal.nD Cert.RotationIdeal.τ Cert.RotationIdeal.sig) → Buf (Elt Ideal) ℓ) (g : Dev Cert.RotationIdeal.nD → PrngReg)
    (m' : (ℓ : Loc Cert.RotationReferenceIdeal.nD Cert.RotationReferenceIdeal.τ Cert.RotationReferenceIdeal.sig) → Buf (Elt Ideal) ℓ) (g' : Dev Cert.RotationReferenceIdeal.nD → PrngReg), Pre_RotationIdeal_finite m →
    (∀ c : Dev Cert.RotationIdeal.nD,
      m' ((c.tc : Thread Cert.RotationReferenceIdeal.nD Cert.RotationReferenceIdeal.τ).loc Cert.RotationReferenceIdeal.main_arg0) = m ((c.tc : Thread Cert.RotationIdeal.nD Cert.RotationIdeal.τ).loc Cert.RotationIdeal.main_arg0)
      ∧ m' ((c.tc : Thread Cert.RotationReferenceIdeal.nD Cert.RotationReferenceIdeal.τ).loc Cert.RotationReferenceIdeal.main_arg1) = m ((c.tc : Thread Cert.RotationIdeal.nD Cert.RotationIdeal.τ).loc Cert.RotationIdeal.main_arg1)) →
    ∃ (v0 : (c : Dev Cert.RotationIdeal.nD) → Buf (Elt Ideal) ((c.tc : Thread Cert.RotationIdeal.nD Cert.RotationIdeal.τ).loc Cert.RotationIdeal.main_v0_0)),
      θ_run (Cert.RotationIdeal.defs (F := Ideal)) (onTc (τ := Cert.RotationIdeal.τ) (Cert.RotationIdeal.main (F := Ideal))) ⟨m, fun _ => 0, g⟩ (fun r => ∀ c : Dev Cert.RotationIdeal.nD,
          r.2.mem ((c.tc : Thread Cert.RotationIdeal.nD Cert.RotationIdeal.τ).loc Cert.RotationIdeal.main_v0_0) = v0 c
          ∧ r.2.mem ((c.tc : Thread Cert.RotationIdeal.nD Cert.RotationIdeal.τ).loc Cert.RotationIdeal.main_arg0) = m ((c.tc : Thread Cert.RotationIdeal.nD Cert.RotationIdeal.τ).loc Cert.RotationIdeal.main_arg0)
          ∧ r.2.mem ((c.tc : Thread Cert.RotationIdeal.nD Cert.RotationIdeal.τ).loc Cert.RotationIdeal.main_arg1) = m ((c.tc : Thread Cert.RotationIdeal.nD Cert.RotationIdeal.τ).loc Cert.RotationIdeal.main_arg1))
      ∧ θ_run (Cert.RotationReferenceIdeal.defs (F := Ideal)) (onTc (τ := Cert.RotationReferenceIdeal.τ) (Cert.RotationReferenceIdeal.main (F := Ideal))) ⟨m', fun _ => 0, g'⟩ (fun r => ∀ c : Dev Cert.RotationReferenceIdeal.nD,
          r.2.mem ((c.tc : Thread Cert.RotationReferenceIdeal.nD Cert.RotationReferenceIdeal.τ).loc Cert.RotationReferenceIdeal.main_v36) = v0 c
          ∧ r.2.mem ((c.tc : Thread Cert.RotationReferenceIdeal.nD Cert.RotationReferenceIdeal.τ).loc Cert.RotationReferenceIdeal.main_arg0) = m' ((c.tc : Thread Cert.RotationReferenceIdeal.nD Cert.RotationReferenceIdeal.τ).loc Cert.RotationReferenceIdeal.main_arg0)
          ∧ r.2.mem ((c.tc : Thread Cert.RotationReferenceIdeal.nD Cert.RotationReferenceIdeal.τ).loc Cert.RotationReferenceIdeal.main_arg1) = m' ((c.tc : Thread Cert.RotationReferenceIdeal.nD Cert.RotationReferenceIdeal.τ).loc Cert.RotationReferenceIdeal.main_arg1))

def Claim : Prop :=
  ∃ (hKernel : Cert.Kernel.Facts) (hKernelIdeal : Cert.KernelIdeal.Facts) (hReferenceIdeal : Cert.ReferenceIdeal.Facts) (hRotation : Cert.Rotation.Facts) (hRotationIdeal : Cert.RotationIdeal.Facts) (hRotationReferenceIdeal : Cert.RotationReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Rotation (hRotation := hRotation)
    ∧ quiescent_RotationIdeal (hRotationIdeal := hRotationIdeal)
    ∧ quiescent_RotationIdeal_pre_finite (hRotationIdeal := hRotationIdeal) (hPre_finite := hPre_finite)
    ∧ quiescent_RotationReferenceIdeal (hRotationReferenceIdeal := hRotationReferenceIdeal)
    ∧ quiescent_RotationReferenceIdeal_pre_finite (hRotationReferenceIdeal := hRotationReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Rotation_RotationIdeal
    ∧ algebraic_RotationIdeal_RotationReferenceIdeal_pre_finite (hRotationIdeal := hRotationIdeal) (hRotationReferenceIdeal := hRotationReferenceIdeal) (hPre_finite := hPre_finite)
-- ==== Pre_finite.lean ====
abbrev S256x14336 : Shape := ⟨2, ![256, 14336]⟩
abbrev S448x496 : Shape := ⟨2, ![448, 496]⟩
abbrev S_ : Shape := ⟨0, ![]⟩

class Facts : Prop where
  bcast_S_S448x496 : S_.BroadcastsInDim S448x496 (![] : Fin 0 → Fin S448x496.rank)

variable [Facts]

def fn {F : FTy → Type} [FloatOps F] (main_arg0 : FVec F S256x14336 .bf16) (main_arg1 : FVec F S448x496 .f32) : IVec S448x496 1 :=
  let main_v0 : FVec F S448x496 .f32 := Host.absf main_arg1
  let main_cst : FVec F S_ .f32 := constant S_ .f32 0x7F800000#32
  let main_v1 : FVec F S448x496 .f32 := broadcastInDim S448x496 ![] bcast_S_S448x496 main_cst
  let main_v2 : IVec S448x496 1 := cmpf .olt main_v0 main_v1
  main_v2
-- ==== Kernel.lean ====
abbrev S256x14336 : Shape := ⟨2, ![256, 14336]⟩
abbrev S2048x14336 : Shape := ⟨2, ![2048, 14336]⟩
abbrev S4096x224 : Shape := ⟨2, ![4096, 224]⟩
abbrev S4096 : Shape := ⟨1, ![4096]⟩
abbrev S16x128 : Shape := ⟨2, ![16, 128]⟩
abbrev S8x128x4 : Shape := ⟨3, ![8, 128, 4]⟩
abbrev S8x4x128 : Shape := ⟨3, ![8, 4, 128]⟩
abbrev S8x1x512 : Shape := ⟨3, ![8, 1, 512]⟩
abbrev S256x4096 : Shape := ⟨2, ![256, 4096]⟩
abbrev S256x2048 : Shape := ⟨2, ![256, 2048]⟩
abbrev S512x224 : Shape := ⟨2, ![512, 224]⟩
abbrev S1x1x512 : Shape := ⟨3, ![1, 1, 512]⟩
abbrev S256x512 : Shape := ⟨2, ![256, 512]⟩
abbrev S512x128 : Shape := ⟨2, ![512, 128]⟩
abbrev S4x256x128 : Shape := ⟨3, ![4, 256, 128]⟩
abbrev S2048x512 : Shape := ⟨2, ![2048, 512]⟩
abbrev S2x256x128 : Shape := ⟨3, ![2, 256, 128]⟩
abbrev S128x128 : Shape := ⟨2, ![128, 128]⟩
abbrev S1x128x128 : Shape := ⟨3, ![1, 128, 128]⟩
abbrev S512x96 : Shape := ⟨2, ![512, 96]⟩
abbrev S256x256 : Shape := ⟨2, ![256, 256]⟩
abbrev S64x256 : Shape := ⟨2, ![64, 256]⟩
abbrev S128x256 : Shape := ⟨2, ![128, 256]⟩
abbrev S256x128 : Shape := ⟨2, ![256, 128]⟩
abbrev S1x1x128 : Shape := ⟨3, ![1, 1, 128]⟩
abbrev S1x128 : Shape := ⟨2, ![1, 128]⟩
abbrev S64x128 : Shape := ⟨2, ![64, 128]⟩
abbrev S16x128x1 : Shape := ⟨3, ![16, 128, 1]⟩
abbrev S1x512 : Shape := ⟨2, ![1, 512]⟩
abbrev S1x256x128 : Shape := ⟨3, ![1, 256, 128]⟩
abbrev S128x512 : Shape := ⟨2, ![128, 512]⟩

abbrev nBuf : Space → Nat
  | .hbm => 9
  | .vmem => 15
  | .smem => 0
  | _ => 0

abbrev bufTy : (tb : Table) → Fin (tcTables nBuf tb) → BufTy
  | .hbm, ⟨0, _⟩ => ⟨S256x14336, .bf16⟩
  | .hbm, ⟨1, _⟩ => ⟨S2048x14336, .i8⟩
  | .hbm, ⟨2, _⟩ => ⟨S4096x224, .f32⟩
  | .hbm, ⟨3, _⟩ => ⟨S4096, .f32⟩
  | .hbm, ⟨4, _⟩ => ⟨S16x128, .f32⟩
  | .hbm, ⟨5, _⟩ => ⟨S8x128x4, .f32⟩
  | .hbm, ⟨6, _⟩ => ⟨S8x4x128, .f32⟩
  | .hbm, ⟨7, _⟩ => ⟨S8x1x512, .f32⟩
  | .hbm, ⟨8, _⟩ => ⟨S256x4096, .bf16⟩
  | .local _ .vmem, ⟨0, _⟩ => ⟨S16x128, .f32⟩
  | .local _ .vmem, ⟨1, _⟩ => ⟨S256x14336, .bf16⟩
  | .local _ .vmem, ⟨2, _⟩ => ⟨S256x2048, .i8⟩
  | .local _ .vmem, ⟨3, _⟩ => ⟨S256x2048, .i8⟩
  | .local _ .vmem, ⟨4, _⟩ => ⟨S512x224, .f32⟩
  | .local _ .vmem, ⟨5, _⟩ => ⟨S512x224, .f32⟩
  | .local _ .vmem, ⟨6, _⟩ => ⟨S1x1x512, .f32⟩
  | .local _ .vmem, ⟨7, _⟩ => ⟨S1x1x512, .f32⟩
  | .local _ .vmem, ⟨8, _⟩ => ⟨S256x512, .bf16⟩
  | .local _ .vmem, ⟨9, _⟩ => ⟨S256x512, .bf16⟩
  | .local _ .vmem, ⟨10, _⟩ => ⟨S512x128, .f32⟩
  | .local _ .vmem, ⟨11, _⟩ => ⟨S4x256x128, .f32⟩
  | .local _ .vmem, ⟨12, _⟩ => ⟨S2048x512, .bf16⟩
  | .local _ .vmem, ⟨13, _⟩ => ⟨S256x512, .f32⟩
  | .local _ .vmem, ⟨14, _⟩ => ⟨S2x256x128, .i32⟩
  | _, _ => ⟨S256x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨2, ![8, 7], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32 : BitVec 32 := 256#32
  let v19 : BitVec 32 := Scalar.muli arg13 c256_i32
  v19
def k0_off1 (k0_t1 : Fin k0_t1_loop.trips) : Fin 2 → Nat :=
  let c0_10 : Index := 0#32
  let c0_i32_1 : BitVec 32 := 0#32
  let c1_i32 : BitVec 32 := 1#32
  let arg13 : BitVec 32 := Scf.iv c0_i32_1 c1_i32 k0_t1
  let c256_i32 : BitVec 32 := 256#32
  let v19 : BitVec 32 := Scalar.muli arg13 c256_i32
  let v20 : BitVec 32 := v19
  let v21 : Index := Scalar.indexCast v20
  ![0, v21.toNat]
def k0_off2 (i : grid0.Coords) (k0_t1 : Fin k0_t1_loop.trips) (c0_i32_11 : BitVec 32) : Fin 3 → Nat :=
  let c0_12 : Index := 0#32
  let arg1 : BitVec 32 := BitVec.ofNat 32 (i 1).val
  let c32_i32 : BitVec 32 := 32#32
  let v26 : BitVec 32 := Scalar.muli arg1 c32_i32
  let c0_i32_1 : BitVec 32 := 0#32
  let c1_i32 : BitVec 32 := 1#32
  let arg13 : BitVec 32 := Scf.iv c0_i32_1 c1_i32 k0_t1
  let c4_i32 : BitVec 32 := 4#32
  let v27 : BitVec 32 := Scalar.muli arg13 c4_i32
  let v28 : BitVec 32 := Scalar.addi v26 v27
  let v29 : BitVec 32 := Scalar.addi v28 c0_i32_11
  let v30 : Index := Scalar.indexCast v29
  let c0_13 : Index := 0#32
  ![0, v30.toNat, 0]
def k0_mult2 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_16 : BitVec 32 := 256#32
  let v47 : BitVec 32 := Scalar.muli arg13 c256_i32_16
  let c0_i32_17 : BitVec 32 := 0#32
  let v48 : BitVec 32 := Scalar.addi v47 c0_i32_17
  let c0_i32_18 : BitVec 32 := 0#32
  let v49 : BitVec 32 := Scalar.addi v48 c0_i32_18
  v49
def k0_off3 (k0_t1 : Fin k0_t1_loop.trips) (c0_i32_17 : BitVec 32) (c0_i32_18 : BitVec 32) : Fin 2 → Nat :=
  let c0_i32_1 : BitVec 32 := 0#32
  let c1_i32 : BitVec 32 := 1#32
  let arg13 : BitVec 32 := Scf.iv c0_i32_1 c1_i32 k0_t1
  let c256_i32_16 : BitVec 32 := 256#32
  let v47 : BitVec 32 := Scalar.muli arg13 c256_i32_16
  let v48 : BitVec 32 := Scalar.addi v47 c0_i32_17
  let v49 : BitVec 32 := Scalar.addi v48 c0_i32_18
  let v50 : BitVec 32 := v49
  let v51 : Index := Scalar.indexCast v50
  let c0_19 : Index := 0#32
  ![v51.toNat, 0]
def k0_mult3 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_20 : BitVec 32 := 256#32
  let v60 : BitVec 32 := Scalar.muli arg13 c256_i32_20
  let c0_i32_21 : BitVec 32 := 0#32
  let v61 : BitVec 32 := Scalar.addi v60 c0_i32_21
  let c16_i32 : BitVec 32 := 16#32
  let v62 : BitVec 32 := Scalar.addi v61 c16_i32
  v62
def k0_mult4 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_23 : BitVec 32 := 256#32
  let v73 : BitVec 32 := Scalar.muli arg13 c256_i32_23
  let c0_i32_24 : BitVec 32 := 0#32
  let v74 : BitVec 32 := Scalar.addi v73 c0_i32_24
  let c32_i32_25 : BitVec 32 := 32#32
  let v75 : BitVec 32 := Scalar.addi v74 c32_i32_25
  v75
def k0_mult5 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_27 : BitVec 32 := 256#32
  let v86 : BitVec 32 := Scalar.muli arg13 c256_i32_27
  let c0_i32_28 : BitVec 32 := 0#32
  let v87 : BitVec 32 := Scalar.addi v86 c0_i32_28
  let c48_i32 : BitVec 32 := 48#32
  let v88 : BitVec 32 := Scalar.addi v87 c48_i32
  v88
def k0_off4 (i : grid0.Coords) (k0_t1 : Fin k0_t1_loop.trips) (c0_i32_30 : BitVec 32) : Fin 3 → Nat :=
  let c1 : Index := 1#32
  let arg1 : BitVec 32 := BitVec.ofNat 32 (i 1).val
  let c32_i32 : BitVec 32 := 32#32
  let v26 : BitVec 32 := Scalar.muli arg1 c32_i32
  let c0_i32_1 : BitVec 32 := 0#32
  let c1_i32 : BitVec 32 := 1#32
  let arg13 : BitVec 32 := Scf.iv c0_i32_1 c1_i32 k0_t1
  let c4_i32 : BitVec 32 := 4#32
  let v27 : BitVec 32 := Scalar.muli arg13 c4_i32
  let v28 : BitVec 32 := Scalar.addi v26 v27
  let v94 : BitVec 32 := Scalar.addi v28 c0_i32_30
  let v95 : Index := Scalar.indexCast v94
  let c0_31 : Index := 0#32
  ![1, v95.toNat, 0]
def k0_mult6 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_35 : BitVec 32 := 256#32
  let v112 : BitVec 32 := Scalar.muli arg13 c256_i32_35
  let c0_i32_36 : BitVec 32 := 0#32
  let v113 : BitVec 32 := Scalar.addi v112 c0_i32_36
  let c0_i32_37 : BitVec 32 := 0#32
  let v114 : BitVec 32 := Scalar.addi v113 c0_i32_37
  v114
def k0_off5 (k0_t1 : Fin k0_t1_loop.trips) (c0_i32_36 : BitVec 32) (c0_i32_37 : BitVec 32) : Fin 2 → Nat :=
  let c0_i32_1 : BitVec 32 := 0#32
  let c1_i32 : BitVec 32 := 1#32
  let arg13 : BitVec 32 := Scf.iv c0_i32_1 c1_i32 k0_t1
  let c256_i32_35 : BitVec 32 := 256#32
  let v112 : BitVec 32 := Scalar.muli arg13 c256_i32_35
  let v113 : BitVec 32 := Scalar.addi v112 c0_i32_36
  let v114 : BitVec 32 := Scalar.addi v113 c0_i32_37
  let v115 : BitVec 32 := v114
  let v116 : Index := Scalar.indexCast v115
  let c128 : Index := 128#32
  ![v116.toNat, 128]
def k0_mult7 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_38 : BitVec 32 := 256#32
  let v125 : BitVec 32 := Scalar.muli arg13 c256_i32_38
  let c0_i32_39 : BitVec 32 := 0#32
  let v126 : BitVec 32 := Scalar.addi v125 c0_i32_39
  let c16_i32_40 : BitVec 32 := 16#32
  let v127 : BitVec 32 := Scalar.addi v126 c16_i32_40
  v127
def k0_mult8 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_42 : BitVec 32 := 256#32
  let v138 : BitVec 32 := Scalar.muli arg13 c256_i32_42
  let c0_i32_43 : BitVec 32 := 0#32
  let v139 : BitVec 32 := Scalar.addi v138 c0_i32_43
  let c32_i32_44 : BitVec 32 := 32#32
  let v140 : BitVec 32 := Scalar.addi v139 c32_i32_44
  v140
def k0_mult9 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_46 : BitVec 32 := 256#32
  let v151 : BitVec 32 := Scalar.muli arg13 c256_i32_46
  let c0_i32_47 : BitVec 32 := 0#32
  let v152 : BitVec 32 := Scalar.addi v151 c0_i32_47
  let c48_i32_48 : BitVec 32 := 48#32
  let v153 : BitVec 32 := Scalar.addi v152 c48_i32_48
  v153
def k0_off6 (i : grid0.Coords) (k0_t1 : Fin k0_t1_loop.trips) (c0_i32_50 : BitVec 32) : Fin 3 → Nat :=
  let c2 : Index := 2#32
  let arg1 : BitVec 32 := BitVec.ofNat 32 (i 1).val
  let c32_i32 : BitVec 32 := 32#32
  let v26 : BitVec 32 := Scalar.muli arg1 c32_i32
  let c0_i32_1 : BitVec 32 := 0#32
  let c1_i32 : BitVec 32 := 1#32
  let arg13 : BitVec 32 := Scf.iv c0_i32_1 c1_i32 k0_t1
  let c4_i32 : BitVec 32 := 4#32
  let v27 : BitVec 32 := Scalar.muli arg13 c4_i32
  let v28 : BitVec 32 := Scalar.addi v26 v27
  let v159 : BitVec 32 := Scalar.addi v28 c0_i32_50
  let v160 : Index := Scalar.indexCast v159
  let c0_51 : Index := 0#32
  ![2, v160.toNat, 0]
def k0_mult10 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_55 : BitVec 32 := 256#32
  let v177 : BitVec 32 := Scalar.muli arg13 c256_i32_55
  let c0_i32_56 : BitVec 32 := 0#32
  let v178 : BitVec 32 := Scalar.addi v177 c0_i32_56
  let c0_i32_57 : BitVec 32 := 0#32
  let v179 : BitVec 32 := Scalar.addi v178 c0_i32_57
  v179
def k0_off7 (k0_t1 : Fin k0_t1_loop.trips) (c0_i32_56 : BitVec 32) (c0_i32_57 : BitVec 32) : Fin 2 → Nat :=
  let c0_i32_1 : BitVec 32 := 0#32
  let c1_i32 : BitVec 32 := 1#32
  let arg13 : BitVec 32 := Scf.iv c0_i32_1 c1_i32 k0_t1
  let c256_i32_55 : BitVec 32 := 256#32
  let v177 : BitVec 32 := Scalar.muli arg13 c256_i32_55
  let v178 : BitVec 32 := Scalar.addi v177 c0_i32_56
  let v179 : BitVec 32 := Scalar.addi v178 c0_i32_57
  let v180 : BitVec 32 := v179
  let v181 : Index := Scalar.indexCast v180
  let c256 : Index := 256#32
  ![v181.toNat, 256]
def k0_mult11 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_58 : BitVec 32 := 256#32
  let v190 : BitVec 32 := Scalar.muli arg13 c256_i32_58
  let c0_i32_59 : BitVec 32 := 0#32
  let v191 : BitVec 32 := Scalar.addi v190 c0_i32_59
  let c16_i32_60 : BitVec 32 := 16#32
  let v192 : BitVec 32 := Scalar.addi v191 c16_i32_60
  v192
def k0_mult12 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_62 : BitVec 32 := 256#32
  let v203 : BitVec 32 := Scalar.muli arg13 c256_i32_62
  let c0_i32_63 : BitVec 32 := 0#32
  let v204 : BitVec 32 := Scalar.addi v203 c0_i32_63
  let c32_i32_64 : BitVec 32 := 32#32
  let v205 : BitVec 32 := Scalar.addi v204 c32_i32_64
  v205
def k0_mult13 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_66 : BitVec 32 := 256#32
  let v216 : BitVec 32 := Scalar.muli arg13 c256_i32_66
  let c0_i32_67 : BitVec 32 := 0#32
  let v217 : BitVec 32 := Scalar.addi v216 c0_i32_67
  let c48_i32_68 : BitVec 32 := 48#32
  let v218 : BitVec 32 := Scalar.addi v217 c48_i32_68
  v218
def k0_off8 (i : grid0.Coords) (k0_t1 : Fin k0_t1_loop.trips) (c0_i32_70 : BitVec 32) : Fin 3 → Nat :=
  let c3 : Index := 3#32
  let arg1 : BitVec 32 := BitVec.ofNat 32 (i 1).val
  let c32_i32 : BitVec 32 := 32#32
  let v26 : BitVec 32 := Scalar.muli arg1 c32_i32
  let c0_i32_1 : BitVec 32 := 0#32
  let c1_i32 : BitVec 32 := 1#32
  let arg13 : BitVec 32 := Scf.iv c0_i32_1 c1_i32 k0_t1
  let c4_i32 : BitVec 32 := 4#32
  let v27 : BitVec 32 := Scalar.muli arg13 c4_i32
  let v28 : BitVec 32 := Scalar.addi v26 v27
  let v224 : BitVec 32 := Scalar.addi v28 c0_i32_70
  let v225 : Index := Scalar.indexCast v224
  let c0_71 : Index := 0#32
  ![3, v225.toNat, 0]
def k0_mult14 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_75 : BitVec 32 := 256#32
  let v242 : BitVec 32 := Scalar.muli arg13 c256_i32_75
  let c0_i32_76 : BitVec 32 := 0#32
  let v243 : BitVec 32 := Scalar.addi v242 c0_i32_76
  let c0_i32_77 : BitVec 32 := 0#32
  let v244 : BitVec 32 := Scalar.addi v243 c0_i32_77
  v244
def k0_off9 (k0_t1 : Fin k0_t1_loop.trips) (c0_i32_76 : BitVec 32) (c0_i32_77 : BitVec 32) : Fin 2 → Nat :=
  let c0_i32_1 : BitVec 32 := 0#32
  let c1_i32 : BitVec 32 := 1#32
  let arg13 : BitVec 32 := Scf.iv c0_i32_1 c1_i32 k0_t1
  let c256_i32_75 : BitVec 32 := 256#32
  let v242 : BitVec 32 := Scalar.muli arg13 c256_i32_75
  let v243 : BitVec 32 := Scalar.addi v242 c0_i32_76
  let v244 : BitVec 32 := Scalar.addi v243 c0_i32_77
  let v245 : BitVec 32 := v244
  let v246 : Index := Scalar.indexCast v245
  let c384 : Index := 384#32
  ![v246.toNat, 384]
def k0_mult15 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_78 : BitVec 32 := 256#32
  let v255 : BitVec 32 := Scalar.muli arg13 c256_i32_78
  let c0_i32_79 : BitVec 32 := 0#32
  let v256 : BitVec 32 := Scalar.addi v255 c0_i32_79
  let c16_i32_80 : BitVec 32 := 16#32
  let v257 : BitVec 32 := Scalar.addi v256 c16_i32_80
  v257
def k0_mult16 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_82 : BitVec 32 := 256#32
  let v268 : BitVec 32 := Scalar.muli arg13 c256_i32_82
  let c0_i32_83 : BitVec 32 := 0#32
  let v269 : BitVec 32 := Scalar.addi v268 c0_i32_83
  let c32_i32_84 : BitVec 32 := 32#32
  let v270 : BitVec 32 := Scalar.addi v269 c32_i32_84
  v270
def k0_mult17 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_86 : BitVec 32 := 256#32
  let v281 : BitVec 32 := Scalar.muli arg13 c256_i32_86
  let c0_i32_87 : BitVec 32 := 0#32
  let v282 : BitVec 32 := Scalar.addi v281 c0_i32_87
  let c48_i32_88 : BitVec 32 := 48#32
  let v283 : BitVec 32 := Scalar.addi v282 c48_i32_88
  v283
def k0_mult18 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_97 : BitVec 32 := 256#32
  let v307 : BitVec 32 := Scalar.muli arg13 c256_i32_97
  let c64_i32 : BitVec 32 := 64#32
  let v308 : BitVec 32 := Scalar.addi v307 c64_i32
  let c0_i32_98 : BitVec 32 := 0#32
  let v309 : BitVec 32 := Scalar.addi v308 c0_i32_98
  v309
def k0_mult19 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_100 : BitVec 32 := 256#32
  let v320 : BitVec 32 := Scalar.muli arg13 c256_i32_100
  let c64_i32_101 : BitVec 32 := 64#32
  let v321 : BitVec 32 := Scalar.addi v320 c64_i32_101
  let c16_i32_102 : BitVec 32 := 16#32
  let v322 : BitVec 32 := Scalar.addi v321 c16_i32_102
  v322
def k0_mult20 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_104 : BitVec 32 := 256#32
  let v333 : BitVec 32 := Scalar.muli arg13 c256_i32_104
  let c64_i32_105 : BitVec 32 := 64#32
  let v334 : BitVec 32 := Scalar.addi v333 c64_i32_105
  let c32_i32_106 : BitVec 32 := 32#32
  let v335 : BitVec 32 := Scalar.addi v334 c32_i32_106
  v335
def k0_mult21 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_108 : BitVec 32 := 256#32
  let v346 : BitVec 32 := Scalar.muli arg13 c256_i32_108
  let c64_i32_109 : BitVec 32 := 64#32
  let v347 : BitVec 32 := Scalar.addi v346 c64_i32_109
  let c48_i32_110 : BitVec 32 := 48#32
  let v348 : BitVec 32 := Scalar.addi v347 c48_i32_110
  v348
def k0_mult22 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_119 : BitVec 32 := 256#32
  let v372 : BitVec 32 := Scalar.muli arg13 c256_i32_119
  let c64_i32_120 : BitVec 32 := 64#32
  let v373 : BitVec 32 := Scalar.addi v372 c64_i32_120
  let c0_i32_121 : BitVec 32 := 0#32
  let v374 : BitVec 32 := Scalar.addi v373 c0_i32_121
  v374
def k0_mult23 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_123 : BitVec 32 := 256#32
  let v385 : BitVec 32 := Scalar.muli arg13 c256_i32_123
  let c64_i32_124 : BitVec 32 := 64#32
  let v386 : BitVec 32 := Scalar.addi v385 c64_i32_124
  let c16_i32_125 : BitVec 32 := 16#32
  let v387 : BitVec 32 := Scalar.addi v386 c16_i32_125
  v387
def k0_mult24 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_127 : BitVec 32 := 256#32
  let v398 : BitVec 32 := Scalar.muli arg13 c256_i32_127
  let c64_i32_128 : BitVec 32 := 64#32
  let v399 : BitVec 32 := Scalar.addi v398 c64_i32_128
  let c32_i32_129 : BitVec 32 := 32#32
  let v400 : BitVec 32 := Scalar.addi v399 c32_i32_129
  v400
def k0_mult25 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_131 : BitVec 32 := 256#32
  let v411 : BitVec 32 := Scalar.muli arg13 c256_i32_131
  let c64_i32_132 : BitVec 32 := 64#32
  let v412 : BitVec 32 := Scalar.addi v411 c64_i32_132
  let c48_i32_133 : BitVec 32 := 48#32
  let v413 : BitVec 32 := Scalar.addi v412 c48_i32_133
  v413
def k0_mult26 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_142 : BitVec 32 := 256#32
  let v437 : BitVec 32 := Scalar.muli arg13 c256_i32_142
  let c64_i32_143 : BitVec 32 := 64#32
  let v438 : BitVec 32 := Scalar.addi v437 c64_i32_143
  let c0_i32_144 : BitVec 32 := 0#32
  let v439 : BitVec 32 := Scalar.addi v438 c0_i32_144
  v439
def k0_mult27 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_146 : BitVec 32 := 256#32
  let v450 : BitVec 32 := Scalar.muli arg13 c256_i32_146
  let c64_i32_147 : BitVec 32 := 64#32
  let v451 : BitVec 32 := Scalar.addi v450 c64_i32_147
  let c16_i32_148 : BitVec 32 := 16#32
  let v452 : BitVec 32 := Scalar.addi v451 c16_i32_148
  v452
def k0_mult28 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_150 : BitVec 32 := 256#32
  let v463 : BitVec 32 := Scalar.muli arg13 c256_i32_150
  let c64_i32_151 : BitVec 32 := 64#32
  let v464 : BitVec 32 := Scalar.addi v463 c64_i32_151
  let c32_i32_152 : BitVec 32 := 32#32
  let v465 : BitVec 32 := Scalar.addi v464 c32_i32_152
  v465
def k0_mult29 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_154 : BitVec 32 := 256#32
  let v476 : BitVec 32 := Scalar.muli arg13 c256_i32_154
  let c64_i32_155 : BitVec 32 := 64#32
  let v477 : BitVec 32 := Scalar.addi v476 c64_i32_155
  let c48_i32_156 : BitVec 32 := 48#32
  let v478 : BitVec 32 := Scalar.addi v477 c48_i32_156
  v478
def k0_mult30 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_165 : BitVec 32 := 256#32
  let v502 : BitVec 32 := Scalar.muli arg13 c256_i32_165
  let c64_i32_166 : BitVec 32 := 64#32
  let v503 : BitVec 32 := Scalar.addi v502 c64_i32_166
  let c0_i32_167 : BitVec 32 := 0#32
  let v504 : BitVec 32 := Scalar.addi v503 c0_i32_167
  v504
def k0_mult31 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_169 : BitVec 32 := 256#32
  let v515 : BitVec 32 := Scalar.muli arg13 c256_i32_169
  let c64_i32_170 : BitVec 32 := 64#32
  let v516 : BitVec 32 := Scalar.addi v515 c64_i32_170
  let c16_i32_171 : BitVec 32 := 16#32
  let v517 : BitVec 32 := Scalar.addi v516 c16_i32_171
  v517
def k0_mult32 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_173 : BitVec 32 := 256#32
  let v528 : BitVec 32 := Scalar.muli arg13 c256_i32_173
  let c64_i32_174 : BitVec 32 := 64#32
  let v529 : BitVec 32 := Scalar.addi v528 c64_i32_174
  let c32_i32_175 : BitVec 32 := 32#32
  let v530 : BitVec 32 := Scalar.addi v529 c32_i32_175
  v530
def k0_mult33 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_177 : BitVec 32 := 256#32
  let v541 : BitVec 32 := Scalar.muli arg13 c256_i32_177
  let c64_i32_178 : BitVec 32 := 64#32
  let v542 : BitVec 32 := Scalar.addi v541 c64_i32_178
  let c48_i32_179 : BitVec 32 := 48#32
  let v543 : BitVec 32 := Scalar.addi v542 c48_i32_179
  v543
def k0_mult34 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_187 : BitVec 32 := 256#32
  let v567 : BitVec 32 := Scalar.muli arg13 c256_i32_187
  let c128_i32 : BitVec 32 := 128#32
  let v568 : BitVec 32 := Scalar.addi v567 c128_i32
  let c0_i32_188 : BitVec 32 := 0#32
  let v569 : BitVec 32 := Scalar.addi v568 c0_i32_188
  v569
def k0_mult35 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_190 : BitVec 32 := 256#32
  let v580 : BitVec 32 := Scalar.muli arg13 c256_i32_190
  let c128_i32_191 : BitVec 32 := 128#32
  let v581 : BitVec 32 := Scalar.addi v580 c128_i32_191
  let c16_i32_192 : BitVec 32 := 16#32
  let v582 : BitVec 32 := Scalar.addi v581 c16_i32_192
  v582
def k0_mult36 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_194 : BitVec 32 := 256#32
  let v593 : BitVec 32 := Scalar.muli arg13 c256_i32_194
  let c128_i32_195 : BitVec 32 := 128#32
  let v594 : BitVec 32 := Scalar.addi v593 c128_i32_195
  let c32_i32_196 : BitVec 32 := 32#32
  let v595 : BitVec 32 := Scalar.addi v594 c32_i32_196
  v595
def k0_mult37 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_198 : BitVec 32 := 256#32
  let v606 : BitVec 32 := Scalar.muli arg13 c256_i32_198
  let c128_i32_199 : BitVec 32 := 128#32
  let v607 : BitVec 32 := Scalar.addi v606 c128_i32_199
  let c48_i32_200 : BitVec 32 := 48#32
  let v608 : BitVec 32 := Scalar.addi v607 c48_i32_200
  v608
def k0_mult38 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_209 : BitVec 32 := 256#32
  let v632 : BitVec 32 := Scalar.muli arg13 c256_i32_209
  let c128_i32_210 : BitVec 32 := 128#32
  let v633 : BitVec 32 := Scalar.addi v632 c128_i32_210
  let c0_i32_211 : BitVec 32 := 0#32
  let v634 : BitVec 32 := Scalar.addi v633 c0_i32_211
  v634
def k0_mult39 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_213 : BitVec 32 := 256#32
  let v645 : BitVec 32 := Scalar.muli arg13 c256_i32_213
  let c128_i32_214 : BitVec 32 := 128#32
  let v646 : BitVec 32 := Scalar.addi v645 c128_i32_214
  let c16_i32_215 : BitVec 32 := 16#32
  let v647 : BitVec 32 := Scalar.addi v646 c16_i32_215
  v647
def k0_mult40 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_217 : BitVec 32 := 256#32
  let v658 : BitVec 32 := Scalar.muli arg13 c256_i32_217
  let c128_i32_218 : BitVec 32 := 128#32
  let v659 : BitVec 32 := Scalar.addi v658 c128_i32_218
  let c32_i32_219 : BitVec 32 := 32#32
  let v660 : BitVec 32 := Scalar.addi v659 c32_i32_219
  v660
def k0_mult41 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_221 : BitVec 32 := 256#32
  let v671 : BitVec 32 := Scalar.muli arg13 c256_i32_221
  let c128_i32_222 : BitVec 32 := 128#32
  let v672 : BitVec 32 := Scalar.addi v671 c128_i32_222
  let c48_i32_223 : BitVec 32 := 48#32
  let v673 : BitVec 32 := Scalar.addi v672 c48_i32_223
  v673
def k0_mult42 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_232 : BitVec 32 := 256#32
  let v697 : BitVec 32 := Scalar.muli arg13 c256_i32_232
  let c128_i32_233 : BitVec 32 := 128#32
  let v698 : BitVec 32 := Scalar.addi v697 c128_i32_233
  let c0_i32_234 : BitVec 32 := 0#32
  let v699 : BitVec 32 := Scalar.addi v698 c0_i32_234
  v699
def k0_mult43 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_236 : BitVec 32 := 256#32
  let v710 : BitVec 32 := Scalar.muli arg13 c256_i32_236
  let c128_i32_237 : BitVec 32 := 128#32
  let v711 : BitVec 32 := Scalar.addi v710 c128_i32_237
  let c16_i32_238 : BitVec 32 := 16#32
  let v712 : BitVec 32 := Scalar.addi v711 c16_i32_238
  v712
def k0_mult44 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_240 : BitVec 32 := 256#32
  let v723 : BitVec 32 := Scalar.muli arg13 c256_i32_240
  let c128_i32_241 : BitVec 32 := 128#32
  let v724 : BitVec 32 := Scalar.addi v723 c128_i32_241
  let c32_i32_242 : BitVec 32 := 32#32
  let v725 : BitVec 32 := Scalar.addi v724 c32_i32_242
  v725
def k0_mult45 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_244 : BitVec 32 := 256#32
  let v736 : BitVec 32 := Scalar.muli arg13 c256_i32_244
  let c128_i32_245 : BitVec 32 := 128#32
  let v737 : BitVec 32 := Scalar.addi v736 c128_i32_245
  let c48_i32_246 : BitVec 32 := 48#32
  let v738 : BitVec 32 := Scalar.addi v737 c48_i32_246
  v738
def k0_mult46 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_255 : BitVec 32 := 256#32
  let v762 : BitVec 32 := Scalar.muli arg13 c256_i32_255
  let c128_i32_256 : BitVec 32 := 128#32
  let v763 : BitVec 32 := Scalar.addi v762 c128_i32_256
  let c0_i32_257 : BitVec 32 := 0#32
  let v764 : BitVec 32 := Scalar.addi v763 c0_i32_257
  v764
def k0_mult47 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_259 : BitVec 32 := 256#32
  let v775 : BitVec 32 := Scalar.muli arg13 c256_i32_259
  let c128_i32_260 : BitVec 32 := 128#32
  let v776 : BitVec 32 := Scalar.addi v775 c128_i32_260
  let c16_i32_261 : BitVec 32 := 16#32
  let v777 : BitVec 32 := Scalar.addi v776 c16_i32_261
  v777
def k0_mult48 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_263 : BitVec 32 := 256#32
  let v788 : BitVec 32 := Scalar.muli arg13 c256_i32_263
  let c128_i32_264 : BitVec 32 := 128#32
  let v789 : BitVec 32 := Scalar.addi v788 c128_i32_264
  let c32_i32_265 : BitVec 32 := 32#32
  let v790 : BitVec 32 := Scalar.addi v789 c32_i32_265
  v790
def k0_mult49 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_267 : BitVec 32 := 256#32
  let v801 : BitVec 32 := Scalar.muli arg13 c256_i32_267
  let c128_i32_268 : BitVec 32 := 128#32
  let v802 : BitVec 32 := Scalar.addi v801 c128_i32_268
  let c48_i32_269 : BitVec 32 := 48#32
  let v803 : BitVec 32 := Scalar.addi v802 c48_i32_269
  v803
def k0_mult50 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_277 : BitVec 32 := 256#32
  let v827 : BitVec 32 := Scalar.muli arg13 c256_i32_277
  let c192_i32 : BitVec 32 := 192#32
  let v828 : BitVec 32 := Scalar.addi v827 c192_i32
  let c0_i32_278 : BitVec 32 := 0#32
  let v829 : BitVec 32 := Scalar.addi v828 c0_i32_278
  v829
def k0_mult51 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_280 : BitVec 32 := 256#32
  let v840 : BitVec 32 := Scalar.muli arg13 c256_i32_280
  let c192_i32_281 : BitVec 32 := 192#32
  let v841 : BitVec 32 := Scalar.addi v840 c192_i32_281
  let c16_i32_282 : BitVec 32 := 16#32
  let v842 : BitVec 32 := Scalar.addi v841 c16_i32_282
  v842
def k0_mult52 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_284 : BitVec 32 := 256#32
  let v853 : BitVec 32 := Scalar.muli arg13 c256_i32_284
  let c192_i32_285 : BitVec 32 := 192#32
  let v854 : BitVec 32 := Scalar.addi v853 c192_i32_285
  let c32_i32_286 : BitVec 32 := 32#32
  let v855 : BitVec 32 := Scalar.addi v854 c32_i32_286
  v855
def k0_mult53 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_288 : BitVec 32 := 256#32
  let v866 : BitVec 32 := Scalar.muli arg13 c256_i32_288
  let c192_i32_289 : BitVec 32 := 192#32
  let v867 : BitVec 32 := Scalar.addi v866 c192_i32_289
  let c48_i32_290 : BitVec 32 := 48#32
  let v868 : BitVec 32 := Scalar.addi v867 c48_i32_290
  v868
def k0_mult54 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_299 : BitVec 32 := 256#32
  let v892 : BitVec 32 := Scalar.muli arg13 c256_i32_299
  let c192_i32_300 : BitVec 32 := 192#32
  let v893 : BitVec 32 := Scalar.addi v892 c192_i32_300
  let c0_i32_301 : BitVec 32 := 0#32
  let v894 : BitVec 32 := Scalar.addi v893 c0_i32_301
  v894
def k0_mult55 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_303 : BitVec 32 := 256#32
  let v905 : BitVec 32 := Scalar.muli arg13 c256_i32_303
  let c192_i32_304 : BitVec 32 := 192#32
  let v906 : BitVec 32 := Scalar.addi v905 c192_i32_304
  let c16_i32_305 : BitVec 32 := 16#32
  let v907 : BitVec 32 := Scalar.addi v906 c16_i32_305
  v907
def k0_mult56 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_307 : BitVec 32 := 256#32
  let v918 : BitVec 32 := Scalar.muli arg13 c256_i32_307
  let c192_i32_308 : BitVec 32 := 192#32
  let v919 : BitVec 32 := Scalar.addi v918 c192_i32_308
  let c32_i32_309 : BitVec 32 := 32#32
  let v920 : BitVec 32 := Scalar.addi v919 c32_i32_309
  v920
def k0_mult57 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_311 : BitVec 32 := 256#32
  let v931 : BitVec 32 := Scalar.muli arg13 c256_i32_311
  let c192_i32_312 : BitVec 32 := 192#32
  let v932 : BitVec 32 := Scalar.addi v931 c192_i32_312
  let c48_i32_313 : BitVec 32 := 48#32
  let v933 : BitVec 32 := Scalar.addi v932 c48_i32_313
  v933
def k0_mult58 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_322 : BitVec 32 := 256#32
  let v957 : BitVec 32 := Scalar.muli arg13 c256_i32_322
  let c192_i32_323 : BitVec 32 := 192#32
  let v958 : BitVec 32 := Scalar.addi v957 c192_i32_323
  let c0_i32_324 : BitVec 32 := 0#32
  let v959 : BitVec 32 := Scalar.addi v958 c0_i32_324
  v959
def k0_mult59 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_326 : BitVec 32 := 256#32
  let v970 : BitVec 32 := Scalar.muli arg13 c256_i32_326
  let c192_i32_327 : BitVec 32 := 192#32
  let v971 : BitVec 32 := Scalar.addi v970 c192_i32_327
  let c16_i32_328 : BitVec 32 := 16#32
  let v972 : BitVec 32 := Scalar.addi v971 c16_i32_328
  v972
def k0_mult60 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_330 : BitVec 32 := 256#32
  let v983 : BitVec 32 := Scalar.muli arg13 c256_i32_330
  let c192_i32_331 : BitVec 32 := 192#32
  let v984 : BitVec 32 := Scalar.addi v983 c192_i32_331
  let c32_i32_332 : BitVec 32 := 32#32
  let v985 : BitVec 32 := Scalar.addi v984 c32_i32_332
  v985
def k0_mult61 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_334 : BitVec 32 := 256#32
  let v996 : BitVec 32 := Scalar.muli arg13 c256_i32_334
  let c192_i32_335 : BitVec 32 := 192#32
  let v997 : BitVec 32 := Scalar.addi v996 c192_i32_335
  let c48_i32_336 : BitVec 32 := 48#32
  let v998 : BitVec 32 := Scalar.addi v997 c48_i32_336
  v998
def k0_mult62 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_345 : BitVec 32 := 256#32
  let v1022 : BitVec 32 := Scalar.muli arg13 c256_i32_345
  let c192_i32_346 : BitVec 32 := 192#32
  let v1023 : BitVec 32 := Scalar.addi v1022 c192_i32_346
  let c0_i32_347 : BitVec 32 := 0#32
  let v1024 : BitVec 32 := Scalar.addi v1023 c0_i32_347
  v1024
def k0_mult63 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_349 : BitVec 32 := 256#32
  let v1035 : BitVec 32 := Scalar.muli arg13 c256_i32_349
  let c192_i32_350 : BitVec 32 := 192#32
  let v1036 : BitVec 32 := Scalar.addi v1035 c192_i32_350
  let c16_i32_351 : BitVec 32 := 16#32
  let v1037 : BitVec 32 := Scalar.addi v1036 c16_i32_351
  v1037
def k0_mult64 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_353 : BitVec 32 := 256#32
  let v1048 : BitVec 32 := Scalar.muli arg13 c256_i32_353
  let c192_i32_354 : BitVec 32 := 192#32
  let v1049 : BitVec 32 := Scalar.addi v1048 c192_i32_354
  let c32_i32_355 : BitVec 32 := 32#32
  let v1050 : BitVec 32 := Scalar.addi v1049 c32_i32_355
  v1050
def k0_mult65 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32_357 : BitVec 32 := 256#32
  let v1061 : BitVec 32 := Scalar.muli arg13 c256_i32_357
  let c192_i32_358 : BitVec 32 := 192#32
  let v1062 : BitVec 32 := Scalar.addi v1061 c192_i32_358
  let c48_i32_359 : BitVec 32 := 48#32
  let v1063 : BitVec 32 := Scalar.addi v1062 c48_i32_359
  v1063
def k0_mult66 (i : grid0.Coords) : BitVec 32 :=
  let arg1 : BitVec 32 := BitVec.ofNat 32 (i 1).val
  let c2048_i32 : BitVec 32 := 2048#32
  let v4 : BitVec 32 := Scalar.muli arg1 c2048_i32
  v4
def k0_off10 (i : grid0.Coords) : Fin 2 → Nat :=
  let c0 : Index := 0#32
  let arg1 : BitVec 32 := BitVec.ofNat 32 (i 1).val
  let c2048_i32 : BitVec 32 := 2048#32
  let v4 : BitVec 32 := Scalar.muli arg1 c2048_i32
  let v5 : BitVec 32 := v4
  let v6 : Index := Scalar.indexCast v5
  ![0, v6.toNat]
def k0_cond4 (i : grid0.Coords) : BitVec 1 :=
  let arg1 : BitVec 32 := BitVec.ofNat 32 (i 1).val
  let c6_i32 : BitVec 32 := 6#32
  let v16 : BitVec 1 := Scalar.cmpi .eq arg1 c6_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
abbrev S2x256x2x128 : Shape := ⟨4, ![2, 256, 2, 128]⟩
abbrev S2x256x1x128 : Shape := ⟨4, ![2, 256, 1, 128]⟩
abbrev S1x128x2x128 : Shape := ⟨4, ![1, 128, 2, 128]⟩
abbrev S1x128x1x128 : Shape := ⟨4, ![1, 128, 1, 128]⟩
abbrev S1x256x2x128 : Shape := ⟨4, ![1, 256, 2, 128]⟩
abbrev S1x256x1x128 : Shape := ⟨4, ![1, 256, 1, 128]⟩
  | .local _ .vmem, ⟨14, _⟩ => ⟨S2x256x2x128, .bf16⟩
variable {F : FTy → Type} [FloatOps F]
-- ==== ReferenceIdeal.lean ====
abbrev S256x14336 : Shape := ⟨2, ![256, 14336]⟩
abbrev S2048x14336 : Shape := ⟨2, ![2048, 14336]⟩
abbrev S4096x224 : Shape := ⟨2, ![4096, 224]⟩
abbrev S4096 : Shape := ⟨1, ![4096]⟩
abbrev S_ : Shape := ⟨0, ![]⟩
abbrev S2048x224 : Shape := ⟨2, ![2048, 224]⟩
abbrev S2048x224x64 : Shape := ⟨3, ![2048, 224, 64]⟩
abbrev S2048x224x1 : Shape := ⟨3, ![2048, 224, 1]⟩
abbrev S256x2048 : Shape := ⟨2, ![256, 2048]⟩
abbrev S256x2048x1 : Shape := ⟨3, ![256, 2048, 1]⟩
abbrev S256x2048x2 : Shape := ⟨3, ![256, 2048, 2]⟩
abbrev S256x4096 : Shape := ⟨2, ![256, 4096]⟩
abbrev S1x4096 : Shape := ⟨2, ![1, 4096]⟩

abbrev nBuf : Space → Nat
  | .hbm => 399
  | .vmem => 0
  | .smem => 0
  | _ => 0

abbrev hbmTy0_0 (i : Nat) : BufTy := match i % 128 with
  | 0 => ⟨S256x14336, .bf16⟩
  | 1 => ⟨S2048x14336, .i8⟩
  | 2 => ⟨S4096x224, .f32⟩
  | 3 => ⟨S4096, .f32⟩
  | 4 => ⟨S2048x14336, .i32⟩
  | 5 => ⟨S_, .i32⟩
  | 6 => ⟨S2048x14336, .i32⟩
  | 7 => ⟨S2048x14336, .i32⟩
  | 8 => ⟨S2048x224, .f32⟩
  | 9 => ⟨S2048x224x64, .i32⟩
  | 10 => ⟨S_, .i32⟩
  | 11 => ⟨S2048x224x64, .i32⟩
  | 12 => ⟨S2048x224x64, .i32⟩
  | 13 => ⟨S_, .i32⟩
  | 14 => ⟨S2048x224x64, .i32⟩
  | 15 => ⟨S2048x224x64, .i32⟩
  | 16 => ⟨S_, .i32⟩
  | 17 => ⟨S2048x224x64, .i32⟩
  | 18 => ⟨S2048x224x64, .i1⟩
  | 19 => ⟨S_, .i32⟩
  | 20 => ⟨S2048x224x64, .i32⟩
  | 21 => ⟨S2048x224x64, .i32⟩
  | 22 => ⟨S_, .i32⟩
  | 23 => ⟨S2048x224x64, .i32⟩
  | 24 => ⟨S2048x224x64, .i32⟩
  | 25 => ⟨S_, .i32⟩
  | 26 => ⟨S2048x224x64, .i32⟩
  | 27 => ⟨S2048x224x64, .i1⟩
  | 28 => ⟨S_, .i32⟩
  | 29 => ⟨S2048x224x64, .i32⟩
  | 30 => ⟨S2048x224x64, .i32⟩
  | 31 => ⟨S_, .i32⟩
  | 32 => ⟨S2048x224x64, .i32⟩
  | 33 => ⟨S2048x224x64, .i32⟩
  | 34 => ⟨S_, .i32⟩
  | 35 => ⟨S2048x224x64, .i32⟩
  | 36 => ⟨S2048x224x64, .i1⟩
  | 37 => ⟨S_, .i32⟩
  | 38 => ⟨S2048x224x64, .i32⟩
  | 39 => ⟨S2048x224x64, .i32⟩
  | 40 => ⟨S_, .i32⟩
  | 41 => ⟨S2048x224x64, .i32⟩
  | 42 => ⟨S2048x224x64, .i32⟩
  | 43 => ⟨S_, .i32⟩
  | 44 => ⟨S2048x224x64, .i32⟩
  | 45 => ⟨S2048x224x64, .i1⟩
  | 46 => ⟨S_, .f32⟩
  | 47 => ⟨S_, .f32⟩
  | 48 => ⟨S2048x224x64, .f32⟩
  | 49 => ⟨S2048x224x64, .f32⟩
  | 50 => ⟨S2048x224x64, .f32⟩
  | 51 => ⟨S_, .i32⟩
  | 52 => ⟨S2048x224x64, .i32⟩
  | 53 => ⟨S2048x224x64, .i32⟩
  | 54 => ⟨S_, .i32⟩
  | 55 => ⟨S2048x224x64, .i32⟩
  | 56 => ⟨S2048x224x64, .i32⟩
  | 57 => ⟨S_, .i32⟩
  | 58 => ⟨S2048x224x64, .i32⟩
  | 59 => ⟨S2048x224x64, .i1⟩
  | 60 => ⟨S_, .f32⟩
  | 61 => ⟨S_, .f32⟩
  | 62 => ⟨S2048x224x64, .f32⟩
  | 63 => ⟨S2048x224x64, .f32⟩
  | 64 => ⟨S2048x224x64, .f32⟩
  | 65 => ⟨S2048x224x64, .f32⟩
  | 66 => ⟨S_, .i32⟩
  | 67 => ⟨S2048x224x64, .i32⟩
  | 68 => ⟨S2048x224x64, .i32⟩
  | 69 => ⟨S_, .i32⟩
  | 70 => ⟨S2048x224x64, .i32⟩
  | 71 => ⟨S2048x224x64, .i32⟩
  | 72 => ⟨S_, .i32⟩
  | 73 => ⟨S2048x224x64, .i32⟩
  | 74 => ⟨S2048x224x64, .i1⟩
  | 75 => ⟨S_, .i32⟩
  | 76 => ⟨S2048x224x64, .i32⟩
  | 77 => ⟨S2048x224x64, .i32⟩
  | 78 => ⟨S_, .i32⟩
  | 79 => ⟨S2048x224x64, .i32⟩
  | 80 => ⟨S2048x224x64, .i32⟩
  | 81 => ⟨S_, .i32⟩
  | 82 => ⟨S2048x224x64, .i32⟩
  | 83 => ⟨S2048x224x64, .i1⟩
  | 84 => ⟨S_, .f32⟩
  | 85 => ⟨S_, .f32⟩
  | 86 => ⟨S2048x224x64, .f32⟩
  | 87 => ⟨S2048x224x64, .f32⟩
  | 88 => ⟨S2048x224x64, .f32⟩
  | 89 => ⟨S_, .i32⟩
  | 90 => ⟨S2048x224x64, .i32⟩
  | 91 => ⟨S2048x224x64, .i32⟩
  | 92 => ⟨S_, .i32⟩
  | 93 => ⟨S2048x224x64, .i32⟩
  | 94 => ⟨S2048x224x64, .i32⟩
  | 95 => ⟨S_, .i32⟩
  | 96 => ⟨S2048x224x64, .i32⟩
  | 97 => ⟨S2048x224x64, .i1⟩
  | 98 => ⟨S_, .f32⟩
  | 99 => ⟨S_, .f32⟩
  | 100 => ⟨S2048x224x64, .f32⟩
  | 101 => ⟨S2048x224x64, .f32⟩
  | 102 => ⟨S2048x224x64, .f32⟩
  | 103 => ⟨S2048x224x64, .f32⟩
  | 104 => ⟨S2048x224x64, .f32⟩
  | 105 => ⟨S_, .i32⟩
  | 106 => ⟨S2048x224x64, .i32⟩
  | 107 => ⟨S2048x224x64, .i32⟩
  | 108 => ⟨S_, .i32⟩
  | 109 => ⟨S2048x224x64, .i32⟩
  | 110 => ⟨S2048x224x64, .i32⟩
  | 111 => ⟨S_, .i32⟩
  | 112 => ⟨S2048x224x64, .i32⟩
  | 113 => ⟨S2048x224x64, .i1⟩
  | 114 => ⟨S_, .i32⟩
  | 115 => ⟨S2048x224x64, .i32⟩
  | 116 => ⟨S2048x224x64, .i32⟩
  | 117 => ⟨S_, .i32⟩
  | 118 => ⟨S2048x224x64, .i32⟩
  | 119 => ⟨S2048x224x64, .i32⟩
  | 120 => ⟨S_, .i32⟩
  | 121 => ⟨S2048x224x64, .i32⟩
  | 122 => ⟨S2048x224x64, .i1⟩
  | 123 => ⟨S_, .i32⟩
  | 124 => ⟨S2048x224x64, .i32⟩
  | 125 => ⟨S2048x224x64, .i32⟩
  | 126 => ⟨S_, .i32⟩
  | 127 => ⟨S2048x224x64, .i32⟩
  | _ => ⟨S256x14336, .bf16⟩

abbrev hbmTy0_1 (i : Nat) : BufTy := match i % 128 with
  | 0 => ⟨S2048x224x64, .i32⟩
  | 1 => ⟨S_, .i32⟩
  | 2 => ⟨S2048x224x64, .i32⟩
  | 3 => ⟨S2048x224x64, .i1⟩
  | 4 => ⟨S_, .f32⟩
  | 5 => ⟨S_, .f32⟩
  | 6 => ⟨S2048x224x64, .f32⟩
  | 7 => ⟨S2048x224x64, .f32⟩
  | 8 => ⟨S2048x224x64, .f32⟩
  | 9 => ⟨S_, .i32⟩
  | 10 => ⟨S2048x224x64, .i32⟩
  | 11 => ⟨S2048x224x64, .i32⟩
  | 12 => ⟨S_, .i32⟩
  | 13 => ⟨S2048x224x64, .i32⟩
  | 14 => ⟨S2048x224x64, .i32⟩
  | 15 => ⟨S_, .i32⟩
  | 16 => ⟨S2048x224x64, .i32⟩
  | 17 => ⟨S2048x224x64, .i1⟩
  | 18 => ⟨S_, .f32⟩
  | 19 => ⟨S_, .f32⟩
  | 20 => ⟨S2048x224x64, .f32⟩
  | 21 => ⟨S2048x224x64, .f32⟩
  | 22 => ⟨S2048x224x64, .f32⟩
  | 23 => ⟨S2048x224x64, .f32⟩
  | 24 => ⟨S_, .i32⟩
  | 25 => ⟨S2048x224x64, .i32⟩
  | 26 => ⟨S2048x224x64, .i32⟩
  | 27 => ⟨S_, .i32⟩
  | 28 => ⟨S2048x224x64, .i32⟩
  | 29 => ⟨S2048x224x64, .i32⟩
  | 30 => ⟨S_, .i32⟩
  | 31 => ⟨S2048x224x64, .i32⟩
  | 32 => ⟨S2048x224x64, .i1⟩
  | 33 => ⟨S_, .i32⟩
  | 34 => ⟨S2048x224x64, .i32⟩
  | 35 => ⟨S2048x224x64, .i32⟩
  | 36 => ⟨S_, .i32⟩
  | 37 => ⟨S2048x224x64, .i32⟩
  | 38 => ⟨S2048x224x64, .i32⟩
  | 39 => ⟨S_, .i32⟩
  | 40 => ⟨S2048x224x64, .i32⟩
  | 41 => ⟨S2048x224x64, .i1⟩
  | 42 => ⟨S_, .f32⟩
  | 43 => ⟨S_, .f32⟩
  | 44 => ⟨S2048x224x64, .f32⟩
  | 45 => ⟨S2048x224x64, .f32⟩
  | 46 => ⟨S2048x224x64, .f32⟩
  | 47 => ⟨S_, .i32⟩
  | 48 => ⟨S2048x224x64, .i32⟩
  | 49 => ⟨S2048x224x64, .i32⟩
  | 50 => ⟨S_, .i32⟩
  | 51 => ⟨S2048x224x64, .i32⟩
  | 52 => ⟨S2048x224x64, .i32⟩
  | 53 => ⟨S_, .i32⟩
  | 54 => ⟨S2048x224x64, .i32⟩
  | 55 => ⟨S2048x224x64, .i1⟩
  | 56 => ⟨S_, .f32⟩
  | 57 => ⟨S_, .f32⟩
  | 58 => ⟨S2048x224x64, .f32⟩
  | 59 => ⟨S2048x224x64, .f32⟩
  | 60 => ⟨S2048x224x64, .f32⟩
  | 61 => ⟨S2048x224x64, .f32⟩
  | 62 => ⟨S2048x224x64, .f32⟩
  | 63 => ⟨S2048x224x64, .f32⟩
  | 64 => ⟨S2048x224x1, .f32⟩
  | 65 => ⟨S2048x224x64, .f32⟩
  | 66 => ⟨S2048x224x64, .f32⟩
  | 67 => ⟨S2048x14336, .f32⟩
  | 68 => ⟨S2048x14336, .bf16⟩
  | 69 => ⟨S_, .i32⟩
  | 70 => ⟨S2048x14336, .i32⟩
  | 71 => ⟨S2048x14336, .i32⟩
  | 72 => ⟨S2048x224, .f32⟩
  | 73 => ⟨S2048x224x64, .i32⟩
  | 74 => ⟨S_, .i32⟩
  | 75 => ⟨S2048x224x64, .i32⟩
  | 76 => ⟨S2048x224x64, .i32⟩
  | 77 => ⟨S_, .i32⟩
  | 78 => ⟨S2048x224x64, .i32⟩
  | 79 => ⟨S2048x224x64, .i32⟩
  | 80 => ⟨S_, .i32⟩
  | 81 => ⟨S2048x224x64, .i32⟩
  | 82 => ⟨S2048x224x64, .i1⟩
  | 83 => ⟨S_, .i32⟩
  | 84 => ⟨S2048x224x64, .i32⟩
  | 85 => ⟨S2048x224x64, .i32⟩
  | 86 => ⟨S_, .i32⟩
  | 87 => ⟨S2048x224x64, .i32⟩
  | 88 => ⟨S2048x224x64, .i32⟩
  | 89 => ⟨S_, .i32⟩
  | 90 => ⟨S2048x224x64, .i32⟩
  | 91 => ⟨S2048x224x64, .i1⟩
  | 92 => ⟨S_, .i32⟩
  | 93 => ⟨S2048x224x64, .i32⟩
  | 94 => ⟨S2048x224x64, .i32⟩
  | 95 => ⟨S_, .i32⟩
  | 96 => ⟨S2048x224x64, .i32⟩
  | 97 => ⟨S2048x224x64, .i32⟩
  | 98 => ⟨S_, .i32⟩
  | 99 => ⟨S2048x224x64, .i32⟩
  | 100 => ⟨S2048x224x64, .i1⟩
  | 101 => ⟨S_, .i32⟩
  | 102 => ⟨S2048x224x64, .i32⟩
  | 103 => ⟨S2048x224x64, .i32⟩
  | 104 => ⟨S_, .i32⟩
  | 105 => ⟨S2048x224x64, .i32⟩
  | 106 => ⟨S2048x224x64, .i32⟩
  | 107 => ⟨S_, .i32⟩
  | 108 => ⟨S2048x224x64, .i32⟩
  | 109 => ⟨S2048x224x64, .i1⟩
  | 110 => ⟨S_, .f32⟩
  | 111 => ⟨S_, .f32⟩
  | 112 => ⟨S2048x224x64, .f32⟩
  | 113 => ⟨S2048x224x64, .f32⟩
  | 114 => ⟨S2048x224x64, .f32⟩
  | 115 => ⟨S_, .i32⟩
  | 116 => ⟨S2048x224x64, .i32⟩
  | 117 => ⟨S2048x224x64, .i32⟩
  | 118 => ⟨S_, .i32⟩
  | 119 => ⟨S2048x224x64, .i32⟩
  | 120 => ⟨S2048x224x64, .i32⟩
  | 121 => ⟨S_, .i32⟩
  | 122 => ⟨S2048x224x64, .i32⟩
  | 123 => ⟨S2048x224x64, .i1⟩
  | 124 => ⟨S_, .f32⟩
  | 125 => ⟨S_, .f32⟩
  | 126 => ⟨S2048x224x64, .f32⟩
  | 127 => ⟨S2048x224x64, .f32⟩
  | _ => ⟨S256x14336, .bf16⟩

abbrev hbmTy0_2 (i : Nat) : BufTy := match i % 128 with
  | 0 => ⟨S2048x224x64, .f32⟩
  | 1 => ⟨S2048x224x64, .f32⟩
  | 2 => ⟨S_, .i32⟩
  | 3 => ⟨S2048x224x64, .i32⟩
  | 4 => ⟨S2048x224x64, .i32⟩
  | 5 => ⟨S_, .i32⟩
  | 6 => ⟨S2048x224x64, .i32⟩
  | 7 => ⟨S2048x224x64, .i32⟩
  | 8 => ⟨S_, .i32⟩
  | 9 => ⟨S2048x224x64, .i32⟩
  | 10 => ⟨S2048x224x64, .i1⟩
  | 11 => ⟨S_, .i32⟩
  | 12 => ⟨S2048x224x64, .i32⟩
  | 13 => ⟨S2048x224x64, .i32⟩
  | 14 => ⟨S_, .i32⟩
  | 15 => ⟨S2048x224x64, .i32⟩
  | 16 => ⟨S2048x224x64, .i32⟩
  | 17 => ⟨S_, .i32⟩
  | 18 => ⟨S2048x224x64, .i32⟩
  | 19 => ⟨S2048x224x64, .i1⟩
  | 20 => ⟨S_, .f32⟩
  | 21 => ⟨S_, .f32⟩
  | 22 => ⟨S2048x224x64, .f32⟩
  | 23 => ⟨S2048x224x64, .f32⟩
  | 24 => ⟨S2048x224x64, .f32⟩
  | 25 => ⟨S_, .i32⟩
  | 26 => ⟨S2048x224x64, .i32⟩
  | 27 => ⟨S2048x224x64, .i32⟩
  | 28 => ⟨S_, .i32⟩
  | 29 => ⟨S2048x224x64, .i32⟩
  | 30 => ⟨S2048x224x64, .i32⟩
  | 31 => ⟨S_, .i32⟩
  | 32 => ⟨S2048x224x64, .i32⟩
  | 33 => ⟨S2048x224x64, .i1⟩
  | 34 => ⟨S_, .f32⟩
  | 35 => ⟨S_, .f32⟩
  | 36 => ⟨S2048x224x64, .f32⟩
  | 37 => ⟨S2048x224x64, .f32⟩
  | 38 => ⟨S2048x224x64, .f32⟩
  | 39 => ⟨S2048x224x64, .f32⟩
  | 40 => ⟨S2048x224x64, .f32⟩
  | 41 => ⟨S_, .i32⟩
  | 42 => ⟨S2048x224x64, .i32⟩
  | 43 => ⟨S2048x224x64, .i32⟩
  | 44 => ⟨S_, .i32⟩
  | 45 => ⟨S2048x224x64, .i32⟩
  | 46 => ⟨S2048x224x64, .i32⟩
  | 47 => ⟨S_, .i32⟩
  | 48 => ⟨S2048x224x64, .i32⟩
  | 49 => ⟨S2048x224x64, .i1⟩
  | 50 => ⟨S_, .i32⟩
  | 51 => ⟨S2048x224x64, .i32⟩
  | 52 => ⟨S2048x224x64, .i32⟩
  | 53 => ⟨S_, .i32⟩
  | 54 => ⟨S2048x224x64, .i32⟩
  | 55 => ⟨S2048x224x64, .i32⟩
  | 56 => ⟨S_, .i32⟩
  | 57 => ⟨S2048x224x64, .i32⟩
  | 58 => ⟨S2048x224x64, .i1⟩
  | 59 => ⟨S_, .i32⟩
  | 60 => ⟨S2048x224x64, .i32⟩
  | 61 => ⟨S2048x224x64, .i32⟩
  | 62 => ⟨S_, .i32⟩
  | 63 => ⟨S2048x224x64, .i32⟩
  | 64 => ⟨S2048x224x64, .i32⟩
  | 65 => ⟨S_, .i32⟩
  | 66 => ⟨S2048x224x64, .i32⟩
  | 67 => ⟨S2048x224x64, .i1⟩
  | 68 => ⟨S_, .f32⟩
  | 69 => ⟨S_, .f32⟩
  | 70 => ⟨S2048x224x64, .f32⟩
  | 71 => ⟨S2048x224x64, .f32⟩
  | 72 => ⟨S2048x224x64, .f32⟩
  | 73 => ⟨S_, .i32⟩
  | 74 => ⟨S2048x224x64, .i32⟩
  | 75 => ⟨S2048x224x64, .i32⟩
  | 76 => ⟨S_, .i32⟩
  | 77 => ⟨S2048x224x64, .i32⟩
  | 78 => ⟨S2048x224x64, .i32⟩
  | 79 => ⟨S_, .i32⟩
  | 80 => ⟨S2048x224x64, .i32⟩
  | 81 => ⟨S2048x224x64, .i1⟩
  | 82 => ⟨S_, .f32⟩
  | 83 => ⟨S_, .f32⟩
  | 84 => ⟨S2048x224x64, .f32⟩
  | 85 => ⟨S2048x224x64, .f32⟩
  | 86 => ⟨S2048x224x64, .f32⟩
  | 87 => ⟨S2048x224x64, .f32⟩
  | 88 => ⟨S_, .i32⟩
  | 89 => ⟨S2048x224x64, .i32⟩
  | 90 => ⟨S2048x224x64, .i32⟩
  | 91 => ⟨S_, .i32⟩
  | 92 => ⟨S2048x224x64, .i32⟩
  | 93 => ⟨S2048x224x64, .i32⟩
  | 94 => ⟨S_, .i32⟩
  | 95 => ⟨S2048x224x64, .i32⟩
  | 96 => ⟨S2048x224x64, .i1⟩
  | 97 => ⟨S_, .i32⟩
  | 98 => ⟨S2048x224x64, .i32⟩
  | 99 => ⟨S2048x224x64, .i32⟩
  | 100 => ⟨S_, .i32⟩
  | 101 => ⟨S2048x224x64, .i32⟩
  | 102 => ⟨S2048x224x64, .i32⟩
  | 103 => ⟨S_, .i32⟩
  | 104 => ⟨S2048x224x64, .i32⟩
  | 105 => ⟨S2048x224x64, .i1⟩
  | 106 => ⟨S_, .f32⟩
  | 107 => ⟨S_, .f32⟩
  | 108 => ⟨S2048x224x64, .f32⟩
  | 109 => ⟨S2048x224x64, .f32⟩
  | 110 => ⟨S2048x224x64, .f32⟩
  | 111 => ⟨S_, .i32⟩
  | 112 => ⟨S2048x224x64, .i32⟩
  | 113 => ⟨S2048x224x64, .i32⟩
  | 114 => ⟨S_, .i32⟩
  | 115 => ⟨S2048x224x64, .i32⟩
  | 116 => ⟨S2048x224x64, .i32⟩
  | 117 => ⟨S_, .i32⟩
  | 118 => ⟨S2048x224x64, .i32⟩
  | 119 => ⟨S2048x224x64, .i1⟩
  | 120 => ⟨S_, .f32⟩
  | 121 => ⟨S_, .f32⟩
  | 122 => ⟨S2048x224x64, .f32⟩
  | 123 => ⟨S2048x224x64, .f32⟩
  | 124 => ⟨S2048x224x64, .f32⟩
  | 125 => ⟨S2048x224x64, .f32⟩
  | 126 => ⟨S2048x224x64, .f32⟩
  | 127 => ⟨S2048x224x64, .f32⟩
  | _ => ⟨S256x14336, .bf16⟩

abbrev hbmTy0_3 (i : Nat) : BufTy := match i % 128 with
  | 0 => ⟨S2048x224x1, .f32⟩
  | 1 => ⟨S2048x224x64, .f32⟩
  | 2 => ⟨S2048x224x64, .f32⟩
  | 3 => ⟨S2048x14336, .f32⟩
  | 4 => ⟨S2048x14336, .bf16⟩
  | 5 => ⟨S256x2048, .f32⟩
  | 6 => ⟨S256x2048, .f32⟩
  | 7 => ⟨S256x2048x1, .f32⟩
  | 8 => ⟨S256x2048x1, .f32⟩
  | 9 => ⟨S256x2048x2, .f32⟩
  | 10 => ⟨S256x4096, .f32⟩
  | 11 => ⟨S1x4096, .f32⟩
  | 12 => ⟨S256x4096, .f32⟩
  | 13 => ⟨S256x4096, .f32⟩
  | 14 => ⟨S256x4096, .bf16⟩
  | _ => ⟨S256x14336, .bf16⟩

abbrev hbmTy (i : Nat) : BufTy := match i / 128 with
  | 0 => hbmTy0_0 i
  | 1 => hbmTy0_1 i
  | 2 => hbmTy0_2 i
  | 3 => hbmTy0_3 i
  | _ => ⟨S256x14336, .bf16⟩

abbrev bufTy : (tb : Table) → Fin (tcTables nBuf tb) → BufTy
  | .hbm, ⟨i, _⟩ => hbmTy i
  | _, _ => ⟨S256x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_v16 : Ref sig .tc := ⟨.hbm, 27, rfl⟩
abbrev main_c_6 : Ref sig .tc := ⟨.hbm, 28, rfl⟩
abbrev main_v17 : Ref sig .tc := ⟨.hbm, 29, rfl⟩
abbrev main_v18 : Ref sig .tc := ⟨.hbm, 30, rfl⟩
abbrev main_c_7 : Ref sig .tc := ⟨.hbm, 31, rfl⟩
abbrev main_v19 : Ref sig .tc := ⟨.hbm, 32, rfl⟩
abbrev main_v20 : Ref sig .tc := ⟨.hbm, 33, rfl⟩
abbrev main_c_8 : Ref sig .tc := ⟨.hbm, 34, rfl⟩
abbrev main_v21 : Ref sig .tc := ⟨.hbm, 35, rfl⟩
abbrev main_v22 : Ref sig .tc := ⟨.hbm, 36, rfl⟩
abbrev main_c_9 : Ref sig .tc := ⟨.hbm, 37, rfl⟩
abbrev main_v23 : Ref sig .tc := ⟨.hbm, 38, rfl⟩
abbrev main_v24 : Ref sig .tc := ⟨.hbm, 39, rfl⟩
abbrev main_c_10 : Ref sig .tc := ⟨.hbm, 40, rfl⟩
abbrev main_v25 : Ref sig .tc := ⟨.hbm, 41, rfl⟩
abbrev main_v26 : Ref sig .tc := ⟨.hbm, 42, rfl⟩
abbrev main_c_11 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_cst_12 : Ref sig .tc := ⟨.hbm, 47, rfl⟩
abbrev main_call0_v0 : Ref sig .tc := ⟨.hbm, 48, rfl⟩
abbrev main_call0_v1 : Ref sig .tc := ⟨.hbm, 49, rfl⟩
abbrev main_v29 : Ref sig .tc := ⟨.hbm, 50, rfl⟩
abbrev main_c_13 : Ref sig .tc := ⟨.hbm, 51, rfl⟩
abbrev main_v30 : Ref sig .tc := ⟨.hbm, 52, rfl⟩
abbrev main_v31 : Ref sig .tc := ⟨.hbm, 53, rfl⟩
abbrev main_c_14 : Ref sig .tc := ⟨.hbm, 54, rfl⟩
abbrev main_v32 : Ref sig .tc := ⟨.hbm, 55, rfl⟩
abbrev main_v33 : Ref sig .tc := ⟨.hbm, 56, rfl⟩
abbrev main_c_15 : Ref sig .tc := ⟨.hbm, 57, rfl⟩
abbrev main_v34 : Ref sig .tc := ⟨.hbm, 58, rfl⟩
abbrev main_v35 : Ref sig .tc := ⟨.hbm, 59, rfl⟩
abbrev main_cst_16 : Ref sig .tc := ⟨.hbm, 60, rfl⟩
abbrev main_cst_17 : Ref sig .tc := ⟨.hbm, 61, rfl⟩
abbrev main_call1_v0 : Ref sig .tc := ⟨.hbm, 62, rfl⟩
abbrev main_call1_v1 : Ref sig .tc := ⟨.hbm, 63, rfl⟩
abbrev main_v36 : Ref sig .tc := ⟨.hbm, 64, rfl⟩
abbrev main_v37 : Ref sig .tc := ⟨.hbm, 65, rfl⟩
abbrev main_c_18 : Ref sig .tc := ⟨.hbm, 66, rfl⟩
abbrev main_v38 : Ref sig .tc := ⟨.hbm, 67, rfl⟩
abbrev main_v39 : Ref sig .tc := ⟨.hbm, 68, rfl⟩
abbrev main_c_19 : Ref sig .tc := ⟨.hbm, 69, rfl⟩
abbrev main_v40 : Ref sig .tc := ⟨.hbm, 70, rfl⟩
abbrev main_v41 : Ref sig .tc := ⟨.hbm, 71, rfl⟩
abbrev main_c_20 : Ref sig .tc := ⟨.hbm, 72, rfl⟩
abbrev main_v42 : Ref sig .tc := ⟨.hbm, 73, rfl⟩
abbrev main_v43 : Ref sig .tc := ⟨.hbm, 74, rfl⟩
abbrev main_c_21 : Ref sig .tc := ⟨.hbm, 75, rfl⟩
abbrev main_v44 : Ref sig .tc := ⟨.hbm, 76, rfl⟩
abbrev main_v45 : Ref sig .tc := ⟨.hbm, 77, rfl⟩
abbrev main_c_22 : Ref sig .tc := ⟨.hbm, 78, rfl⟩
abbrev main_v46 : Ref sig .tc := ⟨.hbm, 79, rfl⟩
abbrev main_v47 : Ref sig .tc := ⟨.hbm, 80, rfl⟩
abbrev main_c_23 : Ref sig .tc := ⟨.hbm, 81, rfl⟩
abbrev main_v48 : Ref sig .tc := ⟨.hbm, 82, rfl⟩
abbrev main_v49 : Ref sig .tc := ⟨.hbm, 83, rfl⟩
abbrev main_cst_24 : Ref sig .tc := ⟨.hbm, 84, rfl⟩
abbrev main_cst_25 : Ref sig .tc := ⟨.hbm, 85, rfl⟩
abbrev main_call3_v0 : Ref sig .tc := ⟨.hbm, 86, rfl⟩
abbrev main_call3_v1 : Ref sig .tc := ⟨.hbm, 87, rfl⟩
abbrev main_v50 : Ref sig .tc := ⟨.hbm, 88, rfl⟩
abbrev main_c_26 : Ref sig .tc := ⟨.hbm, 89, rfl⟩
abbrev main_v51 : Ref sig .tc := ⟨.hbm, 90, rfl⟩
abbrev main_v52 : Ref sig .tc := ⟨.hbm, 91, rfl⟩
abbrev main_c_27 : Ref sig .tc := ⟨.hbm, 92, rfl⟩
abbrev main_v53 : Ref sig .tc := ⟨.hbm, 93, rfl⟩
abbrev main_v54 : Ref sig .tc := ⟨.hbm, 94, rfl⟩
abbrev main_c_28 : Ref sig .tc := ⟨.hbm, 95, rfl⟩
abbrev main_v55 : Ref sig .tc := ⟨.hbm, 96, rfl⟩
abbrev main_v56 : Ref sig .tc := ⟨.hbm, 97, rfl⟩
abbrev main_cst_29 : Ref sig .tc := ⟨.hbm, 98, rfl⟩
abbrev main_cst_30 : Ref sig .tc := ⟨.hbm, 99, rfl⟩
abbrev main_call4_v0 : Ref sig .tc := ⟨.hbm, 100, rfl⟩
abbrev main_call4_v1 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_c_31 : Ref sig .tc := ⟨.hbm, 105, rfl⟩
abbrev main_v60 : Ref sig .tc := ⟨.hbm, 106, rfl⟩
abbrev main_v61 : Ref sig .tc := ⟨.hbm, 107, rfl⟩
abbrev main_c_32 : Ref sig .tc := ⟨.hbm, 108, rfl⟩
abbrev main_v62 : Ref sig .tc := ⟨.hbm, 109, rfl⟩
abbrev main_v63 : Ref sig .tc := ⟨.hbm, 110, rfl⟩
abbrev main_c_33 : Ref sig .tc := ⟨.hbm, 111, rfl⟩
abbrev main_v64 : Ref sig .tc := ⟨.hbm, 112, rfl⟩
abbrev main_v65 : Ref sig .tc := ⟨.hbm, 113, rfl⟩
abbrev main_c_34 : Ref sig .tc := ⟨.hbm, 114, rfl⟩
abbrev main_v66 : Ref sig .tc := ⟨.hbm, 115, rfl⟩
abbrev main_v67 : Ref sig .tc := ⟨.hbm, 116, rfl⟩
abbrev main_c_35 : Ref sig .tc := ⟨.hbm, 117, rfl⟩
abbrev main_v68 : Ref sig .tc := ⟨.hbm, 118, rfl⟩
abbrev main_v69 : Ref sig .tc := ⟨.hbm, 119, rfl⟩
abbrev main_c_36 : Ref sig .tc := ⟨.hbm, 120, rfl⟩
abbrev main_v70 : Ref sig .tc := ⟨.hbm, 121, rfl⟩
abbrev main_v71 : Ref sig .tc := ⟨.hbm, 122, rfl⟩
abbrev main_c_37 : Ref sig .tc := ⟨.hbm, 123, rfl⟩
abbrev main_v72 : Ref sig .tc := ⟨.hbm, 124, rfl⟩
abbrev main_v73 : Ref sig .tc := ⟨.hbm, 125, rfl⟩
abbrev main_c_38 : Ref sig .tc := ⟨.hbm, 126, rfl⟩
abbrev main_v74 : Ref sig .tc := ⟨.hbm, 127, rfl⟩
abbrev main_v75 : Ref sig .tc := ⟨.hbm, 128, rfl⟩
abbrev main_c_39 : Ref sig .tc := ⟨.hbm, 129, rfl⟩
abbrev main_v76 : Ref sig .tc := ⟨.hbm, 130, rfl⟩
abbrev main_v77 : Ref sig .tc := ⟨.hbm, 131, rfl⟩
abbrev main_cst_40 : Ref sig .tc := ⟨.hbm, 132, rfl⟩
abbrev main_cst_41 : Ref sig .tc := ⟨.hbm, 133, rfl⟩
abbrev main_call7_v0 : Ref sig .tc := ⟨.hbm, 134, rfl⟩
abbrev main_call7_v1 : Ref sig .tc := ⟨.hbm, 135, rfl⟩
abbrev main_v78 : Ref sig .tc := ⟨.hbm, 136, rfl⟩
abbrev main_c_42 : Ref sig .tc := ⟨.hbm, 137, rfl⟩
abbrev main_v79 : Ref sig .tc := ⟨.hbm, 138, rfl⟩
abbrev main_v80 : Ref sig .tc := ⟨.hbm, 139, rfl⟩
abbrev main_c_43 : Ref sig .tc := ⟨.hbm, 140, rfl⟩
abbrev main_v81 : Ref sig .tc := ⟨.hbm, 141, rfl⟩
abbrev main_v82 : Ref sig .tc := ⟨.hbm, 142, rfl⟩
abbrev main_c_44 : Ref sig .tc := ⟨.hbm, 143, rfl⟩
abbrev main_v83 : Ref sig .tc := ⟨.hbm, 144, rfl⟩
abbrev main_v84 : Ref sig .tc := ⟨.hbm, 145, rfl⟩
abbrev main_cst_45 : Ref sig .tc := ⟨.hbm, 146, rfl⟩
abbrev main_cst_46 : Ref sig .tc := ⟨.hbm, 147, rfl⟩
abbrev main_call8_v0 : Ref sig .tc := ⟨.hbm, 148, rfl⟩
abbrev main_call8_v1 : Ref sig .tc := ⟨.hbm, 149, rfl⟩
abbrev main_v85 : Ref sig .tc := ⟨.hbm, 150, rfl⟩
abbrev main_v86 : Ref sig .tc := ⟨.hbm, 151, rfl⟩
abbrev main_c_47 : Ref sig .tc := ⟨.hbm, 152, rfl⟩
abbrev main_v87 : Ref sig .tc := ⟨.hbm, 153, rfl⟩
abbrev main_v88 : Ref sig .tc := ⟨.hbm, 154, rfl⟩
abbrev main_c_48 : Ref sig .tc := ⟨.hbm, 155, rfl⟩
abbrev main_v89 : Ref sig .tc := ⟨.hbm, 156, rfl⟩
abbrev main_v90 : Ref sig .tc := ⟨.hbm, 157, rfl⟩
abbrev main_c_49 : Ref sig .tc := ⟨.hbm, 158, rfl⟩
abbrev main_v91 : Ref sig .tc := ⟨.hbm, 159, rfl⟩
abbrev main_v92 : Ref sig .tc := ⟨.hbm, 160, rfl⟩
abbrev main_c_50 : Ref sig .tc := ⟨.hbm, 161, rfl⟩
abbrev main_v93 : Ref sig .tc := ⟨.hbm, 162, rfl⟩
abbrev main_v94 : Ref sig .tc := ⟨.hbm, 163, rfl⟩
abbrev main_c_51 : Ref sig .tc := ⟨.hbm, 164, rfl⟩
abbrev main_v95 : Ref sig .tc := ⟨.hbm, 165, rfl⟩
abbrev main_v96 : Ref sig .tc := ⟨.hbm, 166, rfl⟩
abbrev main_c_52 : Ref sig .tc := ⟨.hbm, 167, rfl⟩
abbrev main_v97 : Ref sig .tc := ⟨.hbm, 168, rfl⟩
abbrev main_v98 : Ref sig .tc := ⟨.hbm, 169, rfl⟩
abbrev main_cst_53 : Ref sig .tc := ⟨.hbm, 170, rfl⟩
abbrev main_cst_54 : Ref sig .tc := ⟨.hbm, 171, rfl⟩
abbrev main_call10_v0 : Ref sig .tc := ⟨.hbm, 172, rfl⟩
abbrev main_call10_v1 : Ref sig .tc := ⟨.hbm, 173, rfl⟩
abbrev main_v99 : Ref sig .tc := ⟨.hbm, 174, rfl⟩
abbrev main_c_55 : Ref sig .tc := ⟨.hbm, 175, rfl⟩
abbrev main_v100 : Ref sig .tc := ⟨.hbm, 176, rfl⟩
abbrev main_v101 : Ref sig .tc := ⟨.hbm, 177, rfl⟩
abbrev main_c_56 : Ref sig .tc := ⟨.hbm, 178, rfl⟩
abbrev main_v102 : Ref sig .tc := ⟨.hbm, 179, rfl⟩
abbrev main_v103 : Ref sig .tc := ⟨.hbm, 180, rfl⟩
abbrev main_c_57 : Ref sig .tc := ⟨.hbm, 181, rfl⟩
abbrev main_v104 : Ref sig .tc := ⟨.hbm, 182, rfl⟩
abbrev main_v105 : Ref sig .tc := ⟨.hbm, 183, rfl⟩
abbrev main_cst_58 : Ref sig .tc := ⟨.hbm, 184, rfl⟩
abbrev main_cst_59 : Ref sig .tc := ⟨.hbm, 185, rfl⟩
abbrev main_call11_v0 : Ref sig .tc := ⟨.hbm, 186, rfl⟩
abbrev main_call11_v1 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_c_60 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_c_61 : Ref sig .tc := ⟨.hbm, 202, rfl⟩
abbrev main_v119 : Ref sig .tc := ⟨.hbm, 203, rfl⟩
abbrev main_v120 : Ref sig .tc := ⟨.hbm, 204, rfl⟩
abbrev main_c_62 : Ref sig .tc := ⟨.hbm, 205, rfl⟩
abbrev main_v121 : Ref sig .tc := ⟨.hbm, 206, rfl⟩
abbrev main_v122 : Ref sig .tc := ⟨.hbm, 207, rfl⟩
abbrev main_c_63 : Ref sig .tc := ⟨.hbm, 208, rfl⟩
abbrev main_v123 : Ref sig .tc := ⟨.hbm, 209, rfl⟩
abbrev main_v124 : Ref sig .tc := ⟨.hbm, 210, rfl⟩
abbrev main_c_64 : Ref sig .tc := ⟨.hbm, 211, rfl⟩
abbrev main_v125 : Ref sig .tc := ⟨.hbm, 212, rfl⟩
abbrev main_v126 : Ref sig .tc := ⟨.hbm, 213, rfl⟩
abbrev main_c_65 : Ref sig .tc := ⟨.hbm, 214, rfl⟩
abbrev main_v127 : Ref sig .tc := ⟨.hbm, 215, rfl⟩
abbrev main_v128 : Ref sig .tc := ⟨.hbm, 216, rfl⟩
abbrev main_c_66 : Ref sig .tc := ⟨.hbm, 217, rfl⟩
abbrev main_v129 : Ref sig .tc := ⟨.hbm, 218, rfl⟩
abbrev main_v130 : Ref sig .tc := ⟨.hbm, 219, rfl⟩
abbrev main_c_67 : Ref sig .tc := ⟨.hbm, 220, rfl⟩
abbrev main_v131 : Ref sig .tc := ⟨.hbm, 221, rfl⟩
abbrev main_v132 : Ref sig .tc := ⟨.hbm, 222, rfl⟩
abbrev main_c_68 : Ref sig .tc := ⟨.hbm, 223, rfl⟩
abbrev main_v133 : Ref sig .tc := ⟨.hbm, 224, rfl⟩
abbrev main_v134 : Ref sig .tc := ⟨.hbm, 225, rfl⟩
abbrev main_c_69 : Ref sig .tc := ⟨.hbm, 226, rfl⟩
abbrev main_v135 : Ref sig .tc := ⟨.hbm, 227, rfl⟩
abbrev main_v136 : Ref sig .tc := ⟨.hbm, 228, rfl⟩
abbrev main_c_70 : Ref sig .tc := ⟨.hbm, 229, rfl⟩
abbrev main_v137 : Ref sig .tc := ⟨.hbm, 230, rfl⟩
abbrev main_v138 : Ref sig .tc := ⟨.hbm, 231, rfl⟩
abbrev main_c_71 : Ref sig .tc := ⟨.hbm, 232, rfl⟩
abbrev main_v139 : Ref sig .tc := ⟨.hbm, 233, rfl⟩
abbrev main_v140 : Ref sig .tc := ⟨.hbm, 234, rfl⟩
abbrev main_c_72 : Ref sig .tc := ⟨.hbm, 235, rfl⟩
abbrev main_v141 : Ref sig .tc := ⟨.hbm, 236, rfl⟩
abbrev main_v142 : Ref sig .tc := ⟨.hbm, 237, rfl⟩
abbrev main_cst_73 : Ref sig .tc := ⟨.hbm, 238, rfl⟩
abbrev main_cst_74 : Ref sig .tc := ⟨.hbm, 239, rfl⟩
abbrev main_call15_v0 : Ref sig .tc := ⟨.hbm, 240, rfl⟩
abbrev main_call15_v1 : Ref sig .tc := ⟨.hbm, 241, rfl⟩
abbrev main_v143 : Ref sig .tc := ⟨.hbm, 242, rfl⟩
abbrev main_c_75 : Ref sig .tc := ⟨.hbm, 243, rfl⟩
abbrev main_v144 : Ref sig .tc := ⟨.hbm, 244, rfl⟩
abbrev main_v145 : Ref sig .tc := ⟨.hbm, 245, rfl⟩
abbrev main_c_76 : Ref sig .tc := ⟨.hbm, 246, rfl⟩
abbrev main_v146 : Ref sig .tc := ⟨.hbm, 247, rfl⟩
abbrev main_v147 : Ref sig .tc := ⟨.hbm, 248, rfl⟩
abbrev main_c_77 : Ref sig .tc := ⟨.hbm, 249, rfl⟩
abbrev main_v148 : Ref sig .tc := ⟨.hbm, 250, rfl⟩
abbrev main_v149 : Ref sig .tc := ⟨.hbm, 251, rfl⟩
abbrev main_cst_78 : Ref sig .tc := ⟨.hbm, 252, rfl⟩
abbrev main_cst_79 : Ref sig .tc := ⟨.hbm, 253, rfl⟩
abbrev main_call16_v0 : Ref sig .tc := ⟨.hbm, 254, rfl⟩
abbrev main_call16_v1 : Ref sig .tc := ⟨.hbm, 255, rfl⟩
abbrev main_v150 : Ref sig .tc := ⟨.hbm, 256, rfl⟩
abbrev main_v151 : Ref sig .tc := ⟨.hbm, 257, rfl⟩
abbrev main_c_80 : Ref sig .tc := ⟨.hbm, 258, rfl⟩
abbrev main_v152 : Ref sig .tc := ⟨.hbm, 259, rfl⟩
abbrev main_v153 : Ref sig .tc := ⟨.hbm, 260, rfl⟩
abbrev main_c_81 : Ref sig .tc := ⟨.hbm, 261, rfl⟩
abbrev main_v154 : Ref sig .tc := ⟨.hbm, 262, rfl⟩
abbrev main_v155 : Ref sig .tc := ⟨.hbm, 263, rfl⟩
abbrev main_c_82 : Ref sig .tc := ⟨.hbm, 264, rfl⟩
abbrev main_v156 : Ref sig .tc := ⟨.hbm, 265, rfl⟩
abbrev main_v157 : Ref sig .tc := ⟨.hbm, 266, rfl⟩
abbrev main_c_83 : Ref sig .tc := ⟨.hbm, 267, rfl⟩
abbrev main_v158 : Ref sig .tc := ⟨.hbm, 268, rfl⟩
abbrev main_v159 : Ref sig .tc := ⟨.hbm, 269, rfl⟩
abbrev main_c_84 : Ref sig .tc := ⟨.hbm, 270, rfl⟩
abbrev main_v160 : Ref sig .tc := ⟨.hbm, 271, rfl⟩
abbrev main_v161 : Ref sig .tc := ⟨.hbm, 272, rfl⟩
abbrev main_c_85 : Ref sig .tc := ⟨.hbm, 273, rfl⟩
abbrev main_v162 : Ref sig .tc := ⟨.hbm, 274, rfl⟩
abbrev main_v163 : Ref sig .tc := ⟨.hbm, 275, rfl⟩
abbrev main_cst_86 : Ref sig .tc := ⟨.hbm, 276, rfl⟩
abbrev main_cst_87 : Ref sig .tc := ⟨.hbm, 277, rfl⟩
abbrev main_call18_v0 : Ref sig .tc := ⟨.hbm, 278, rfl⟩
abbrev main_call18_v1 : Ref sig .tc := ⟨.hbm, 279, rfl⟩
abbrev main_v164 : Ref sig .tc := ⟨.hbm, 280, rfl⟩
abbrev main_c_88 : Ref sig .tc := ⟨.hbm, 281, rfl⟩
abbrev main_v165 : Ref sig .tc := ⟨.hbm, 282, rfl⟩
abbrev main_v166 : Ref sig .tc := ⟨.hbm, 283, rfl⟩
abbrev main_c_89 : Ref sig .tc := ⟨.hbm, 284, rfl⟩
abbrev main_v167 : Ref sig .tc := ⟨.hbm, 285, rfl⟩
abbrev main_v168 : Ref sig .tc := ⟨.hbm, 286, rfl⟩
abbrev main_c_90 : Ref sig .tc := ⟨.hbm, 287, rfl⟩
abbrev main_v169 : Ref sig .tc := ⟨.hbm, 288, rfl⟩
abbrev main_v170 : Ref sig .tc := ⟨.hbm, 289, rfl⟩
abbrev main_cst_91 : Ref sig .tc := ⟨.hbm, 290, rfl⟩
abbrev main_cst_92 : Ref sig .tc := ⟨.hbm, 291, rfl⟩
abbrev main_call19_v0 : Ref sig .tc := ⟨.hbm, 292, rfl⟩
abbrev main_call19_v1 : Ref sig .tc := ⟨.hbm, 293, rfl⟩
abbrev main_v171 : Ref sig .tc := ⟨.hbm, 294, rfl⟩
abbrev main_v172 : Ref sig .tc := ⟨.hbm, 295, rfl⟩
abbrev main_v173 : Ref sig .tc := ⟨.hbm, 296, rfl⟩
abbrev main_c_93 : Ref sig .tc := ⟨.hbm, 297, rfl⟩
abbrev main_v174 : Ref sig .tc := ⟨.hbm, 298, rfl⟩
abbrev main_v175 : Ref sig .tc := ⟨.hbm, 299, rfl⟩
abbrev main_c_94 : Ref sig .tc := ⟨.hbm, 300, rfl⟩
abbrev main_v176 : Ref sig .tc := ⟨.hbm, 301, rfl⟩
abbrev main_v177 : Ref sig .tc := ⟨.hbm, 302, rfl⟩
abbrev main_c_95 : Ref sig .tc := ⟨.hbm, 303, rfl⟩
abbrev main_v178 : Ref sig .tc := ⟨.hbm, 304, rfl⟩
abbrev main_v179 : Ref sig .tc := ⟨.hbm, 305, rfl⟩
abbrev main_c_96 : Ref sig .tc := ⟨.hbm, 306, rfl⟩
abbrev main_v180 : Ref sig .tc := ⟨.hbm, 307, rfl⟩
abbrev main_v181 : Ref sig .tc := ⟨.hbm, 308, rfl⟩
abbrev main_c_97 : Ref sig .tc := ⟨.hbm, 309, rfl⟩
abbrev main_v182 : Ref sig .tc := ⟨.hbm, 310, rfl⟩
abbrev main_v183 : Ref sig .tc := ⟨.hbm, 311, rfl⟩
abbrev main_c_98 : Ref sig .tc := ⟨.hbm, 312, rfl⟩
abbrev main_v184 : Ref sig .tc := ⟨.hbm, 313, rfl⟩
abbrev main_v185 : Ref sig .tc := ⟨.hbm, 314, rfl⟩
abbrev main_c_99 : Ref sig .tc := ⟨.hbm, 315, rfl⟩
abbrev main_v186 : Ref sig .tc := ⟨.hbm, 316, rfl⟩
abbrev main_v187 : Ref sig .tc := ⟨.hbm, 317, rfl⟩
abbrev main_c_100 : Ref sig .tc := ⟨.hbm, 318, rfl⟩
abbrev main_v188 : Ref sig .tc := ⟨.hbm, 319, rfl⟩
abbrev main_v189 : Ref sig .tc := ⟨.hbm, 320, rfl⟩
abbrev main_c_101 : Ref sig .tc := ⟨.hbm, 321, rfl⟩
abbrev main_v190 : Ref sig .tc := ⟨.hbm, 322, rfl⟩
abbrev main_v191 : Ref sig .tc := ⟨.hbm, 323, rfl⟩
abbrev main_cst_102 : Ref sig .tc := ⟨.hbm, 324, rfl⟩
abbrev main_cst_103 : Ref sig .tc := ⟨.hbm, 325, rfl⟩
abbrev main_call22_v0 : Ref sig .tc := ⟨.hbm, 326, rfl⟩
abbrev main_call22_v1 : Ref sig .tc := ⟨.hbm, 327, rfl⟩
abbrev main_v192 : Ref sig .tc := ⟨.hbm, 328, rfl⟩
abbrev main_c_104 : Ref sig .tc := ⟨.hbm, 329, rfl⟩
abbrev main_v193 : Ref sig .tc := ⟨.hbm, 330, rfl⟩
abbrev main_v194 : Ref sig .tc := ⟨.hbm, 331, rfl⟩
abbrev main_c_105 : Ref sig .tc := ⟨.hbm, 332, rfl⟩
abbrev main_v195 : Ref sig .tc := ⟨.hbm, 333, rfl⟩
abbrev main_v196 : Ref sig .tc := ⟨.hbm, 334, rfl⟩
abbrev main_c_106 : Ref sig .tc := ⟨.hbm, 335, rfl⟩
abbrev main_v197 : Ref sig .tc := ⟨.hbm, 336, rfl⟩
abbrev main_v198 : Ref sig .tc := ⟨.hbm, 337, rfl⟩
abbrev main_cst_107 : Ref sig .tc := ⟨.hbm, 338, rfl⟩
abbrev main_cst_108 : Ref sig .tc := ⟨.hbm, 339, rfl⟩
abbrev main_call23_v0 : Ref sig .tc := ⟨.hbm, 340, rfl⟩
abbrev main_call23_v1 : Ref sig .tc := ⟨.hbm, 341, rfl⟩
abbrev main_v199 : Ref sig .tc := ⟨.hbm, 342, rfl⟩
abbrev main_v200 : Ref sig .tc := ⟨.hbm, 343, rfl⟩
abbrev main_c_109 : Ref sig .tc := ⟨.hbm, 344, rfl⟩
abbrev main_v201 : Ref sig .tc := ⟨.hbm, 345, rfl⟩
abbrev main_v202 : Ref sig .tc := ⟨.hbm, 346, rfl⟩
abbrev main_c_110 : Ref sig .tc := ⟨.hbm, 347, rfl⟩
abbrev main_v203 : Ref sig .tc := ⟨.hbm, 348, rfl⟩
abbrev main_v204 : Ref sig .tc := ⟨.hbm, 349, rfl⟩
abbrev main_c_111 : Ref sig .tc := ⟨.hbm, 350, rfl⟩
abbrev main_v205 : Ref sig .tc := ⟨.hbm, 351, rfl⟩
abbrev main_v206 : Ref sig .tc := ⟨.hbm, 352, rfl⟩
abbrev main_c_112 : Ref sig .tc := ⟨.hbm, 353, rfl⟩
abbrev main_v207 : Ref sig .tc := ⟨.hbm, 354, rfl⟩
abbrev main_v208 : Ref sig .tc := ⟨.hbm, 355, rfl⟩
abbrev main_c_113 : Ref sig .tc := ⟨.hbm, 356, rfl⟩
abbrev main_v209 : Ref sig .tc := ⟨.hbm, 357, rfl⟩
abbrev main_v210 : Ref sig .tc := ⟨.hbm, 358, rfl⟩
abbrev main_c_114 : Ref sig .tc := ⟨.hbm, 359, rfl⟩
abbrev main_v211 : Ref sig .tc := ⟨.hbm, 360, rfl⟩
abbrev main_v212 : Ref sig .tc := ⟨.hbm, 361, rfl⟩
abbrev main_cst_115 : Ref sig .tc := ⟨.hbm, 362, rfl⟩
abbrev main_cst_116 : Ref sig .tc := ⟨.hbm, 363, rfl⟩
abbrev main_call25_v0 : Ref sig .tc := ⟨.hbm, 364, rfl⟩
abbrev main_call25_v1 : Ref sig .tc := ⟨.hbm, 365, rfl⟩
abbrev main_v213 : Ref sig .tc := ⟨.hbm, 366, rfl⟩
abbrev main_c_117 : Ref sig .tc := ⟨.hbm, 367, rfl⟩
abbrev main_v214 : Ref sig .tc := ⟨.hbm, 368, rfl⟩
abbrev main_v215 : Ref sig .tc := ⟨.hbm, 369, rfl⟩
abbrev main_c_118 : Ref sig .tc := ⟨.hbm, 370, rfl⟩
abbrev main_v216 : Ref sig .tc := ⟨.hbm, 371, rfl⟩
abbrev main_v217 : Ref sig .tc := ⟨.hbm, 372, rfl⟩
abbrev main_c_119 : Ref sig .tc := ⟨.hbm, 373, rfl⟩
abbrev main_v218 : Ref sig .tc := ⟨.hbm, 374, rfl⟩
abbrev main_v219 : Ref sig .tc := ⟨.hbm, 375, rfl⟩
abbrev main_cst_120 : Ref sig .tc := ⟨.hbm, 376, rfl⟩
abbrev main_cst_121 : Ref sig .tc := ⟨.hbm, 377, rfl⟩
abbrev main_call26_v0 : Ref sig .tc := ⟨.hbm, 378, rfl⟩
abbrev main_call26_v1 : Ref sig .tc := ⟨.hbm, 379, rfl⟩
abbrev main_v220 : Ref sig .tc := ⟨.hbm, 380, rfl⟩
abbrev main_v221 : Ref sig .tc := ⟨.hbm, 381, rfl⟩
abbrev main_v222 : Ref sig .tc := ⟨.hbm, 382, rfl⟩
abbrev main_v223 : Ref sig .tc := ⟨.hbm, 383, rfl⟩
abbrev main_v224 : Ref sig .tc := ⟨.hbm, 384, rfl⟩
abbrev main_v225 : Ref sig .tc := ⟨.hbm, 385, rfl⟩
abbrev main_v226 : Ref sig .tc := ⟨.hbm, 386, rfl⟩
abbrev main_v227 : Ref sig .tc := ⟨.hbm, 387, rfl⟩
abbrev main_v228 : Ref sig .tc := ⟨.hbm, 388, rfl⟩
abbrev main_v229 : Ref sig .tc := ⟨.hbm, 389, rfl⟩
abbrev main_v230 : Ref sig .tc := ⟨.hbm, 390, rfl⟩
abbrev main_v231 : Ref sig .tc := ⟨.hbm, 391, rfl⟩
abbrev main_v232 : Ref sig .tc := ⟨.hbm, 392, rfl⟩
abbrev main_v233 : Ref sig .tc := ⟨.hbm, 393, rfl⟩
abbrev main_v234 : Ref sig .tc := ⟨.hbm, 394, rfl⟩
abbrev main_v235 : Ref sig .tc := ⟨.hbm, 395, rfl⟩
abbrev main_v236 : Ref sig .tc := ⟨.hbm, 396, rfl⟩
abbrev main_v237 : Ref sig .tc := ⟨.hbm, 397, rfl⟩
abbrev main_v238 : Ref sig .tc := ⟨.hbm, 398, rfl⟩

abbrev nD : Nat := 1
abbrev τ : Topo := Topo.v7x

variable {F : FTy → Type} [FloatOps F]
-- ==== Rotation.lean ====
abbrev S256x14336 : Shape := ⟨2, ![256, 14336]⟩
abbrev S448x496 : Shape := ⟨2, ![448, 496]⟩
abbrev S448x32x32 : Shape := ⟨3, ![448, 32, 32]⟩
abbrev S128x496 : Shape := ⟨2, ![128, 496]⟩
abbrev S256x4096 : Shape := ⟨2, ![256, 4096]⟩
abbrev S128x32x32 : Shape := ⟨3, ![128, 32, 32]⟩
abbrev S512x128 : Shape := ⟨2, ![512, 128]⟩
abbrev S32x32x128 : Shape := ⟨3, ![32, 32, 128]⟩
abbrev S128x16 : Shape := ⟨2, ![128, 16]⟩
abbrev S128x512 : Shape := ⟨2, ![128, 512]⟩
abbrev S1x128 : Shape := ⟨2, ![1, 128]⟩
abbrev S1x1x128 : Shape := ⟨3, ![1, 1, 128]⟩
abbrev S31x128 : Shape := ⟨2, ![31, 128]⟩
abbrev S1x31x128 : Shape := ⟨3, ![1, 31, 128]⟩
abbrev S31x1x128 : Shape := ⟨3, ![31, 1, 128]⟩
abbrev S30x128 : Shape := ⟨2, ![30, 128]⟩
abbrev S1x30x128 : Shape := ⟨3, ![1, 30, 128]⟩
abbrev S30x1x128 : Shape := ⟨3, ![30, 1, 128]⟩
abbrev S29x128 : Shape := ⟨2, ![29, 128]⟩
abbrev S1x29x128 : Shape := ⟨3, ![1, 29, 128]⟩
abbrev S29x1x128 : Shape := ⟨3, ![29, 1, 128]⟩
abbrev S28x128 : Shape := ⟨2, ![28, 128]⟩
abbrev S1x28x128 : Shape := ⟨3, ![1, 28, 128]⟩
abbrev S28x1x128 : Shape := ⟨3, ![28, 1, 128]⟩
abbrev S27x128 : Shape := ⟨2, ![27, 128]⟩
abbrev S1x27x128 : Shape := ⟨3, ![1, 27, 128]⟩
abbrev S27x1x128 : Shape := ⟨3, ![27, 1, 128]⟩
abbrev S26x128 : Shape := ⟨2, ![26, 128]⟩
abbrev S1x26x128 : Shape := ⟨3, ![1, 26, 128]⟩
abbrev S26x1x128 : Shape := ⟨3, ![26, 1, 128]⟩
abbrev S25x128 : Shape := ⟨2, ![25, 128]⟩
abbrev S1x25x128 : Shape := ⟨3, ![1, 25, 128]⟩
abbrev S25x1x128 : Shape := ⟨3, ![25, 1, 128]⟩
abbrev S24x128 : Shape := ⟨2, ![24, 128]⟩
abbrev S1x24x128 : Shape := ⟨3, ![1, 24, 128]⟩
abbrev S24x1x128 : Shape := ⟨3, ![24, 1, 128]⟩
abbrev S23x128 : Shape := ⟨2, ![23, 128]⟩
abbrev S1x23x128 : Shape := ⟨3, ![1, 23, 128]⟩
abbrev S23x1x128 : Shape := ⟨3, ![23, 1, 128]⟩
abbrev S22x128 : Shape := ⟨2, ![22, 128]⟩
abbrev S1x22x128 : Shape := ⟨3, ![1, 22, 128]⟩
abbrev S22x1x128 : Shape := ⟨3, ![22, 1, 128]⟩
abbrev S21x128 : Shape := ⟨2, ![21, 128]⟩
abbrev S1x21x128 : Shape := ⟨3, ![1, 21, 128]⟩
abbrev S21x1x128 : Shape := ⟨3, ![21, 1, 128]⟩
abbrev S20x128 : Shape := ⟨2, ![20, 128]⟩
abbrev S1x20x128 : Shape := ⟨3, ![1, 20, 128]⟩
abbrev S20x1x128 : Shape := ⟨3, ![20, 1, 128]⟩
abbrev S19x128 : Shape := ⟨2, ![19, 128]⟩
abbrev S1x19x128 : Shape := ⟨3, ![1, 19, 128]⟩
abbrev S19x1x128 : Shape := ⟨3, ![19, 1, 128]⟩
abbrev S18x128 : Shape := ⟨2, ![18, 128]⟩
abbrev S1x18x128 : Shape := ⟨3, ![1, 18, 128]⟩
abbrev S18x1x128 : Shape := ⟨3, ![18, 1, 128]⟩
abbrev S17x128 : Shape := ⟨2, ![17, 128]⟩
abbrev S1x17x128 : Shape := ⟨3, ![1, 17, 128]⟩
abbrev S17x1x128 : Shape := ⟨3, ![17, 1, 128]⟩
abbrev S16x128 : Shape := ⟨2, ![16, 128]⟩
abbrev S1x16x128 : Shape := ⟨3, ![1, 16, 128]⟩
abbrev S16x1x128 : Shape := ⟨3, ![16, 1, 128]⟩
abbrev S15x128 : Shape := ⟨2, ![15, 128]⟩
abbrev S1x15x128 : Shape := ⟨3, ![1, 15, 128]⟩
abbrev S15x1x128 : Shape := ⟨3, ![15, 1, 128]⟩
abbrev S14x128 : Shape := ⟨2, ![14, 128]⟩
abbrev S1x14x128 : Shape := ⟨3, ![1, 14, 128]⟩
abbrev S14x1x128 : Shape := ⟨3, ![14, 1, 128]⟩
abbrev S13x128 : Shape := ⟨2, ![13, 128]⟩
abbrev S1x13x128 : Shape := ⟨3, ![1, 13, 128]⟩
abbrev S13x1x128 : Shape := ⟨3, ![13, 1, 128]⟩
abbrev S12x128 : Shape := ⟨2, ![12, 128]⟩
abbrev S1x12x128 : Shape := ⟨3, ![1, 12, 128]⟩
abbrev S12x1x128 : Shape := ⟨3, ![12, 1, 128]⟩
abbrev S11x128 : Shape := ⟨2, ![11, 128]⟩
abbrev S1x11x128 : Shape := ⟨3, ![1, 11, 128]⟩
abbrev S11x1x128 : Shape := ⟨3, ![11, 1, 128]⟩
abbrev S10x128 : Shape := ⟨2, ![10, 128]⟩
abbrev S1x10x128 : Shape := ⟨3, ![1, 10, 128]⟩
abbrev S10x1x128 : Shape := ⟨3, ![10, 1, 128]⟩
abbrev S9x128 : Shape := ⟨2, ![9, 128]⟩
abbrev S1x9x128 : Shape := ⟨3, ![1, 9, 128]⟩
abbrev S9x1x128 : Shape := ⟨3, ![9, 1, 128]⟩
abbrev S8x128 : Shape := ⟨2, ![8, 128]⟩
abbrev S1x8x128 : Shape := ⟨3, ![1, 8, 128]⟩
abbrev S8x1x128 : Shape := ⟨3, ![8, 1, 128]⟩
abbrev S7x128 : Shape := ⟨2, ![7, 128]⟩
abbrev S1x7x128 : Shape := ⟨3, ![1, 7, 128]⟩
abbrev S7x1x128 : Shape := ⟨3, ![7, 1, 128]⟩
abbrev S6x128 : Shape := ⟨2, ![6, 128]⟩
abbrev S1x6x128 : Shape := ⟨3, ![1, 6, 128]⟩
abbrev S6x1x128 : Shape := ⟨3, ![6, 1, 128]⟩
abbrev S5x128 : Shape := ⟨2, ![5, 128]⟩
abbrev S1x5x128 : Shape := ⟨3, ![1, 5, 128]⟩
abbrev S5x1x128 : Shape := ⟨3, ![5, 1, 128]⟩
abbrev S4x128 : Shape := ⟨2, ![4, 128]⟩
abbrev S1x4x128 : Shape := ⟨3, ![1, 4, 128]⟩
abbrev S4x1x128 : Shape := ⟨3, ![4, 1, 128]⟩
abbrev S3x128 : Shape := ⟨2, ![3, 128]⟩
abbrev S1x3x128 : Shape := ⟨3, ![1, 3, 128]⟩
abbrev S3x1x128 : Shape := ⟨3, ![3, 1, 128]⟩
abbrev S2x128 : Shape := ⟨2, ![2, 128]⟩
abbrev S1x2x128 : Shape := ⟨3, ![1, 2, 128]⟩
abbrev S2x1x128 : Shape := ⟨3, ![2, 1, 128]⟩
abbrev S1x32x128 : Shape := ⟨3, ![1, 32, 128]⟩
abbrev S32x128 : Shape := ⟨2, ![32, 128]⟩
abbrev S128x32 : Shape := ⟨2, ![128, 32]⟩
abbrev S128x16x32 : Shape := ⟨3, ![128, 16, 32]⟩
abbrev S128x1x32 : Shape := ⟨3, ![128, 1, 32]⟩
abbrev S128x2x32 : Shape := ⟨3, ![128, 2, 32]⟩
abbrev S128x256 : Shape := ⟨2, ![128, 256]⟩
abbrev S8x16x32 : Shape := ⟨3, ![8, 16, 32]⟩
abbrev S8x32x32 : Shape := ⟨3, ![8, 32, 32]⟩
abbrev S256x256 : Shape := ⟨2, ![256, 256]⟩

abbrev nBuf : Space → Nat
  | .hbm => 4
  | .vmem => 13
  | .smem => 0
  | _ => 0

abbrev bufTy : (tb : Table) → Fin (tcTables nBuf tb) → BufTy
  | .hbm, ⟨0, _⟩ => ⟨S256x14336, .bf16⟩
  | .hbm, ⟨1, _⟩ => ⟨S448x496, .f32⟩
  | .hbm, ⟨2, _⟩ => ⟨S448x32x32, .bf16⟩
  | .hbm, ⟨3, _⟩ => ⟨S256x14336, .bf16⟩
  | .local _ .vmem, ⟨0, _⟩ => ⟨S128x496, .f32⟩
  | .local _ .vmem, ⟨1, _⟩ => ⟨S128x496, .f32⟩
  | .local _ .vmem, ⟨2, _⟩ => ⟨S256x4096, .bf16⟩
  | .local _ .vmem, ⟨3, _⟩ => ⟨S256x4096, .bf16⟩
  | .local _ .vmem, ⟨4, _⟩ => ⟨S128x32x32, .bf16⟩
  | .local _ .vmem, ⟨5, _⟩ => ⟨S128x32x32, .bf16⟩
  | .local _ .vmem, ⟨6, _⟩ => ⟨S256x4096, .bf16⟩
  | .local _ .vmem, ⟨7, _⟩ => ⟨S256x4096, .bf16⟩
  | .local _ .vmem, ⟨8, _⟩ => ⟨S512x128, .f32⟩
  | .local _ .vmem, ⟨9, _⟩ => ⟨S32x32x128, .f32⟩
  | .local _ .vmem, ⟨10, _⟩ => ⟨S32x32x128, .f32⟩
  | .local _ .vmem, ⟨11, _⟩ => ⟨S32x32x128, .f32⟩
  | .local _ .vmem, ⟨12, _⟩ => ⟨S512x128, .i32⟩
  | _, _ => ⟨S256x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![4], ![false]⟩

@[reducible] def k0_t1_loop : Scf.Loop 32 :=
  let c0_i32 : BitVec 32 := 0#32
  let c32_i32 : BitVec 32 := 32#32
  let v414 : BitVec 32 := Scalar.addi c0_i32 c32_i32
  let c1_i32 : BitVec 32 := 1#32
  ⟨c0_i32, v414, c1_i32⟩
def k0_off1 (k0_t1 : Fin k0_t1_loop.trips) : Fin 3 → Nat :=
  let c0_i32 : BitVec 32 := 0#32
  let c1_i32 : BitVec 32 := 1#32
  let arg10 : BitVec 32 := Scf.iv c0_i32 c1_i32 k0_t1
  let v557 : Index := Scalar.indexCast arg10
  let c0_423 : Index := 0#32
  let c0_424 : Index := 0#32
  ![v557.toNat, 0, 0]
def k0_off2 (k0_t1 : Fin k0_t1_loop.trips) : Fin 3 → Nat :=
  let c0_i32 : BitVec 32 := 0#32
  let c1_i32 : BitVec 32 := 1#32
  let arg10 : BitVec 32 := Scf.iv c0_i32 c1_i32 k0_t1
  let v564 : Index := Scalar.indexCast arg10
  let c1_428 : Index := 1#32
  let c0_429 : Index := 0#32
  ![v564.toNat, 1, 0]
def k0_off3 (k0_t1 : Fin k0_t1_loop.trips) : Fin 3 → Nat :=
  let c0_i32 : BitVec 32 := 0#32
  let c1_i32 : BitVec 32 := 1#32
  let arg10 : BitVec 32 := Scf.iv c0_i32 c1_i32 k0_t1
  let v572 : Index := Scalar.indexCast arg10
  let c2_433 : Index := 2#32
  let c0_434 : Index := 0#32
  ![v572.toNat, 2, 0]
def k0_off4 (k0_t1 : Fin k0_t1_loop.trips) : Fin 3 → Nat :=
  let c0_i32 : BitVec 32 := 0#32
  let c1_i32 : BitVec 32 := 1#32
  let arg10 : BitVec 32 := Scf.iv c0_i32 c1_i32 k0_t1
  let v580 : Index := Scalar.indexCast arg10
  let c3_438 : Index := 3#32
  let c0_439 : Index := 0#32
  ![v580.toNat, 3, 0]
def k0_off5 (k0_t1 : Fin k0_t1_loop.trips) : Fin 3 → Nat :=
  let c0_i32 : BitVec 32 := 0#32
  let c1_i32 : BitVec 32 := 1#32
  let arg10 : BitVec 32 := Scf.iv c0_i32 c1_i32 k0_t1
  let v588 : Index := Scalar.indexCast arg10
  let c4_443 : Index := 4#32
  let c0_444 : Index := 0#32
  ![v588.toNat, 4, 0]
def k0_off6 (k0_t1 : Fin k0_t1_loop.trips) : Fin 3 → Nat :=
  let c0_i32 : BitVec 32 := 0#32
  let c1_i32 : BitVec 32 := 1#32
  let arg10 : BitVec 32 := Scf.iv c0_i32 c1_i32 k0_t1
  let v596 : Index := Scalar.indexCast arg10
  let c5_448 : Index := 5#32
  let c0_449 : Index := 0#32
  ![v596.toNat, 5, 0]
def k0_off7 (k0_t1 : Fin k0_t1_loop.trips) : Fin 3 → Nat :=
  let c0_i32 : BitVec 32 := 0#32
  let c1_i32 : BitVec 32 := 1#32
  let arg10 : BitVec 32 := Scf.iv c0_i32 c1_i32 k0_t1
  let v604 : Index := Scalar.indexCast arg10
  let c6_453 : Index := 6#32
  let c0_454 : Index := 0#32
  ![v604.toNat, 6, 0]
def k0_off8 (k0_t1 : Fin k0_t1_loop.trips) : Fin 3 → Nat :=
  let c0_i32 : BitVec 32 := 0#32
  let c1_i32 : BitVec 32 := 1#32
  let arg10 : BitVec 32 := Scf.iv c0_i32 c1_i32 k0_t1
  let v612 : Index := Scalar.indexCast arg10
  let c7_458 : Index := 7#32
  let c0_459 : Index := 0#32
  ![v612.toNat, 7, 0]
def k0_off9 (k0_t1 : Fin k0_t1_loop.trips) : Fin 3 → Nat :=
  let c0_i32 : BitVec 32 := 0#32
  let c1_i32 : BitVec 32 := 1#32
  let arg10 : BitVec 32 := Scf.iv c0_i32 c1_i32 k0_t1
  let v620 : Index := Scalar.indexCast arg10
  let c8_463 : Index := 8#32
  let c0_464 : Index := 0#32
  ![v620.toNat, 8, 0]
def k0_off10 (k0_t1 : Fin k0_t1_loop.trips) : Fin 3 → Nat :=
  let c0_i32 : BitVec 32 := 0#32
  let c1_i32 : BitVec 32 := 1#32
  let arg10 : BitVec 32 := Scf.iv c0_i32 c1_i32 k0_t1
  let v628 : Index := Scalar.indexCast arg10
  let c9_468 : Index := 9#32
  let c0_469 : Index := 0#32
  ![v628.toNat, 9, 0]
def k0_off11 (k0_t1 : Fin k0_t1_loop.trips) : Fin 3 → Nat :=
  let c0_i32 : BitVec 32 := 0#32
  let c1_i32 : BitVec 32 := 1#32
  let arg10 : BitVec 32 := Scf.iv c0_i32 c1_i32 k0_t1
  let v636 : Index := Scalar.indexCast arg10
  let c10_473 : Index := 10#32
  let c0_474 : Index := 0#32
  ![v636.toNat, 10, 0]
def k0_off12 (k0_t1 : Fin k0_t1_loop.trips) : Fin 3 → Nat :=
  let c0_i32 : BitVec 32 := 0#32
  let c1_i32 : BitVec 32 := 1#32
  let arg10 : BitVec 32 := Scf.iv c0_i32 c1_i32 k0_t1
  let v644 : Index := Scalar.indexCast arg10
  let c11_478 : Index := 11#32
  let c0_479 : Index := 0#32
  ![v644.toNat, 11, 0]
def k0_off13 (k0_t1 : Fin k0_t1_loop.trips) : Fin 3 → Nat :=
  let c0_i32 : BitVec 32 := 0#32
  let c1_i32 : BitVec 32 := 1#32
  let arg10 : BitVec 32 := Scf.iv c0_i32 c1_i32 k0_t1
  let v652 : Index := Scalar.indexCast arg10
  let c12_483 : Index := 12#32
  let c0_484 : Index := 0#32
  ![v652.toNat, 12, 0]
def k0_off14 (k0_t1 : Fin k0_t1_loop.trips) : Fin 3 → Nat :=
  let c0_i32 : BitVec 32 := 0#32
  let c1_i32 : BitVec 32 := 1#32
  let arg10 : BitVec 32 := Scf.iv c0_i32 c1_i32 k0_t1
  let v660 : Index := Scalar.indexCast arg10
  let c13_488 : Index := 13#32
  let c0_489 : Index := 0#32
  ![v660.toNat, 13, 0]
def k0_off15 (k0_t1 : Fin k0_t1_loop.trips) : Fin 3 → Nat :=
  let c0_i32 : BitVec 32 := 0#32
  let c1_i32 : BitVec 32 := 1#32
  let arg10 : BitVec 32 := Scf.iv c0_i32 c1_i32 k0_t1
  let v668 : Index := Scalar.indexCast arg10
  let c14_493 : Index := 14#32
  let c0_494 : Index := 0#32
  ![v668.toNat, 14, 0]
def k0_off16 (k0_t1 : Fin k0_t1_loop.trips) : Fin 3 → Nat :=
  let c0_i32 : BitVec 32 := 0#32
  let c1_i32 : BitVec 32 := 1#32
  let arg10 : BitVec 32 := Scf.iv c0_i32 c1_i32 k0_t1
  let v676 : Index := Scalar.indexCast arg10
  let c15_498 : Index := 15#32
  let c0_499 : Index := 0#32
  ![v676.toNat, 15, 0]
def k0_off17 (k0_t1 : Fin k0_t1_loop.trips) : Fin 3 → Nat :=
  let c0_i32 : BitVec 32 := 0#32
  let c1_i32 : BitVec 32 := 1#32
  let arg10 : BitVec 32 := Scf.iv c0_i32 c1_i32 k0_t1
  let v684 : Index := Scalar.indexCast arg10
  let c16_503 : Index := 16#32
  let c0_504 : Index := 0#32
  ![v684.toNat, 16, 0]
def k0_off18 (k0_t1 : Fin k0_t1_loop.trips) : Fin 3 → Nat :=
  let c0_i32 : BitVec 32 := 0#32
  let c1_i32 : BitVec 32 := 1#32
  let arg10 : BitVec 32 := Scf.iv c0_i32 c1_i32 k0_t1
  let v692 : Index := Scalar.indexCast arg10
  let c17_508 : Index := 17#32
  let c0_509 : Index := 0#32
  ![v692.toNat, 17, 0]
def k0_off19 (k0_t1 : Fin k0_t1_loop.trips) : Fin 3 → Nat :=
  let c0_i32 : BitVec 32 := 0#32
  let c1_i32 : BitVec 32 := 1#32
  let arg10 : BitVec 32 := Scf.iv c0_i32 c1_i32 k0_t1
  let v700 : Index := Scalar.indexCast arg10
  let c18_513 : Index := 18#32
  let c0_514 : Index := 0#32
  ![v700.toNat, 18, 0]
def k0_off20 (k0_t1 : Fin k0_t1_loop.trips) : Fin 3 → Nat :=
  let c0_i32 : BitVec 32 := 0#32
  let c1_i32 : BitVec 32 := 1#32
  let arg10 : BitVec 32 := Scf.iv c0_i32 c1_i32 k0_t1
  let v708 : Index := Scalar.indexCast arg10
  let c19_518 : Index := 19#32
  let c0_519 : Index := 0#32
  ![v708.toNat, 19, 0]
def k0_off21 (k0_t1 : Fin k0_t1_loop.trips) : Fin 3 → Nat :=
  let c0_i32 : BitVec 32 := 0#32
  let c1_i32 : BitVec 32 := 1#32
  let arg10 : BitVec 32 := Scf.iv c0_i32 c1_i32 k0_t1
  let v716 : Index := Scalar.indexCast arg10
  let c20_523 : Index := 20#32
  let c0_524 : Index := 0#32
  ![v716.toNat, 20, 0]
def k0_off22 (k0_t1 : Fin k0_t1_loop.trips) : Fin 3 → Nat :=
  let c0_i32 : BitVec 32 := 0#32
  let c1_i32 : BitVec 32 := 1#32
  let arg10 : BitVec 32 := Scf.iv c0_i32 c1_i32 k0_t1
  let v724 : Index := Scalar.indexCast arg10
  let c21_528 : Index := 21#32
  let c0_529 : Index := 0#32
  ![v724.toNat, 21, 0]
def k0_off23 (k0_t1 : Fin k0_t1_loop.trips) : Fin 3 → Nat :=
  let c0_i32 : BitVec 32 := 0#32
  let c1_i32 : BitVec 32 := 1#32
  let arg10 : BitVec 32 := Scf.iv c0_i32 c1_i32 k0_t1
  let v732 : Index := Scalar.indexCast arg10
  let c22_533 : Index := 22#32
  let c0_534 : Index := 0#32
  ![v732.toNat, 22, 0]
def k0_off24 (k0_t1 : Fin k0_t1_loop.trips) : Fin 3 → Nat :=
  let c0_i32 : BitVec 32 := 0#32
  let c1_i32 : BitVec 32 := 1#32
  let arg10 : BitVec 32 := Scf.iv c0_i32 c1_i32 k0_t1
  let v740 : Index := Scalar.indexCast arg10
  let c23_538 : Index := 23#32
  let c0_539 : Index := 0#32
  ![v740.toNat, 23, 0]
def k0_off25 (k0_t1 : Fin k0_t1_loop.trips) : Fin 3 → Nat :=
  let c0_i32 : BitVec 32 := 0#32
  let c1_i32 : BitVec 32 := 1#32
  let arg10 : BitVec 32 := Scf.iv c0_i32 c1_i32 k0_t1
  let v748 : Index := Scalar.indexCast arg10
  let c24_543 : Index := 24#32
  let c0_544 : Index := 0#32
  ![v748.toNat, 24, 0]
def k0_off26 (k0_t1 : Fin k0_t1_loop.trips) : Fin 3 → Nat :=
  let c0_i32 : BitVec 32 := 0#32
  let c1_i32 : BitVec 32 := 1#32
  let arg10 : BitVec 32 := Scf.iv c0_i32 c1_i32 k0_t1
  let v756 : Index := Scalar.indexCast arg10
  let c25_548 : Index := 25#32
  let c0_549 : Index := 0#32
  ![v756.toNat, 25, 0]
def k0_off27 (k0_t1 : Fin k0_t1_loop.trips) : Fin 3 → Nat :=
  let c0_i32 : BitVec 32 := 0#32
  let c1_i32 : BitVec 32 := 1#32
  let arg10 : BitVec 32 := Scf.iv c0_i32 c1_i32 k0_t1
  let v764 : Index := Scalar.indexCast arg10
  let c26_553 : Index := 26#32
  let c0_554 : Index := 0#32
  ![v764.toNat, 26, 0]
def k0_off28 (k0_t1 : Fin k0_t1_loop.trips) : Fin 3 → Nat :=
  let c0_i32 : BitVec 32 := 0#32
  let c1_i32 : BitVec 32 := 1#32
  let arg10 : BitVec 32 := Scf.iv c0_i32 c1_i32 k0_t1
  let v772 : Index := Scalar.indexCast arg10
  let c27_558 : Index := 27#32
  let c0_559 : Index := 0#32
  ![v772.toNat, 27, 0]
def k0_off29 (k0_t1 : Fin k0_t1_loop.trips) : Fin 3 → Nat :=
  let c0_i32 : BitVec 32 := 0#32
  let c1_i32 : BitVec 32 := 1#32
  let arg10 : BitVec 32 := Scf.iv c0_i32 c1_i32 k0_t1
  let v780 : Index := Scalar.indexCast arg10
  let c28_563 : Index := 28#32
  let c0_564 : Index := 0#32
  ![v780.toNat, 28, 0]
def k0_off30 (k0_t1 : Fin k0_t1_loop.trips) : Fin 3 → Nat :=
  let c0_i32 : BitVec 32 := 0#32
  let c1_i32 : BitVec 32 := 1#32
  let arg10 : BitVec 32 := Scf.iv c0_i32 c1_i32 k0_t1
  let v788 : Index := Scalar.indexCast arg10
  let c29_568 : Index := 29#32
  let c0_569 : Index := 0#32
  ![v788.toNat, 29, 0]
def k0_off31 (k0_t1 : Fin k0_t1_loop.trips) : Fin 3 → Nat :=
  let c0_i32 : BitVec 32 := 0#32
  let c1_i32 : BitVec 32 := 1#32
  let arg10 : BitVec 32 := Scf.iv c0_i32 c1_i32 k0_t1
  let v796 : Index := Scalar.indexCast arg10
  let c30_573 : Index := 30#32
  let c0_574 : Index := 0#32
  ![v796.toNat, 30, 0]
def k0_off32 (k0_t1 : Fin k0_t1_loop.trips) : Fin 3 → Nat :=
  let c0_i32 : BitVec 32 := 0#32
  let c1_i32 : BitVec 32 := 1#32
  let arg10 : BitVec 32 := Scf.iv c0_i32 c1_i32 k0_t1
  let v804 : Index := Scalar.indexCast arg10
  let c31_578 : Index := 31#32
  let c0_579 : Index := 0#32
  ![v804.toNat, 31, 0]
def k0_off33 (k0_t1 : Fin k0_t1_loop.trips) : Fin 3 → Nat :=
  let c0_i32 : BitVec 32 := 0#32
  let c1_i32 : BitVec 32 := 1#32
  let arg10 : BitVec 32 := Scf.iv c0_i32 c1_i32 k0_t1
  let v812 : Index := Scalar.indexCast arg10
  let c0_583 : Index := 0#32
  let c0_584 : Index := 0#32
  ![v812.toNat, 0, 0]
@[reducible] def k0_t2_loop : Scf.Loop 32 :=
  let c0_i32_351 : BitVec 32 := 0#32
  let c16_i32 : BitVec 32 := 16#32
  let v415 : BitVec 32 := Scalar.addi c0_i32_351 c16_i32
  let c1_i32_352 : BitVec 32 := 1#32
  ⟨c0_i32_351, v415, c1_i32_352⟩
def k0_off34 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v560 : Index := Scalar.indexCast v557
  let c0_425 : Index := 0#32
  let c0_426 : Index := 0#32
  ![v560.toNat, 0, 0]
def k0_off35 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v567 : Index := Scalar.indexCast v557
  let c1_430 : Index := 1#32
  let c0_431 : Index := 0#32
  ![v567.toNat, 1, 0]
def k0_off36 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v575 : Index := Scalar.indexCast v557
  let c2_435 : Index := 2#32
  let c0_436 : Index := 0#32
  ![v575.toNat, 2, 0]
def k0_off37 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v583 : Index := Scalar.indexCast v557
  let c3_440 : Index := 3#32
  let c0_441 : Index := 0#32
  ![v583.toNat, 3, 0]
def k0_off38 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v591 : Index := Scalar.indexCast v557
  let c4_445 : Index := 4#32
  let c0_446 : Index := 0#32
  ![v591.toNat, 4, 0]
def k0_off39 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v599 : Index := Scalar.indexCast v557
  let c5_450 : Index := 5#32
  let c0_451 : Index := 0#32
  ![v599.toNat, 5, 0]
def k0_off40 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v607 : Index := Scalar.indexCast v557
  let c6_455 : Index := 6#32
  let c0_456 : Index := 0#32
  ![v607.toNat, 6, 0]
def k0_off41 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v615 : Index := Scalar.indexCast v557
  let c7_460 : Index := 7#32
  let c0_461 : Index := 0#32
  ![v615.toNat, 7, 0]
def k0_off42 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v623 : Index := Scalar.indexCast v557
  let c8_465 : Index := 8#32
  let c0_466 : Index := 0#32
  ![v623.toNat, 8, 0]
def k0_off43 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v631 : Index := Scalar.indexCast v557
  let c9_470 : Index := 9#32
  let c0_471 : Index := 0#32
  ![v631.toNat, 9, 0]
def k0_off44 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v639 : Index := Scalar.indexCast v557
  let c10_475 : Index := 10#32
  let c0_476 : Index := 0#32
  ![v639.toNat, 10, 0]
def k0_off45 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v647 : Index := Scalar.indexCast v557
  let c11_480 : Index := 11#32
  let c0_481 : Index := 0#32
  ![v647.toNat, 11, 0]
def k0_off46 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v655 : Index := Scalar.indexCast v557
  let c12_485 : Index := 12#32
  let c0_486 : Index := 0#32
  ![v655.toNat, 12, 0]
def k0_off47 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v663 : Index := Scalar.indexCast v557
  let c13_490 : Index := 13#32
  let c0_491 : Index := 0#32
  ![v663.toNat, 13, 0]
def k0_off48 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v671 : Index := Scalar.indexCast v557
  let c14_495 : Index := 14#32
  let c0_496 : Index := 0#32
  ![v671.toNat, 14, 0]
def k0_off49 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v679 : Index := Scalar.indexCast v557
  let c15_500 : Index := 15#32
  let c0_501 : Index := 0#32
  ![v679.toNat, 15, 0]
def k0_off50 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v687 : Index := Scalar.indexCast v557
  let c16_505 : Index := 16#32
  let c0_506 : Index := 0#32
  ![v687.toNat, 16, 0]
def k0_off51 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v695 : Index := Scalar.indexCast v557
  let c17_510 : Index := 17#32
  let c0_511 : Index := 0#32
  ![v695.toNat, 17, 0]
def k0_off52 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v703 : Index := Scalar.indexCast v557
  let c18_515 : Index := 18#32
  let c0_516 : Index := 0#32
  ![v703.toNat, 18, 0]
def k0_off53 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v711 : Index := Scalar.indexCast v557
  let c19_520 : Index := 19#32
  let c0_521 : Index := 0#32
  ![v711.toNat, 19, 0]
def k0_off54 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v719 : Index := Scalar.indexCast v557
  let c20_525 : Index := 20#32
  let c0_526 : Index := 0#32
  ![v719.toNat, 20, 0]
def k0_off55 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v727 : Index := Scalar.indexCast v557
  let c21_530 : Index := 21#32
  let c0_531 : Index := 0#32
  ![v727.toNat, 21, 0]
def k0_off56 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v735 : Index := Scalar.indexCast v557
  let c22_535 : Index := 22#32
  let c0_536 : Index := 0#32
  ![v735.toNat, 22, 0]
def k0_off57 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v743 : Index := Scalar.indexCast v557
  let c23_540 : Index := 23#32
  let c0_541 : Index := 0#32
  ![v743.toNat, 23, 0]
def k0_off58 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v751 : Index := Scalar.indexCast v557
  let c24_545 : Index := 24#32
  let c0_546 : Index := 0#32
  ![v751.toNat, 24, 0]
def k0_off59 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v759 : Index := Scalar.indexCast v557
  let c25_550 : Index := 25#32
  let c0_551 : Index := 0#32
  ![v759.toNat, 25, 0]
def k0_off60 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v767 : Index := Scalar.indexCast v557
  let c26_555 : Index := 26#32
  let c0_556 : Index := 0#32
  ![v767.toNat, 26, 0]
def k0_off61 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v775 : Index := Scalar.indexCast v557
  let c27_560 : Index := 27#32
  let c0_561 : Index := 0#32
  ![v775.toNat, 27, 0]
def k0_off62 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v783 : Index := Scalar.indexCast v557
  let c28_565 : Index := 28#32
  let c0_566 : Index := 0#32
  ![v783.toNat, 28, 0]
def k0_off63 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v791 : Index := Scalar.indexCast v557
  let c29_570 : Index := 29#32
  let c0_571 : Index := 0#32
  ![v791.toNat, 29, 0]
def k0_off64 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v799 : Index := Scalar.indexCast v557
  let c30_575 : Index := 30#32
  let c0_576 : Index := 0#32
  ![v799.toNat, 30, 0]
def k0_off65 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v807 : Index := Scalar.indexCast v557
  let c31_580 : Index := 31#32
  let c0_581 : Index := 0#32
  ![v807.toNat, 31, 0]
def k0_off66 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v815 : Index := Scalar.indexCast v557
  let c0_585 : Index := 0#32
  let c0_586 : Index := 0#32
  ![v815.toNat, 0, 0]
def k0_off67 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v821 : Index := Scalar.indexCast v559
  let c0_588 : Index := 0#32
  let c0_589 : Index := 0#32
  ![v821.toNat, 0, 0]
def k0_off68 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v828 : Index := Scalar.indexCast v559
  let c1_593 : Index := 1#32
  let c0_594 : Index := 0#32
  ![v828.toNat, 1, 0]
def k0_off69 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v836 : Index := Scalar.indexCast v559
  let c2_598 : Index := 2#32
  let c0_599 : Index := 0#32
  ![v836.toNat, 2, 0]
def k0_off70 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v844 : Index := Scalar.indexCast v559
  let c3_603 : Index := 3#32
  let c0_604 : Index := 0#32
  ![v844.toNat, 3, 0]
def k0_off71 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v852 : Index := Scalar.indexCast v559
  let c4_608 : Index := 4#32
  let c0_609 : Index := 0#32
  ![v852.toNat, 4, 0]
def k0_off72 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v860 : Index := Scalar.indexCast v559
  let c5_613 : Index := 5#32
  let c0_614 : Index := 0#32
  ![v860.toNat, 5, 0]
def k0_off73 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v868 : Index := Scalar.indexCast v559
  let c6_618 : Index := 6#32
  let c0_619 : Index := 0#32
  ![v868.toNat, 6, 0]
def k0_off74 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v876 : Index := Scalar.indexCast v559
  let c7_623 : Index := 7#32
  let c0_624 : Index := 0#32
  ![v876.toNat, 7, 0]
def k0_off75 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v884 : Index := Scalar.indexCast v559
  let c8_628 : Index := 8#32
  let c0_629 : Index := 0#32
  ![v884.toNat, 8, 0]
def k0_off76 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v892 : Index := Scalar.indexCast v559
  let c9_633 : Index := 9#32
  let c0_634 : Index := 0#32
  ![v892.toNat, 9, 0]
def k0_off77 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v900 : Index := Scalar.indexCast v559
  let c10_638 : Index := 10#32
  let c0_639 : Index := 0#32
  ![v900.toNat, 10, 0]
def k0_off78 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v908 : Index := Scalar.indexCast v559
  let c11_643 : Index := 11#32
  let c0_644 : Index := 0#32
  ![v908.toNat, 11, 0]
def k0_off79 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v916 : Index := Scalar.indexCast v559
  let c12_648 : Index := 12#32
  let c0_649 : Index := 0#32
  ![v916.toNat, 12, 0]
def k0_off80 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v924 : Index := Scalar.indexCast v559
  let c13_653 : Index := 13#32
  let c0_654 : Index := 0#32
  ![v924.toNat, 13, 0]
def k0_off81 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v932 : Index := Scalar.indexCast v559
  let c14_658 : Index := 14#32
  let c0_659 : Index := 0#32
  ![v932.toNat, 14, 0]
def k0_off82 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v940 : Index := Scalar.indexCast v559
  let c15_663 : Index := 15#32
  let c0_664 : Index := 0#32
  ![v940.toNat, 15, 0]
def k0_off83 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v948 : Index := Scalar.indexCast v559
  let c16_668 : Index := 16#32
  let c0_669 : Index := 0#32
  ![v948.toNat, 16, 0]
def k0_off84 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v956 : Index := Scalar.indexCast v559
  let c17_673 : Index := 17#32
  let c0_674 : Index := 0#32
  ![v956.toNat, 17, 0]
def k0_off85 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v964 : Index := Scalar.indexCast v559
  let c18_678 : Index := 18#32
  let c0_679 : Index := 0#32
  ![v964.toNat, 18, 0]
def k0_off86 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v972 : Index := Scalar.indexCast v559
  let c19_683 : Index := 19#32
  let c0_684 : Index := 0#32
  ![v972.toNat, 19, 0]
def k0_off87 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v980 : Index := Scalar.indexCast v559
  let c20_688 : Index := 20#32
  let c0_689 : Index := 0#32
  ![v980.toNat, 20, 0]
def k0_off88 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v988 : Index := Scalar.indexCast v559
  let c21_693 : Index := 21#32
  let c0_694 : Index := 0#32
  ![v988.toNat, 21, 0]
def k0_off89 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v996 : Index := Scalar.indexCast v559
  let c22_698 : Index := 22#32
  let c0_699 : Index := 0#32
  ![v996.toNat, 22, 0]
def k0_off90 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1004 : Index := Scalar.indexCast v559
  let c23_703 : Index := 23#32
  let c0_704 : Index := 0#32
  ![v1004.toNat, 23, 0]
def k0_off91 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1012 : Index := Scalar.indexCast v559
  let c24_708 : Index := 24#32
  let c0_709 : Index := 0#32
  ![v1012.toNat, 24, 0]
def k0_off92 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1020 : Index := Scalar.indexCast v559
  let c25_713 : Index := 25#32
  let c0_714 : Index := 0#32
  ![v1020.toNat, 25, 0]
def k0_off93 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1028 : Index := Scalar.indexCast v559
  let c26_718 : Index := 26#32
  let c0_719 : Index := 0#32
  ![v1028.toNat, 26, 0]
def k0_off94 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1036 : Index := Scalar.indexCast v559
  let c27_723 : Index := 27#32
  let c0_724 : Index := 0#32
  ![v1036.toNat, 27, 0]
def k0_off95 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1044 : Index := Scalar.indexCast v559
  let c28_728 : Index := 28#32
  let c0_729 : Index := 0#32
  ![v1044.toNat, 28, 0]
def k0_off96 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1052 : Index := Scalar.indexCast v559
  let c29_733 : Index := 29#32
  let c0_734 : Index := 0#32
  ![v1052.toNat, 29, 0]
def k0_off97 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1060 : Index := Scalar.indexCast v559
  let c30_738 : Index := 30#32
  let c0_739 : Index := 0#32
  ![v1060.toNat, 30, 0]
def k0_off98 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1068 : Index := Scalar.indexCast v559
  let c31_743 : Index := 31#32
  let c0_744 : Index := 0#32
  ![v1068.toNat, 31, 0]
def k0_off99 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1076 : Index := Scalar.indexCast v559
  let c0_748 : Index := 0#32
  let c0_749 : Index := 0#32
  ![v1076.toNat, 0, 0]
def k0_mult1 (k0_t2 : Fin k0_t2_loop.trips) : BitVec 32 :=
  let c0_i32_351 : BitVec 32 := 0#32
  let c1_i32_352 : BitVec 32 := 1#32
  let arg10 : BitVec 32 := Scf.iv c0_i32_351 c1_i32_352 k0_t2
  let c32_i32_751 : BitVec 32 := 32#32
  let v1083 : BitVec 32 := Scalar.muli arg10 c32_i32_751
  v1083
def k0_off100 (k0_t2 : Fin k0_t2_loop.trips) : Fin 2 → Nat :=
  let c0_i32_351 : BitVec 32 := 0#32
  let c1_i32_352 : BitVec 32 := 1#32
  let arg10 : BitVec 32 := Scf.iv c0_i32_351 c1_i32_352 k0_t2
  let c32_i32_751 : BitVec 32 := 32#32
  let v1083 : BitVec 32 := Scalar.muli arg10 c32_i32_751
  let v1084 : BitVec 32 := v1083
  let v1085 : Index := Scalar.indexCast v1084
  let c0_752 : Index := 0#32
  ![v1085.toNat, 0]
@[reducible] def k0_t3_loop : Scf.Loop 32 :=
  let c0_i32_419 : BitVec 32 := 0#32
  let c16_i32_420 : BitVec 32 := 16#32
  let v556 : BitVec 32 := Scalar.addi c0_i32_419 c16_i32_420
  let c1_i32_421 : BitVec 32 := 1#32
  ⟨c0_i32_419, v556, c1_i32_421⟩
def k0_off101 (k0_t3 : Fin k0_t3_loop.trips) : Fin 3 → Nat :=
  let c0_i32_419 : BitVec 32 := 0#32
  let c1_i32_421 : BitVec 32 := 1#32
  let arg10 : BitVec 32 := Scf.iv c0_i32_419 c1_i32_421 k0_t3
  let c8_i32 : BitVec 32 := 8#32
  let v557 : BitVec 32 := Scalar.muli arg10 c8_i32
  let v559 : Index := Scalar.indexCast v557
  let c0_424 : Index := 0#32
  ![v559.toNat, 0, 0]
def k0_mult2 (k0_t3 : Fin k0_t3_loop.trips) : BitVec 32 :=
  let c0_i32_419 : BitVec 32 := 0#32
  let c1_i32_421 : BitVec 32 := 1#32
  let arg10 : BitVec 32 := Scf.iv c0_i32_419 c1_i32_421 k0_t3
  let c256_i32 : BitVec 32 := 256#32
  let v567 : BitVec 32 := Scalar.muli arg10 c256_i32
  v567
def k0_off102 (k0_t3 : Fin k0_t3_loop.trips) : Fin 2 → Nat :=
  let c0_426 : Index := 0#32
  let c0_i32_419 : BitVec 32 := 0#32
  let c1_i32_421 : BitVec 32 := 1#32
  let arg10 : BitVec 32 := Scf.iv c0_i32_419 c1_i32_421 k0_t3
  let c256_i32 : BitVec 32 := 256#32
  let v567 : BitVec 32 := Scalar.muli arg10 c256_i32
  let v568 : BitVec 32 := v567
  let v569 : Index := Scalar.indexCast v568
  ![0, v569.toNat]
def k0_mult3 (k0_t3 : Fin k0_t3_loop.trips) : BitVec 32 :=
  let c0_i32_419 : BitVec 32 := 0#32
  let c1_i32_421 : BitVec 32 := 1#32
  let arg10 : BitVec 32 := Scf.iv c0_i32_419 c1_i32_421 k0_t3
  let c256_i32_428 : BitVec 32 := 256#32
  let v576 : BitVec 32 := Scalar.muli arg10 c256_i32_428
  v576
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x496 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RotationIdeal.lean ====
abbrev S256x14336 : Shape := ⟨2, ![256, 14336]⟩
abbrev S448x496 : Shape := ⟨2, ![448, 496]⟩
abbrev S448x32x32 : Shape := ⟨3, ![448, 32, 32]⟩
abbrev S128x496 : Shape := ⟨2, ![128, 496]⟩
abbrev S256x4096 : Shape := ⟨2, ![256, 4096]⟩
abbrev S128x32x32 : Shape := ⟨3, ![128, 32, 32]⟩
abbrev S512x128 : Shape := ⟨2, ![512, 128]⟩
abbrev S32x32x128 : Shape := ⟨3, ![32, 32, 128]⟩
abbrev S512x2x128 : Shape := ⟨3, ![512, 2, 128]⟩
abbrev S512x1x128 : Shape := ⟨3, ![512, 1, 128]⟩
abbrev S128x16 : Shape := ⟨2, ![128, 16]⟩
abbrev S128x512 : Shape := ⟨2, ![128, 512]⟩
abbrev S1x128 : Shape := ⟨2, ![1, 128]⟩
abbrev S1x1x128 : Shape := ⟨3, ![1, 1, 128]⟩
abbrev S31x128 : Shape := ⟨2, ![31, 128]⟩
abbrev S1x31x128 : Shape := ⟨3, ![1, 31, 128]⟩
abbrev S31x1x128 : Shape := ⟨3, ![31, 1, 128]⟩
abbrev S30x128 : Shape := ⟨2, ![30, 128]⟩
abbrev S1x30x128 : Shape := ⟨3, ![1, 30, 128]⟩
abbrev S30x1x128 : Shape := ⟨3, ![30, 1, 128]⟩
abbrev S29x128 : Shape := ⟨2, ![29, 128]⟩
abbrev S1x29x128 : Shape := ⟨3, ![1, 29, 128]⟩
abbrev S29x1x128 : Shape := ⟨3, ![29, 1, 128]⟩
abbrev S28x128 : Shape := ⟨2, ![28, 128]⟩
abbrev S1x28x128 : Shape := ⟨3, ![1, 28, 128]⟩
abbrev S28x1x128 : Shape := ⟨3, ![28, 1, 128]⟩
abbrev S27x128 : Shape := ⟨2, ![27, 128]⟩
abbrev S1x27x128 : Shape := ⟨3, ![1, 27, 128]⟩
abbrev S27x1x128 : Shape := ⟨3, ![27, 1, 128]⟩
abbrev S26x128 : Shape := ⟨2, ![26, 128]⟩
abbrev S1x26x128 : Shape := ⟨3, ![1, 26, 128]⟩
abbrev S26x1x128 : Shape := ⟨3, ![26, 1, 128]⟩
abbrev S25x128 : Shape := ⟨2, ![25, 128]⟩
abbrev S1x25x128 : Shape := ⟨3, ![1, 25, 128]⟩
abbrev S25x1x128 : Shape := ⟨3, ![25, 1, 128]⟩
abbrev S24x128 : Shape := ⟨2, ![24, 128]⟩
abbrev S1x24x128 : Shape := ⟨3, ![1, 24, 128]⟩
abbrev S24x1x128 : Shape := ⟨3, ![24, 1, 128]⟩
abbrev S23x128 : Shape := ⟨2, ![23, 128]⟩
abbrev S1x23x128 : Shape := ⟨3, ![1, 23, 128]⟩
abbrev S23x1x128 : Shape := ⟨3, ![23, 1, 128]⟩
abbrev S22x128 : Shape := ⟨2, ![22, 128]⟩
abbrev S1x22x128 : Shape := ⟨3, ![1, 22, 128]⟩
abbrev S22x1x128 : Shape := ⟨3, ![22, 1, 128]⟩
abbrev S21x128 : Shape := ⟨2, ![21, 128]⟩
abbrev S1x21x128 : Shape := ⟨3, ![1, 21, 128]⟩
abbrev S21x1x128 : Shape := ⟨3, ![21, 1, 128]⟩
abbrev S20x128 : Shape := ⟨2, ![20, 128]⟩
abbrev S1x20x128 : Shape := ⟨3, ![1, 20, 128]⟩
abbrev S20x1x128 : Shape := ⟨3, ![20, 1, 128]⟩
abbrev S19x128 : Shape := ⟨2, ![19, 128]⟩
abbrev S1x19x128 : Shape := ⟨3, ![1, 19, 128]⟩
abbrev S19x1x128 : Shape := ⟨3, ![19, 1, 128]⟩
abbrev S18x128 : Shape := ⟨2, ![18, 128]⟩
abbrev S1x18x128 : Shape := ⟨3, ![1, 18, 128]⟩
abbrev S18x1x128 : Shape := ⟨3, ![18, 1, 128]⟩
abbrev S17x128 : Shape := ⟨2, ![17, 128]⟩
abbrev S1x17x128 : Shape := ⟨3, ![1, 17, 128]⟩
abbrev S17x1x128 : Shape := ⟨3, ![17, 1, 128]⟩
abbrev S16x128 : Shape := ⟨2, ![16, 128]⟩
abbrev S1x16x128 : Shape := ⟨3, ![1, 16, 128]⟩
abbrev S16x1x128 : Shape := ⟨3, ![16, 1, 128]⟩
abbrev S15x128 : Shape := ⟨2, ![15, 128]⟩
abbrev S1x15x128 : Shape := ⟨3, ![1, 15, 128]⟩
abbrev S15x1x128 : Shape := ⟨3, ![15, 1, 128]⟩
abbrev S14x128 : Shape := ⟨2, ![14, 128]⟩
abbrev S1x14x128 : Shape := ⟨3, ![1, 14, 128]⟩
abbrev S14x1x128 : Shape := ⟨3, ![14, 1, 128]⟩
abbrev S13x128 : Shape := ⟨2, ![13, 128]⟩
abbrev S1x13x128 : Shape := ⟨3, ![1, 13, 128]⟩
abbrev S13x1x128 : Shape := ⟨3, ![13, 1, 128]⟩
abbrev S12x128 : Shape := ⟨2, ![12, 128]⟩
abbrev S1x12x128 : Shape := ⟨3, ![1, 12, 128]⟩
abbrev S12x1x128 : Shape := ⟨3, ![12, 1, 128]⟩
abbrev S11x128 : Shape := ⟨2, ![11, 128]⟩
abbrev S1x11x128 : Shape := ⟨3, ![1, 11, 128]⟩
abbrev S11x1x128 : Shape := ⟨3, ![11, 1, 128]⟩
abbrev S10x128 : Shape := ⟨2, ![10, 128]⟩
abbrev S1x10x128 : Shape := ⟨3, ![1, 10, 128]⟩
abbrev S10x1x128 : Shape := ⟨3, ![10, 1, 128]⟩
abbrev S9x128 : Shape := ⟨2, ![9, 128]⟩
abbrev S1x9x128 : Shape := ⟨3, ![1, 9, 128]⟩
abbrev S9x1x128 : Shape := ⟨3, ![9, 1, 128]⟩
abbrev S8x128 : Shape := ⟨2, ![8, 128]⟩
abbrev S1x8x128 : Shape := ⟨3, ![1, 8, 128]⟩
abbrev S8x1x128 : Shape := ⟨3, ![8, 1, 128]⟩
abbrev S7x128 : Shape := ⟨2, ![7, 128]⟩
abbrev S1x7x128 : Shape := ⟨3, ![1, 7, 128]⟩
abbrev S7x1x128 : Shape := ⟨3, ![7, 1, 128]⟩
abbrev S6x128 : Shape := ⟨2, ![6, 128]⟩
abbrev S1x6x128 : Shape := ⟨3, ![1, 6, 128]⟩
abbrev S6x1x128 : Shape := ⟨3, ![6, 1, 128]⟩
abbrev S5x128 : Shape := ⟨2, ![5, 128]⟩
abbrev S1x5x128 : Shape := ⟨3, ![1, 5, 128]⟩
abbrev S5x1x128 : Shape := ⟨3, ![5, 1, 128]⟩
abbrev S4x128 : Shape := ⟨2, ![4, 128]⟩
abbrev S1x4x128 : Shape := ⟨3, ![1, 4, 128]⟩
abbrev S4x1x128 : Shape := ⟨3, ![4, 1, 128]⟩
abbrev S3x128 : Shape := ⟨2, ![3, 128]⟩
abbrev S1x3x128 : Shape := ⟨3, ![1, 3, 128]⟩
abbrev S3x1x128 : Shape := ⟨3, ![3, 1, 128]⟩
abbrev S2x128 : Shape := ⟨2, ![2, 128]⟩
abbrev S1x2x128 : Shape := ⟨3, ![1, 2, 128]⟩
abbrev S2x1x128 : Shape := ⟨3, ![2, 1, 128]⟩
abbrev S1x32x128 : Shape := ⟨3, ![1, 32, 128]⟩
abbrev S32x128 : Shape := ⟨2, ![32, 128]⟩
abbrev S32x2x128 : Shape := ⟨3, ![32, 2, 128]⟩
abbrev S32x1x128 : Shape := ⟨3, ![32, 1, 128]⟩
abbrev S1024x128 : Shape := ⟨2, ![1024, 128]⟩
abbrev S128x32 : Shape := ⟨2, ![128, 32]⟩
abbrev S128x16x32 : Shape := ⟨3, ![128, 16, 32]⟩
abbrev S128x1x32 : Shape := ⟨3, ![128, 1, 32]⟩
abbrev S128x2x32 : Shape := ⟨3, ![128, 2, 32]⟩
abbrev S128x256 : Shape := ⟨2, ![128, 256]⟩
abbrev S8x16x32 : Shape := ⟨3, ![8, 16, 32]⟩
abbrev S8x32x32 : Shape := ⟨3, ![8, 32, 32]⟩
abbrev S256x256 : Shape := ⟨2, ![256, 256]⟩

abbrev nBuf : Space → Nat
  | .hbm => 4
  | .vmem => 13
  | .smem => 0
  | _ => 0

abbrev bufTy : (tb : Table) → Fin (tcTables nBuf tb) → BufTy
  | .hbm, ⟨0, _⟩ => ⟨S256x14336, .bf16⟩
  | .hbm, ⟨1, _⟩ => ⟨S448x496, .f32⟩
  | .hbm, ⟨2, _⟩ => ⟨S448x32x32, .bf16⟩
  | .hbm, ⟨3, _⟩ => ⟨S256x14336, .bf16⟩
  | .local _ .vmem, ⟨0, _⟩ => ⟨S128x496, .f32⟩
  | .local _ .vmem, ⟨1, _⟩ => ⟨S128x496, .f32⟩
  | .local _ .vmem, ⟨2, _⟩ => ⟨S256x4096, .bf16⟩
  | .local _ .vmem, ⟨3, _⟩ => ⟨S256x4096, .bf16⟩
  | .local _ .vmem, ⟨4, _⟩ => ⟨S128x32x32, .bf16⟩
  | .local _ .vmem, ⟨5, _⟩ => ⟨S128x32x32, .bf16⟩
  | .local _ .vmem, ⟨6, _⟩ => ⟨S256x4096, .bf16⟩
  | .local _ .vmem, ⟨7, _⟩ => ⟨S256x4096, .bf16⟩
  | .local _ .vmem, ⟨8, _⟩ => ⟨S512x128, .f32⟩
  | .local _ .vmem, ⟨9, _⟩ => ⟨S32x32x128, .f32⟩
  | .local _ .vmem, ⟨10, _⟩ => ⟨S32x32x128, .f32⟩
  | .local _ .vmem, ⟨11, _⟩ => ⟨S32x32x128, .f32⟩
  | .local _ .vmem, ⟨12, _⟩ => ⟨S512x2x128, .bf16⟩
  | _, _ => ⟨S256x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v414 : BitVec 32 := Scalar.addi c0_i32 c32_i32
  let c1_i32 : BitVec 32 := 1#32
  ⟨c0_i32, v414, c1_i32⟩
def k0_off1 (k0_t1 : Fin k0_t1_loop.trips) : Fin 3 → Nat :=
  let c0_i32 : BitVec 32 := 0#32
  let c1_i32 : BitVec 32 := 1#32
  let arg10 : BitVec 32 := Scf.iv c0_i32 c1_i32 k0_t1
  let v557 : Index := Scalar.indexCast arg10
  let c0_423 : Index := 0#32
  let c0_424 : Index := 0#32
  ![v557.toNat, 0, 0]
def k0_off2 (k0_t1 : Fin k0_t1_loop.trips) : Fin 3 → Nat :=
  let c0_i32 : BitVec 32 := 0#32
  let c1_i32 : BitVec 32 := 1#32
  let arg10 : BitVec 32 := Scf.iv c0_i32 c1_i32 k0_t1
  let v564 : Index := Scalar.indexCast arg10
  let c1_428 : Index := 1#32
  let c0_429 : Index := 0#32
  ![v564.toNat, 1, 0]
def k0_off3 (k0_t1 : Fin k0_t1_loop.trips) : Fin 3 → Nat :=
  let c0_i32 : BitVec 32 := 0#32
  let c1_i32 : BitVec 32 := 1#32
  let arg10 : BitVec 32 := Scf.iv c0_i32 c1_i32 k0_t1
  let v572 : Index := Scalar.indexCast arg10
  let c2_433 : Index := 2#32
  let c0_434 : Index := 0#32
  ![v572.toNat, 2, 0]
def k0_off4 (k0_t1 : Fin k0_t1_loop.trips) : Fin 3 → Nat :=
  let c0_i32 : BitVec 32 := 0#32
  let c1_i32 : BitVec 32 := 1#32
  let arg10 : BitVec 32 := Scf.iv c0_i32 c1_i32 k0_t1
  let v580 : Index := Scalar.indexCast arg10
  let c3_438 : Index := 3#32
  let c0_439 : Index := 0#32
  ![v580.toNat, 3, 0]
def k0_off5 (k0_t1 : Fin k0_t1_loop.trips) : Fin 3 → Nat :=
  let c0_i32 : BitVec 32 := 0#32
  let c1_i32 : BitVec 32 := 1#32
  let arg10 : BitVec 32 := Scf.iv c0_i32 c1_i32 k0_t1
  let v588 : Index := Scalar.indexCast arg10
  let c4_443 : Index := 4#32
  let c0_444 : Index := 0#32
  ![v588.toNat, 4, 0]
def k0_off6 (k0_t1 : Fin k0_t1_loop.trips) : Fin 3 → Nat :=
  let c0_i32 : BitVec 32 := 0#32
  let c1_i32 : BitVec 32 := 1#32
  let arg10 : BitVec 32 := Scf.iv c0_i32 c1_i32 k0_t1
  let v596 : Index := Scalar.indexCast arg10
  let c5_448 : Index := 5#32
  let c0_449 : Index := 0#32
  ![v596.toNat, 5, 0]
def k0_off7 (k0_t1 : Fin k0_t1_loop.trips) : Fin 3 → Nat :=
  let c0_i32 : BitVec 32 := 0#32
  let c1_i32 : BitVec 32 := 1#32
  let arg10 : BitVec 32 := Scf.iv c0_i32 c1_i32 k0_t1
  let v604 : Index := Scalar.indexCast arg10
  let c6_453 : Index := 6#32
  let c0_454 : Index := 0#32
  ![v604.toNat, 6, 0]
def k0_off8 (k0_t1 : Fin k0_t1_loop.trips) : Fin 3 → Nat :=
  let c0_i32 : BitVec 32 := 0#32
  let c1_i32 : BitVec 32 := 1#32
  let arg10 : BitVec 32 := Scf.iv c0_i32 c1_i32 k0_t1
  let v612 : Index := Scalar.indexCast arg10
  let c7_458 : Index := 7#32
  let c0_459 : Index := 0#32
  ![v612.toNat, 7, 0]
def k0_off9 (k0_t1 : Fin k0_t1_loop.trips) : Fin 3 → Nat :=
  let c0_i32 : BitVec 32 := 0#32
  let c1_i32 : BitVec 32 := 1#32
  let arg10 : BitVec 32 := Scf.iv c0_i32 c1_i32 k0_t1
  let v620 : Index := Scalar.indexCast arg10
  let c8_463 : Index := 8#32
  let c0_464 : Index := 0#32
  ![v620.toNat, 8, 0]
def k0_off10 (k0_t1 : Fin k0_t1_loop.trips) : Fin 3 → Nat :=
  let c0_i32 : BitVec 32 := 0#32
  let c1_i32 : BitVec 32 := 1#32
  let arg10 : BitVec 32 := Scf.iv c0_i32 c1_i32 k0_t1
  let v628 : Index := Scalar.indexCast arg10
  let c9_468 : Index := 9#32
  let c0_469 : Index := 0#32
  ![v628.toNat, 9, 0]
def k0_off11 (k0_t1 : Fin k0_t1_loop.trips) : Fin 3 → Nat :=
  let c0_i32 : BitVec 32 := 0#32
  let c1_i32 : BitVec 32 := 1#32
  let arg10 : BitVec 32 := Scf.iv c0_i32 c1_i32 k0_t1
  let v636 : Index := Scalar.indexCast arg10
  let c10_473 : Index := 10#32
  let c0_474 : Index := 0#32
  ![v636.toNat, 10, 0]
def k0_off12 (k0_t1 : Fin k0_t1_loop.trips) : Fin 3 → Nat :=
  let c0_i32 : BitVec 32 := 0#32
  let c1_i32 : BitVec 32 := 1#32
  let arg10 : BitVec 32 := Scf.iv c0_i32 c1_i32 k0_t1
  let v644 : Index := Scalar.indexCast arg10
  let c11_478 : Index := 11#32
  let c0_479 : Index := 0#32
  ![v644.toNat, 11, 0]
def k0_off13 (k0_t1 : Fin k0_t1_loop.trips) : Fin 3 → Nat :=
  let c0_i32 : BitVec 32 := 0#32
  let c1_i32 : BitVec 32 := 1#32
  let arg10 : BitVec 32 := Scf.iv c0_i32 c1_i32 k0_t1
  let v652 : Index := Scalar.indexCast arg10
  let c12_483 : Index := 12#32
  let c0_484 : Index := 0#32
  ![v652.toNat, 12, 0]
def k0_off14 (k0_t1 : Fin k0_t1_loop.trips) : Fin 3 → Nat :=
  let c0_i32 : BitVec 32 := 0#32
  let c1_i32 : BitVec 32 := 1#32
  let arg10 : BitVec 32 := Scf.iv c0_i32 c1_i32 k0_t1
  let v660 : Index := Scalar.indexCast arg10
  let c13_488 : Index := 13#32
  let c0_489 : Index := 0#32
  ![v660.toNat, 13, 0]
def k0_off15 (k0_t1 : Fin k0_t1_loop.trips) : Fin 3 → Nat :=
  let c0_i32 : BitVec 32 := 0#32
  let c1_i32 : BitVec 32 := 1#32
  let arg10 : BitVec 32 := Scf.iv c0_i32 c1_i32 k0_t1
  let v668 : Index := Scalar.indexCast arg10
  let c14_493 : Index := 14#32
  let c0_494 : Index := 0#32
  ![v668.toNat, 14, 0]
def k0_off16 (k0_t1 : Fin k0_t1_loop.trips) : Fin 3 → Nat :=
  let c0_i32 : BitVec 32 := 0#32
  let c1_i32 : BitVec 32 := 1#32
  let arg10 : BitVec 32 := Scf.iv c0_i32 c1_i32 k0_t1
  let v676 : Index := Scalar.indexCast arg10
  let c15_498 : Index := 15#32
  let c0_499 : Index := 0#32
  ![v676.toNat, 15, 0]
def k0_off17 (k0_t1 : Fin k0_t1_loop.trips) : Fin 3 → Nat :=
  let c0_i32 : BitVec 32 := 0#32
  let c1_i32 : BitVec 32 := 1#32
  let arg10 : BitVec 32 := Scf.iv c0_i32 c1_i32 k0_t1
  let v684 : Index := Scalar.indexCast arg10
  let c16_503 : Index := 16#32
  let c0_504 : Index := 0#32
  ![v684.toNat, 16, 0]
def k0_off18 (k0_t1 : Fin k0_t1_loop.trips) : Fin 3 → Nat :=
  let c0_i32 : BitVec 32 := 0#32
  let c1_i32 : BitVec 32 := 1#32
  let arg10 : BitVec 32 := Scf.iv c0_i32 c1_i32 k0_t1
  let v692 : Index := Scalar.indexCast arg10
  let c17_508 : Index := 17#32
  let c0_509 : Index := 0#32
  ![v692.toNat, 17, 0]
def k0_off19 (k0_t1 : Fin k0_t1_loop.trips) : Fin 3 → Nat :=
  let c0_i32 : BitVec 32 := 0#32
  let c1_i32 : BitVec 32 := 1#32
  let arg10 : BitVec 32 := Scf.iv c0_i32 c1_i32 k0_t1
  let v700 : Index := Scalar.indexCast arg10
  let c18_513 : Index := 18#32
  let c0_514 : Index := 0#32
  ![v700.toNat, 18, 0]
def k0_off20 (k0_t1 : Fin k0_t1_loop.trips) : Fin 3 → Nat :=
  let c0_i32 : BitVec 32 := 0#32
  let c1_i32 : BitVec 32 := 1#32
  let arg10 : BitVec 32 := Scf.iv c0_i32 c1_i32 k0_t1
  let v708 : Index := Scalar.indexCast arg10
  let c19_518 : Index := 19#32
  let c0_519 : Index := 0#32
  ![v708.toNat, 19, 0]
def k0_off21 (k0_t1 : Fin k0_t1_loop.trips) : Fin 3 → Nat :=
  let c0_i32 : BitVec 32 := 0#32
  let c1_i32 : BitVec 32 := 1#32
  let arg10 : BitVec 32 := Scf.iv c0_i32 c1_i32 k0_t1
  let v716 : Index := Scalar.indexCast arg10
  let c20_523 : Index := 20#32
  let c0_524 : Index := 0#32
  ![v716.toNat, 20, 0]
def k0_off22 (k0_t1 : Fin k0_t1_loop.trips) : Fin 3 → Nat :=
  let c0_i32 : BitVec 32 := 0#32
  let c1_i32 : BitVec 32 := 1#32
  let arg10 : BitVec 32 := Scf.iv c0_i32 c1_i32 k0_t1
  let v724 : Index := Scalar.indexCast arg10
  let c21_528 : Index := 21#32
  let c0_529 : Index := 0#32
  ![v724.toNat, 21, 0]
def k0_off23 (k0_t1 : Fin k0_t1_loop.trips) : Fin 3 → Nat :=
  let c0_i32 : BitVec 32 := 0#32
  let c1_i32 : BitVec 32 := 1#32
  let arg10 : BitVec 32 := Scf.iv c0_i32 c1_i32 k0_t1
  let v732 : Index := Scalar.indexCast arg10
  let c22_533 : Index := 22#32
  let c0_534 : Index := 0#32
  ![v732.toNat, 22, 0]
def k0_off24 (k0_t1 : Fin k0_t1_loop.trips) : Fin 3 → Nat :=
  let c0_i32 : BitVec 32 := 0#32
  let c1_i32 : BitVec 32 := 1#32
  let arg10 : BitVec 32 := Scf.iv c0_i32 c1_i32 k0_t1
  let v740 : Index := Scalar.indexCast arg10
  let c23_538 : Index := 23#32
  let c0_539 : Index := 0#32
  ![v740.toNat, 23, 0]
def k0_off25 (k0_t1 : Fin k0_t1_loop.trips) : Fin 3 → Nat :=
  let c0_i32 : BitVec 32 := 0#32
  let c1_i32 : BitVec 32 := 1#32
  let arg10 : BitVec 32 := Scf.iv c0_i32 c1_i32 k0_t1
  let v748 : Index := Scalar.indexCast arg10
  let c24_543 : Index := 24#32
  let c0_544 : Index := 0#32
  ![v748.toNat, 24, 0]
def k0_off26 (k0_t1 : Fin k0_t1_loop.trips) : Fin 3 → Nat :=
  let c0_i32 : BitVec 32 := 0#32
  let c1_i32 : BitVec 32 := 1#32
  let arg10 : BitVec 32 := Scf.iv c0_i32 c1_i32 k0_t1
  let v756 : Index := Scalar.indexCast arg10
  let c25_548 : Index := 25#32
  let c0_549 : Index := 0#32
  ![v756.toNat, 25, 0]
def k0_off27 (k0_t1 : Fin k0_t1_loop.trips) : Fin 3 → Nat :=
  let c0_i32 : BitVec 32 := 0#32
  let c1_i32 : BitVec 32 := 1#32
  let arg10 : BitVec 32 := Scf.iv c0_i32 c1_i32 k0_t1
  let v764 : Index := Scalar.indexCast arg10
  let c26_553 : Index := 26#32
  let c0_554 : Index := 0#32
  ![v764.toNat, 26, 0]
def k0_off28 (k0_t1 : Fin k0_t1_loop.trips) : Fin 3 → Nat :=
  let c0_i32 : BitVec 32 := 0#32
  let c1_i32 : BitVec 32 := 1#32
  let arg10 : BitVec 32 := Scf.iv c0_i32 c1_i32 k0_t1
  let v772 : Index := Scalar.indexCast arg10
  let c27_558 : Index := 27#32
  let c0_559 : Index := 0#32
  ![v772.toNat, 27, 0]
def k0_off29 (k0_t1 : Fin k0_t1_loop.trips) : Fin 3 → Nat :=
  let c0_i32 : BitVec 32 := 0#32
  let c1_i32 : BitVec 32 := 1#32
  let arg10 : BitVec 32 := Scf.iv c0_i32 c1_i32 k0_t1
  let v780 : Index := Scalar.indexCast arg10
  let c28_563 : Index := 28#32
  let c0_564 : Index := 0#32
  ![v780.toNat, 28, 0]
def k0_off30 (k0_t1 : Fin k0_t1_loop.trips) : Fin 3 → Nat :=
  let c0_i32 : BitVec 32 := 0#32
  let c1_i32 : BitVec 32 := 1#32
  let arg10 : BitVec 32 := Scf.iv c0_i32 c1_i32 k0_t1
  let v788 : Index := Scalar.indexCast arg10
  let c29_568 : Index := 29#32
  let c0_569 : Index := 0#32
  ![v788.toNat, 29, 0]
def k0_off31 (k0_t1 : Fin k0_t1_loop.trips) : Fin 3 → Nat :=
  let c0_i32 : BitVec 32 := 0#32
  let c1_i32 : BitVec 32 := 1#32
  let arg10 : BitVec 32 := Scf.iv c0_i32 c1_i32 k0_t1
  let v796 : Index := Scalar.indexCast arg10
  let c30_573 : Index := 30#32
  let c0_574 : Index := 0#32
  ![v796.toNat, 30, 0]
def k0_off32 (k0_t1 : Fin k0_t1_loop.trips) : Fin 3 → Nat :=
  let c0_i32 : BitVec 32 := 0#32
  let c1_i32 : BitVec 32 := 1#32
  let arg10 : BitVec 32 := Scf.iv c0_i32 c1_i32 k0_t1
  let v804 : Index := Scalar.indexCast arg10
  let c31_578 : Index := 31#32
  let c0_579 : Index := 0#32
  ![v804.toNat, 31, 0]
def k0_off33 (k0_t1 : Fin k0_t1_loop.trips) : Fin 3 → Nat :=
  let c0_i32 : BitVec 32 := 0#32
  let c1_i32 : BitVec 32 := 1#32
  let arg10 : BitVec 32 := Scf.iv c0_i32 c1_i32 k0_t1
  let v812 : Index := Scalar.indexCast arg10
  let c0_583 : Index := 0#32
  let c0_584 : Index := 0#32
  ![v812.toNat, 0, 0]
@[reducible] def k0_t2_loop : Scf.Loop 32 :=
  let c0_i32_351 : BitVec 32 := 0#32
  let c16_i32 : BitVec 32 := 16#32
  let v415 : BitVec 32 := Scalar.addi c0_i32_351 c16_i32
  let c1_i32_352 : BitVec 32 := 1#32
  ⟨c0_i32_351, v415, c1_i32_352⟩
def k0_off34 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v560 : Index := Scalar.indexCast v557
  let c0_425 : Index := 0#32
  let c0_426 : Index := 0#32
  ![v560.toNat, 0, 0]
def k0_off35 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v567 : Index := Scalar.indexCast v557
  let c1_430 : Index := 1#32
  let c0_431 : Index := 0#32
  ![v567.toNat, 1, 0]
def k0_off36 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v575 : Index := Scalar.indexCast v557
  let c2_435 : Index := 2#32
  let c0_436 : Index := 0#32
  ![v575.toNat, 2, 0]
def k0_off37 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v583 : Index := Scalar.indexCast v557
  let c3_440 : Index := 3#32
  let c0_441 : Index := 0#32
  ![v583.toNat, 3, 0]
def k0_off38 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v591 : Index := Scalar.indexCast v557
  let c4_445 : Index := 4#32
  let c0_446 : Index := 0#32
  ![v591.toNat, 4, 0]
def k0_off39 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v599 : Index := Scalar.indexCast v557
  let c5_450 : Index := 5#32
  let c0_451 : Index := 0#32
  ![v599.toNat, 5, 0]
def k0_off40 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v607 : Index := Scalar.indexCast v557
  let c6_455 : Index := 6#32
  let c0_456 : Index := 0#32
  ![v607.toNat, 6, 0]
def k0_off41 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v615 : Index := Scalar.indexCast v557
  let c7_460 : Index := 7#32
  let c0_461 : Index := 0#32
  ![v615.toNat, 7, 0]
def k0_off42 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v623 : Index := Scalar.indexCast v557
  let c8_465 : Index := 8#32
  let c0_466 : Index := 0#32
  ![v623.toNat, 8, 0]
def k0_off43 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v631 : Index := Scalar.indexCast v557
  let c9_470 : Index := 9#32
  let c0_471 : Index := 0#32
  ![v631.toNat, 9, 0]
def k0_off44 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v639 : Index := Scalar.indexCast v557
  let c10_475 : Index := 10#32
  let c0_476 : Index := 0#32
  ![v639.toNat, 10, 0]
def k0_off45 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v647 : Index := Scalar.indexCast v557
  let c11_480 : Index := 11#32
  let c0_481 : Index := 0#32
  ![v647.toNat, 11, 0]
def k0_off46 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v655 : Index := Scalar.indexCast v557
  let c12_485 : Index := 12#32
  let c0_486 : Index := 0#32
  ![v655.toNat, 12, 0]
def k0_off47 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v663 : Index := Scalar.indexCast v557
  let c13_490 : Index := 13#32
  let c0_491 : Index := 0#32
  ![v663.toNat, 13, 0]
def k0_off48 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v671 : Index := Scalar.indexCast v557
  let c14_495 : Index := 14#32
  let c0_496 : Index := 0#32
  ![v671.toNat, 14, 0]
def k0_off49 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v679 : Index := Scalar.indexCast v557
  let c15_500 : Index := 15#32
  let c0_501 : Index := 0#32
  ![v679.toNat, 15, 0]
def k0_off50 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v687 : Index := Scalar.indexCast v557
  let c16_505 : Index := 16#32
  let c0_506 : Index := 0#32
  ![v687.toNat, 16, 0]
def k0_off51 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v695 : Index := Scalar.indexCast v557
  let c17_510 : Index := 17#32
  let c0_511 : Index := 0#32
  ![v695.toNat, 17, 0]
def k0_off52 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v703 : Index := Scalar.indexCast v557
  let c18_515 : Index := 18#32
  let c0_516 : Index := 0#32
  ![v703.toNat, 18, 0]
def k0_off53 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v711 : Index := Scalar.indexCast v557
  let c19_520 : Index := 19#32
  let c0_521 : Index := 0#32
  ![v711.toNat, 19, 0]
def k0_off54 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v719 : Index := Scalar.indexCast v557
  let c20_525 : Index := 20#32
  let c0_526 : Index := 0#32
  ![v719.toNat, 20, 0]
def k0_off55 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v727 : Index := Scalar.indexCast v557
  let c21_530 : Index := 21#32
  let c0_531 : Index := 0#32
  ![v727.toNat, 21, 0]
def k0_off56 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v735 : Index := Scalar.indexCast v557
  let c22_535 : Index := 22#32
  let c0_536 : Index := 0#32
  ![v735.toNat, 22, 0]
def k0_off57 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v743 : Index := Scalar.indexCast v557
  let c23_540 : Index := 23#32
  let c0_541 : Index := 0#32
  ![v743.toNat, 23, 0]
def k0_off58 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v751 : Index := Scalar.indexCast v557
  let c24_545 : Index := 24#32
  let c0_546 : Index := 0#32
  ![v751.toNat, 24, 0]
def k0_off59 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v759 : Index := Scalar.indexCast v557
  let c25_550 : Index := 25#32
  let c0_551 : Index := 0#32
  ![v759.toNat, 25, 0]
def k0_off60 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v767 : Index := Scalar.indexCast v557
  let c26_555 : Index := 26#32
  let c0_556 : Index := 0#32
  ![v767.toNat, 26, 0]
def k0_off61 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v775 : Index := Scalar.indexCast v557
  let c27_560 : Index := 27#32
  let c0_561 : Index := 0#32
  ![v775.toNat, 27, 0]
def k0_off62 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v783 : Index := Scalar.indexCast v557
  let c28_565 : Index := 28#32
  let c0_566 : Index := 0#32
  ![v783.toNat, 28, 0]
def k0_off63 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v791 : Index := Scalar.indexCast v557
  let c29_570 : Index := 29#32
  let c0_571 : Index := 0#32
  ![v791.toNat, 29, 0]
def k0_off64 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v799 : Index := Scalar.indexCast v557
  let c30_575 : Index := 30#32
  let c0_576 : Index := 0#32
  ![v799.toNat, 30, 0]
def k0_off65 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v807 : Index := Scalar.indexCast v557
  let c31_580 : Index := 31#32
  let c0_581 : Index := 0#32
  ![v807.toNat, 31, 0]
def k0_off66 (k0_t2 : Fin k0_t2_loop.trips) : Fin 3 → Nat :=
  let c2_i32 : BitVec 32 := 2#32
  let c0_i32_351 : BitVec 32 := 0#32
  let c1_i32_352 : BitVec 32 := 1#32
  let arg10 : BitVec 32 := Scf.iv c0_i32_351 c1_i32_352 k0_t2
  let v557 : BitVec 32 := Scalar.muli c2_i32 arg10
  let v815 : Index := Scalar.indexCast v557
  let c0_585 : Index := 0#32
  let c0_586 : Index := 0#32
  ![v815.toNat, 0, 0]
def k0_off67 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v821 : Index := Scalar.indexCast v559
  let c0_588 : Index := 0#32
  let c0_589 : Index := 0#32
  ![v821.toNat, 0, 0]
def k0_off68 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v828 : Index := Scalar.indexCast v559
  let c1_593 : Index := 1#32
  let c0_594 : Index := 0#32
  ![v828.toNat, 1, 0]
def k0_off69 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v836 : Index := Scalar.indexCast v559
  let c2_598 : Index := 2#32
  let c0_599 : Index := 0#32
  ![v836.toNat, 2, 0]
def k0_off70 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v844 : Index := Scalar.indexCast v559
  let c3_603 : Index := 3#32
  let c0_604 : Index := 0#32
  ![v844.toNat, 3, 0]
def k0_off71 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v852 : Index := Scalar.indexCast v559
  let c4_608 : Index := 4#32
  let c0_609 : Index := 0#32
  ![v852.toNat, 4, 0]
def k0_off72 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v860 : Index := Scalar.indexCast v559
  let c5_613 : Index := 5#32
  let c0_614 : Index := 0#32
  ![v860.toNat, 5, 0]
def k0_off73 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v868 : Index := Scalar.indexCast v559
  let c6_618 : Index := 6#32
  let c0_619 : Index := 0#32
  ![v868.toNat, 6, 0]
def k0_off74 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v876 : Index := Scalar.indexCast v559
  let c7_623 : Index := 7#32
  let c0_624 : Index := 0#32
  ![v876.toNat, 7, 0]
def k0_off75 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v884 : Index := Scalar.indexCast v559
  let c8_628 : Index := 8#32
  let c0_629 : Index := 0#32
  ![v884.toNat, 8, 0]
def k0_off76 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v892 : Index := Scalar.indexCast v559
  let c9_633 : Index := 9#32
  let c0_634 : Index := 0#32
  ![v892.toNat, 9, 0]
def k0_off77 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v900 : Index := Scalar.indexCast v559
  let c10_638 : Index := 10#32
  let c0_639 : Index := 0#32
  ![v900.toNat, 10, 0]
def k0_off78 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v908 : Index := Scalar.indexCast v559
  let c11_643 : Index := 11#32
  let c0_644 : Index := 0#32
  ![v908.toNat, 11, 0]
def k0_off79 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v916 : Index := Scalar.indexCast v559
  let c12_648 : Index := 12#32
  let c0_649 : Index := 0#32
  ![v916.toNat, 12, 0]
def k0_off80 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v924 : Index := Scalar.indexCast v559
  let c13_653 : Index := 13#32
  let c0_654 : Index := 0#32
  ![v924.toNat, 13, 0]
def k0_off81 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v932 : Index := Scalar.indexCast v559
  let c14_658 : Index := 14#32
  let c0_659 : Index := 0#32
  ![v932.toNat, 14, 0]
def k0_off82 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v940 : Index := Scalar.indexCast v559
  let c15_663 : Index := 15#32
  let c0_664 : Index := 0#32
  ![v940.toNat, 15, 0]
def k0_off83 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v948 : Index := Scalar.indexCast v559
  let c16_668 : Index := 16#32
  let c0_669 : Index := 0#32
  ![v948.toNat, 16, 0]
def k0_off84 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v956 : Index := Scalar.indexCast v559
  let c17_673 : Index := 17#32
  let c0_674 : Index := 0#32
  ![v956.toNat, 17, 0]
def k0_off85 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v964 : Index := Scalar.indexCast v559
  let c18_678 : Index := 18#32
  let c0_679 : Index := 0#32
  ![v964.toNat, 18, 0]
def k0_off86 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v972 : Index := Scalar.indexCast v559
  let c19_683 : Index := 19#32
  let c0_684 : Index := 0#32
  ![v972.toNat, 19, 0]
def k0_off87 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v980 : Index := Scalar.indexCast v559
  let c20_688 : Index := 20#32
  let c0_689 : Index := 0#32
  ![v980.toNat, 20, 0]
def k0_off88 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v988 : Index := Scalar.indexCast v559
  let c21_693 : Index := 21#32
  let c0_694 : Index := 0#32
  ![v988.toNat, 21, 0]
def k0_off89 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v996 : Index := Scalar.indexCast v559
  let c22_698 : Index := 22#32
  let c0_699 : Index := 0#32
  ![v996.toNat, 22, 0]
def k0_off90 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1004 : Index := Scalar.indexCast v559
  let c23_703 : Index := 23#32
  let c0_704 : Index := 0#32
  ![v1004.toNat, 23, 0]
def k0_off91 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1012 : Index := Scalar.indexCast v559
  let c24_708 : Index := 24#32
  let c0_709 : Index := 0#32
  ![v1012.toNat, 24, 0]
def k0_off92 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1020 : Index := Scalar.indexCast v559
  let c25_713 : Index := 25#32
  let c0_714 : Index := 0#32
  ![v1020.toNat, 25, 0]
def k0_off93 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1028 : Index := Scalar.indexCast v559
  let c26_718 : Index := 26#32
  let c0_719 : Index := 0#32
  ![v1028.toNat, 26, 0]
def k0_off94 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1036 : Index := Scalar.indexCast v559
  let c27_723 : Index := 27#32
  let c0_724 : Index := 0#32
  ![v1036.toNat, 27, 0]
def k0_off95 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1044 : Index := Scalar.indexCast v559
  let c28_728 : Index := 28#32
  let c0_729 : Index := 0#32
  ![v1044.toNat, 28, 0]
def k0_off96 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1052 : Index := Scalar.indexCast v559
  let c29_733 : Index := 29#32
  let c0_734 : Index := 0#32
  ![v1052.toNat, 29, 0]
def k0_off97 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1060 : Index := Scalar.indexCast v559
  let c30_738 : Index := 30#32
  let c0_739 : Index := 0#32
  ![v1060.toNat, 30, 0]
def k0_off98 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1068 : Index := Scalar.indexCast v559
  let c31_743 : Index := 31#32
  let c0_744 : Index := 0#32
  ![v1068.toNat, 31, 0]
def k0_off99 (k0_t2 : Fin k0_t2_loop.trips) : Fin 3 → Nat :=
  let c2_i32_423 : BitVec 32 := 2#32
  let c0_i32_351 : BitVec 32 := 0#32
  let c1_i32_352 : BitVec 32 := 1#32
  let arg10 : BitVec 32 := Scf.iv c0_i32_351 c1_i32_352 k0_t2
  let v558 : BitVec 32 := Scalar.muli c2_i32_423 arg10
  let c1_i32_424 : BitVec 32 := 1#32
  let v559 : BitVec 32 := Scalar.addi v558 c1_i32_424
  let v1076 : Index := Scalar.indexCast v559
  let c0_748 : Index := 0#32
  let c0_749 : Index := 0#32
  ![v1076.toNat, 0, 0]
def k0_mult1 (k0_t2 : Fin k0_t2_loop.trips) : BitVec 32 :=
  let c0_i32_351 : BitVec 32 := 0#32
  let c1_i32_352 : BitVec 32 := 1#32
  let arg10 : BitVec 32 := Scf.iv c0_i32_351 c1_i32_352 k0_t2
  let c32_i32_751 : BitVec 32 := 32#32
  let v1083 : BitVec 32 := Scalar.muli arg10 c32_i32_751
  v1083
def k0_off100 (k0_t2 : Fin k0_t2_loop.trips) : Fin 3 → Nat :=
  let c0_i32_351 : BitVec 32 := 0#32
  let c1_i32_352 : BitVec 32 := 1#32
  let arg10 : BitVec 32 := Scf.iv c0_i32_351 c1_i32_352 k0_t2
  let c32_i32_751 : BitVec 32 := 32#32
  let v1083 : BitVec 32 := Scalar.muli arg10 c32_i32_751
  let v1084 : BitVec 32 := v1083
  let v1085 : Index := Scalar.indexCast v1084
  let c0_752 : Index := 0#32
  ![v1085.toNat, 0, 0]
@[reducible] def k0_t3_loop : Scf.Loop 32 :=
  let c0_i32_419 : BitVec 32 := 0#32
  let c16_i32_420 : BitVec 32 := 16#32
  let v556 : BitVec 32 := Scalar.addi c0_i32_419 c16_i32_420
  let c1_i32_421 : BitVec 32 := 1#32
  ⟨c0_i32_419, v556, c1_i32_421⟩
def k0_off101 (k0_t3 : Fin k0_t3_loop.trips) : Fin 3 → Nat :=
  let c0_i32_419 : BitVec 32 := 0#32
  let c1_i32_421 : BitVec 32 := 1#32
  let arg10 : BitVec 32 := Scf.iv c0_i32_419 c1_i32_421 k0_t3
  let c8_i32 : BitVec 32 := 8#32
  let v557 : BitVec 32 := Scalar.muli arg10 c8_i32
  let v559 : Index := Scalar.indexCast v557
  let c0_424 : Index := 0#32
  ![v559.toNat, 0, 0]
def k0_mult2 (k0_t3 : Fin k0_t3_loop.trips) : BitVec 32 :=
  let c0_i32_419 : BitVec 32 := 0#32
  let c1_i32_421 : BitVec 32 := 1#32
  let arg10 : BitVec 32 := Scf.iv c0_i32_419 c1_i32_421 k0_t3
  let c256_i32 : BitVec 32 := 256#32
  let v567 : BitVec 32 := Scalar.muli arg10 c256_i32
  v567
def k0_off102 (k0_t3 : Fin k0_t3_loop.trips) : Fin 2 → Nat :=
  let c0_426 : Index := 0#32
  let c0_i32_419 : BitVec 32 := 0#32
  let c1_i32_421 : BitVec 32 := 1#32
  let arg10 : BitVec 32 := Scf.iv c0_i32_419 c1_i32_421 k0_t3
  let c256_i32 : BitVec 32 := 256#32
  let v567 : BitVec 32 := Scalar.muli arg10 c256_i32
  let v568 : BitVec 32 := v567
  let v569 : Index := Scalar.indexCast v568
  ![0, v569.toNat]
def k0_mult3 (k0_t3 : Fin k0_t3_loop.trips) : BitVec 32 :=
  let c0_i32_419 : BitVec 32 := 0#32
  let c1_i32_421 : BitVec 32 := 1#32
  let arg10 : BitVec 32 := Scf.iv c0_i32_419 c1_i32_421 k0_t3
  let c256_i32_428 : BitVec 32 := 256#32
  let v576 : BitVec 32 := Scalar.muli arg10 c256_i32_428
  v576
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x496 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RotationReferenceIdeal.lean ====
abbrev S256x14336 : Shape := ⟨2, ![256, 14336]⟩
abbrev S448x496 : Shape := ⟨2, ![448, 496]⟩
abbrev S496 : Shape := ⟨1, ![496]⟩
abbrev S_ : Shape := ⟨0, ![]⟩
abbrev S448x32x32 : Shape := ⟨3, ![448, 32, 32]⟩
abbrev S496x1 : Shape := ⟨2, ![496, 1]⟩
abbrev S496x2 : Shape := ⟨2, ![496, 2]⟩

abbrev nBuf : Space → Nat
  | .hbm => 54
  | .vmem => 0
  | .smem => 0
  | _ => 0

abbrev bufTy : (tb : Table) → Fin (tcTables nBuf tb) → BufTy
  | .hbm, ⟨0, _⟩ => ⟨S256x14336, .bf16⟩
  | .hbm, ⟨1, _⟩ => ⟨S448x496, .f32⟩
  | .hbm, ⟨2, _⟩ => ⟨S496, .i32⟩
  | .hbm, ⟨3, _⟩ => ⟨S496, .i1⟩
  | .hbm, ⟨4, _⟩ => ⟨S496, .i32⟩
  | .hbm, ⟨5, _⟩ => ⟨S496, .i1⟩
  | .hbm, ⟨6, _⟩ => ⟨S496, .i1⟩
  | .hbm, ⟨7, _⟩ => ⟨S496, .i1⟩
  | .hbm, ⟨8, _⟩ => ⟨S_, .f32⟩
  | .hbm, ⟨9, _⟩ => ⟨S448x32x32, .f32⟩
  | .hbm, ⟨10, _⟩ => ⟨S_, .i32⟩
  | .hbm, ⟨11, _⟩ => ⟨S496, .i32⟩
  | .hbm, ⟨12, _⟩ => ⟨S496, .i32⟩
  | .hbm, ⟨13, _⟩ => ⟨S496, .i32⟩
  | .hbm, ⟨14, _⟩ => ⟨S_, .i32⟩
  | .hbm, ⟨15, _⟩ => ⟨S496, .i32⟩
  | .hbm, ⟨16, _⟩ => ⟨S496, .i32⟩
  | .hbm, ⟨17, _⟩ => ⟨S496, .i32⟩
  | .hbm, ⟨18, _⟩ => ⟨S496x1, .i32⟩
  | .hbm, ⟨19, _⟩ => ⟨S496x1, .i32⟩
  | .hbm, ⟨20, _⟩ => ⟨S496x2, .i32⟩
  | .hbm, ⟨21, _⟩ => ⟨S448x32x32, .f32⟩
  | .hbm, ⟨22, _⟩ => ⟨S448x496, .f32⟩
  | .hbm, ⟨23, _⟩ => ⟨S_, .i32⟩
  | .hbm, ⟨24, _⟩ => ⟨S496, .i32⟩
  | .hbm, ⟨25, _⟩ => ⟨S496, .i32⟩
  | .hbm, ⟨26, _⟩ => ⟨S496, .i32⟩
  | .hbm, ⟨27, _⟩ => ⟨S_, .i32⟩
  | .hbm, ⟨28, _⟩ => ⟨S496, .i32⟩
  | .hbm, ⟨29, _⟩ => ⟨S496, .i32⟩
  | .hbm, ⟨30, _⟩ => ⟨S496, .i32⟩
  | .hbm, ⟨31, _⟩ => ⟨S496x1, .i32⟩
  | .hbm, ⟨32, _⟩ => ⟨S496x1, .i32⟩
  | .hbm, ⟨33, _⟩ => ⟨S496x2, .i32⟩
  | .hbm, ⟨34, _⟩ => ⟨S448x32x32, .f32⟩
  | .hbm, ⟨35, _⟩ => ⟨S448x32x32, .f32⟩
  | .hbm, ⟨36, _⟩ => ⟨S448x32x32, .f32⟩
  | .hbm, ⟨37, _⟩ => ⟨S448x32x32, .f32⟩
  | .hbm, ⟨38, _⟩ => ⟨S_, .f32⟩
  | .hbm, ⟨39, _⟩ => ⟨S448x32x32, .f32⟩
  | .hbm, ⟨40, _⟩ => ⟨S448x32x32, .f32⟩
  | .hbm, ⟨41, _⟩ => ⟨S_, .f32⟩
  | .hbm, ⟨42, _⟩ => ⟨S448x32x32, .f32⟩
  | .hbm, ⟨43, _⟩ => ⟨S448x32x32, .f32⟩
  | .hbm, ⟨44, _⟩ => ⟨S448x32x32, .f32⟩
  | .hbm, ⟨45, _⟩ => ⟨S_, .f32⟩
  | .hbm, ⟨46, _⟩ => ⟨S448x32x32, .f32⟩
  | .hbm, ⟨47, _⟩ => ⟨S448x32x32, .f32⟩
  | .hbm, ⟨48, _⟩ => ⟨S448x32x32, .f32⟩
  | .hbm, ⟨49, _⟩ => ⟨S_, .f32⟩
  | .hbm, ⟨50, _⟩ => ⟨S448x32x32, .f32⟩
  | .hbm, ⟨51, _⟩ => ⟨S448x32x32, .f32⟩
  | .hbm, ⟨52, _⟩ => ⟨S448x32x32, .f32⟩
  | .hbm, ⟨53, _⟩ => ⟨S448x32x32, .bf16⟩
  | _, _ => ⟨S256x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_cst : Ref sig .tc := ⟨.hbm, 8, rfl⟩
abbrev main_v0 : Ref sig .tc := ⟨.hbm, 9, rfl⟩
abbrev main_c_5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_6 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_7 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_8 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_11 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Proof.Frames.lean ====
/- The frames of the three programs, and the correctness of the rewrites between the kernel as printed and its
   reading over the extended reals. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal
public import Idealize.ShloMosaic.Lib.Bf16Pair
public import Idealize.ShloMosaic.Lib.Bf16PairInverse
public import Idealize.ShloMosaic.PureOps.IdealRules

@[expose] public section

noncomputable section

namespace Cert.Proof

open Idealize.ShloMosaic Idealize.SL.Sem

/-- The kernel on floating-point bits terminates without a fault, leaves its arguments unchanged and every
    semaphore at zero. -/
theorem frame_kernel : Cert.quiescent_Kernel := fun m g _ => Cert.Kernel.Gen.frame m g

/-- The kernel read over the extended reals terminates without a fault, leaves its arguments unchanged and every
    semaphore at zero. -/
theorem frame_kernelIdeal : Cert.quiescent_KernelIdeal := fun m g _ => Cert.KernelIdeal.Gen.frame m g

/-- The reference terminates without a fault and leaves its arguments unchanged; it declares no semaphore. -/
theorem frame_referenceIdeal : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel over the extended reals differs from the printed one only where pairs of bfloat16 values are packed
    in 32-bit words, taken apart or read as values again; at each such place the rewrite is sound. -/
theorem preserves : Cert.preserves_Kernel_KernelIdeal :=
  ⟨IdealRules.bf16_pair.bufferStatement _ _, IdealRules.bf16_pair.packStatement _, IdealRules.bf16_pair.statement _ _,
    IdealRules.bf16_pair.packStatement _, IdealRules.bf16_pair.statement _ _, IdealRules.bf16_pair.statement _ _⟩

end Cert.Proof

end
-- ==== Proof.Nibble.lean ====
/- The integer part of the dequantisation: the sixteen-bit words the kernel makes of two code rows, and the four
   code values it takes out of each. -/
module

public import proofs.«01_k».proof.Proof.Gen.KernelIdeal.Loops
public import proofs.«01_k».proof.Proof.Gen.KernelIdeal.Skeleton
public import Idealize.ShloMosaic.Lib.BitcastFour
public import Idealize.ShloMosaic.Lib.BitcastPair
public import Idealize.ShloMosaic.Lib.ValueIdxCore
public import Idealize.ShloMosaic.Lib.Pipeline.Value
@[expose] public section

set_option maxRecDepth 16384

noncomputable section

namespace Cert.KernelIdeal.Gen

open Idealize.ShloMosaic Idealize.ShloMosaic.TcCoe Idealize.ShloMosaic.Tactic

/-- Nibble `e` of a byte, as a row of the sixteen-row table. -/
def nib (b : BitVec 8) (e : Nat) : Fin 16 := ⟨(b.toNat / 16 ^ e) % 16, Nat.mod_lt _ (by decide)⟩

/-- The sixteen-bit word of two code rows: bit `q` of the word at column `d`, lane `a` is bit `q % 8` of code row
    `2a + q / 8` at that column. -/
theorem words_getLsbD {F : FTy → Type} [FloatOps F] (v : Vec F S256x256 .i8) (d : Fin 256) (a : Fin 128) (q : Nat) (hq : q < 16)
    (p : Fin 256) (hp : p.val = 2 * a.val + q / 8) :
    (k0_pay15 v (ValueIdx.ix2 d a)).getLsbD q = (v (ValueIdx.ix2 p d)).getLsbD (q % 8) := by
  unfold k0_pay15
  dsimp only
  rw [transpose_apply _ _ _ _ (ValueIdx.ix2 a d) (by intro b; match b with | ⟨0, _⟩ => rfl | ⟨1, _⟩ => rfl)]
  rw [bitcast_32_16, BitVec.getLsbD_extractLsb']
  have hrow : Shape.row (s := S128x256) (ValueIdx.ix2 a d) = a.val := rfl
  have ha := a.isLt
  have hsrc : (bitcasts_S64x256_w32_S128x256_w16).srcIdx (ValueIdx.ix2 a d) (Shape.row (s := S128x256) (ValueIdx.ix2 a d) / 2)
      (fun b hb => by have := (bitcasts_S64x256_w32_S128x256_w16).pos_lt (ValueIdx.ix2 a d) 0 (by decide) b hb; omega)
      = ValueIdx.ix2 (⟨a.val / 2, by omega⟩ : Fin 64) d := by
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  rw [hsrc, hrow]
  rw [bitcast_8_32_getLsbD_ix2 v _ _ _ _ (by omega) p (by show p.val = 4 * (a.val / 2) + _; omega)]
  have : (16 * (a.val % 2) + q) % 8 = q % 8 := by omega
  rw [this, decide_eq_true hq, Bool.true_and]

/-- The low four bits of a word shifted right by `4p`, read as a table row, are a nibble of the byte that holds them. -/
theorem shifted_nib (n : BitVec 16) (s : BitVec 16) (b : BitVec 8) (p : Nat) (hp : p < 4) (hs : s.toNat = 4 * p)
    (h : ∀ q, q < 16 → q / 8 = p / 2 → n.getLsbD q = b.getLsbD (q % 8)) :
    (BitVec.signExtend 32 (IntOp.andi (IntOp.shrsi .vector n s) 15#16)).toNat % 16 = (nib b (p % 2)).val := by
  have e1 : IntOp.shrsi .vector n s = n.sshiftRight (4 * p) := by
    unfold IntOp.shrsi
    rw [if_pos (by omega), BitVec.sshiftRight', hs]
  rw [e1]
  have e2 : BitVec.signExtend 32 (IntOp.andi (n.sshiftRight (4 * p)) 15#16)
      = ((b >>> (4 * (p % 2))) &&& 15#8).setWidth 32 := by
    apply BitVec.eq_of_getLsbD_eq
    intro i hi
    unfold IntOp.andi
    have h15 : ∀ j, (15#16).getLsbD j = decide (j < 4) := by
      intro j
      by_cases hj : j < 16
      · interval_cases j <;> rfl
      · rw [BitVec.getLsbD_of_ge _ _ (by omega)]; symm; exact decide_eq_false (by omega)
    have h15' : ∀ j, (15#8).getLsbD j = decide (j < 4) := by
      intro j
      by_cases hj : j < 8
      · interval_cases j <;> rfl
      · rw [BitVec.getLsbD_of_ge _ _ (by omega)]; symm; exact decide_eq_false (by omega)
    rw [BitVec.getLsbD_signExtend, BitVec.getLsbD_setWidth, BitVec.getLsbD_and, BitVec.getLsbD_and, h15, h15',
      BitVec.msb_eq_getLsbD_last, BitVec.getLsbD_and, h15, BitVec.getLsbD_sshiftRight, BitVec.getLsbD_ushiftRight]
    by_cases h4 : i < 4
    · have h16 : 4 * p + i < 16 := by omega
      have hh := h (4 * p + i) h16 (by omega)
      have hm : (4 * p + i) % 8 = 4 * (p % 2) + i := by omega
      rw [hm] at hh
      simp only [h4, hi, h16, hh, show i < 16 by omega, show ¬ 16 ≤ i by omega, show i < 8 by omega, decide_true, decide_false, Bool.not_false, Bool.and_true, Bool.true_and, if_true]
    · simp [h4]
  rw [e2]
  unfold nib
  have hb := b.isLt
  rw [BitVec.toNat_setWidth, BitVec.toNat_and, BitVec.toNat_ushiftRight]
  rw [Nat.shiftRight_eq_div_pow]
  have hand : ∀ x : Nat, x &&& (15#8).toNat = x % 16 := fun x => Nat.and_two_pow_sub_one_eq_mod x 4
  rw [hand]
  have : (2 : Nat) ^ (4 * (p % 2)) = 16 ^ (p % 2) := by rw [pow_mul]; norm_num
  rw [this]
  show b.toNat / 16 ^ (p % 2) % 16 % 2 ^ 32 % 16 = b.toNat / 16 ^ (p % 2) % 16
  omega

end Cert.KernelIdeal.Gen

end
-- ==== Proof.Piece.lean ====
/- Sixteen rows of dequantised weights, as one group of the kernel's vector operations computes them. -/
module

public import proofs.«01_k».proof.Proof.Gen.KernelIdeal.Loops
public import proofs.«01_k».proof.Proof.Nibble
public import Idealize.ShloMosaic.Lib.Pipeline.FrameBody
public import Idealize.ShloMosaic.Lib.Pipeline.ValueKit.Geometry
public import Idealize.ShloMosaic.Lib.Pointwise.ElementwiseCore
public import Idealize.ShloMosaic.PureOps.Ideal
@[expose] public section

set_option maxRecDepth 16384

noncomputable section

namespace Cert.KernelIdeal.Gen

open Idealize.ShloMosaic Idealize.ShloMosaic.TcCoe Idealize.ShloMosaic.Tactic

open ValueIdx

/-- The dequantised weights of one block of 2048 input columns and 512 output channels, as the kernel lays them out:
    row `d` is an input column; column `128p + a` is output channel `4a + p` of the block. `T` is the table spread over
    the lanes, `C` the code block, `A` the scales with channel `4a + p`, quantisation block `n` at `(p, n, a)`, `j` the
    number of the column chunk. -/
def deq (T : S16x128.Idx → EReal) (C : S256x2048.Idx → BitVec 8) (A : S4x256x128.Idx → EReal) (j : Fin 7) : S2048x512.Idx → EReal :=
  fun y =>
    have hy : (y 1).val < 512 := (y 1).isLt
    have hd : (y 0).val < 2048 := (y 0).isLt
    let a : Fin 128 := ⟨(y 1).val % 128, Nat.mod_lt _ (by decide)⟩
    T (ix2 (nib (C (ix2 ⟨2 * a.val + (y 1).val / 128 / 2, by have := a.isLt; omega⟩ (y 0))) ((y 1).val / 128 % 2)) a)
      * A (ix3 ⟨(y 1).val / 128, by omega⟩ ⟨32 * j.val + (y 0).val / 64, by have := j.isLt; omega⟩ a)

/-- Sixteen rows of dequantised weights as the kernel computes them: the table scaled by one row of scales, gathered by
    the code values of sixteen rows of words. -/
theorem gather_apply (v : Vec Ideal S256x256 .i8) (A : Vec Ideal S1x1x128 .f32) (T : Vec Ideal S16x128 .f32) (q p r : Nat)
    (hq : q < 4) (hp : p < 4) (hr : r < 4) (s : BitVec 16) (hs : s.toNat = 4 * p)
    (h1 : S256x128.Slices ![64 * q, 0] S64x128) (h2 : S64x128.Slices ![16 * r, 0] S16x128)
    (c1 : S1x1x128.ShapeCasts S1x128) (c2 : S1x128.Broadcasts S16x128) (c3 : FTy.bits .bf16 < FTy.bits .f32) (c4 : 16 < 32)
    (c5 : S16x128.ShapeCasts S16x128x1) (c6 : S16x128x1.ShapeCasts S16x128) (c7 : S16x128.ShapeCasts S16x128)
    (b : Fin 16) (a : Fin 128) :
    (shapeCast S16x128 (dynamicGather 0 (truncf (F := Ideal) .bf16 (mulf (F := Ideal) (φ := .f32) T (broadcastTo S16x128 (shapeCast S1x128 A c1) c2)) c3)
      (shapeCast S16x128 (shapeCast S16x128x1 (extsi 32 (extractStridedSlice S16x128 ![16 * r, 0]
        (andi (shrsi (extractStridedSlice S64x128 ![64 * q, 0] (k0_pay15 v) h1) (broadcast S64x128 s)) (broadcast S64x128 15#16))
        h2) c4) c5) c6)) c7 (ix2 b a) : EReal)
    = T (ix2 (nib (v (ix2 ⟨2 * a.val + p / 2, by omega⟩ ⟨64 * q + (16 * r + b.val), by omega⟩)) (p % 2)) a)
        * A (ix3 0 0 a) := by
  rw [shapeCast_apply _ c7 (ix2 b a) (ix2 b a) rfl]
  rw [dynamicGather_apply]
  have hidx : (shapeCast S16x128 (shapeCast S16x128x1 (extsi 32 (extractStridedSlice S16x128 ![16 * r, 0]
        (andi (shrsi (extractStridedSlice S64x128 ![64 * q, 0] (k0_pay15 v) h1) (broadcast S64x128 s)) (broadcast S64x128 15#16))
        h2) c4) c5) c6) (ix2 b a)
      = BitVec.signExtend 32 (IntOp.andi (IntOp.shrsi .vector (k0_pay15 v (ix2 (⟨64 * q + (16 * r + b.val), by omega⟩ : Fin 256) a)) s) 15#16) := by
    rw [shapeCast_shapeCast]
    show BitVec.signExtend 32 _ = _
    rw [extractStridedSlice_apply _ _ h2 (ix2 b a) (ix2 (⟨16 * r + b.val, by omega⟩ : Fin 64) a)
      (by intro c; match c with | ⟨0, _⟩ => rfl | ⟨1, _⟩ => exact (Nat.zero_add _).symm)]
    show BitVec.signExtend 32 (IntOp.andi (IntOp.shrsi .vector _ _) _) = _
    rw [extractStridedSlice_apply _ _ h1 (ix2 (⟨16 * r + b.val, by omega⟩ : Fin 64) a)
      (ix2 (⟨64 * q + (16 * r + b.val), by omega⟩ : Fin 256) a)
      (by intro c; match c with | ⟨0, _⟩ => rfl | ⟨1, _⟩ => exact (Nat.zero_add _).symm)]
    rfl
  have hn := shifted_nib (k0_pay15 v (ix2 (⟨64 * q + (16 * r + b.val), by omega⟩ : Fin 256) a)) s
    (v (ix2 ⟨2 * a.val + p / 2, by omega⟩ ⟨64 * q + (16 * r + b.val), by omega⟩)) p hp hs (by
      intro z hz hzp
      rw [words_getLsbD v _ a z hz ⟨2 * a.val + p / 2, by omega⟩ (by show _ = _; rw [hzp])])
  have hk : (fun c : Fin S16x128.rank => if c = 0 then (⟨((shapeCast S16x128 (shapeCast S16x128x1 (extsi 32 (extractStridedSlice S16x128 ![16 * r, 0]
        (andi (shrsi (extractStridedSlice S64x128 ![64 * q, 0] (k0_pay15 v) h1) (broadcast S64x128 s)) (broadcast S64x128 15#16))
        h2) c4) c5) c6) (ix2 b a)).toNat % S16x128.size c, Nat.mod_lt _ (Fin.pos ((ix2 b a : S16x128.Idx) c))⟩ : Fin (S16x128.size c)) else (ix2 b a : S16x128.Idx) c)
      = ix2 (nib (v (ix2 ⟨2 * a.val + p / 2, by omega⟩ ⟨64 * q + (16 * r + b.val), by omega⟩)) (p % 2)) a := by
    rw [hidx]
    funext c
    match c with
    | ⟨0, _⟩ => exact Fin.ext hn
    | ⟨1, _⟩ => rfl
  refine (congrArg _ hk).trans ?_
  show (T _ : EReal) * broadcastTo S16x128 (shapeCast S1x128 A c1) c2 _ = _
  rw [broadcastTo_apply _ _ _ (ix2 (0 : Fin 1) a) (by intro c; match c with | ⟨0, _⟩ => rfl | ⟨1, _⟩ => rfl)]
  rw [shapeCast_apply _ c1 (ix2 (0 : Fin 1) a) (ix3 0 0 a)
    ((Shape.rowMajor_val_three _).trans ((by show (0 * 1 + 0) * 128 + a.val = 0 * 128 + a.val; omega) |> fun h => Eq.trans h (Shape.rowMajor_val_two _).symm))]

end Cert.KernelIdeal.Gen

end
-- ==== Proof.Trip.lean ====
/- One trip of the dequantisation loop: every store writes the dequantised weights at its place. -/
module

public import proofs.«01_k».proof.Proof.Gen.KernelIdeal.Loops
public import proofs.«01_k».proof.Proof.Piece
public import Idealize.ShloMosaic.Lib.Pipeline.ReadBack
public import Idealize.ShloMosaic.Lib.Ring
@[expose] public section

set_option maxRecDepth 16384

noncomputable section

namespace Cert.KernelIdeal.Gen

open Idealize.ShloMosaic Idealize.ShloMosaic.TcCoe Idealize.ShloMosaic.Tactic

open ValueIdx

theorem nib_congr {b b' : BitVec 8} {e e' : Nat} (hb : b = b') (he : e = e') : nib b e = nib b' e' := by rw [hb, he]

/-- Sixteen rows by 128 columns of the dequantised weights, as one trip's store number `(q, p, r)` writes them: they are
    `deq` at the place the store writes. -/
theorem piece_ok (arg2 : Memref sig .tc .vmem S16x128 .f32) (arg4 : Memref sig .tc .vmem S256x2048 .i8)
    (arg9 : Memref sig .tc .vmem S4x256x128 .f32) (X_arg2 : BufTy.Contents (Elt Ideal) arg2.view.ty)
    (X_arg4 : BufTy.Contents (Elt Ideal) arg4.view.ty) (X_arg9 : BufTy.Contents (Elt Ideal) arg9.view.ty)
    (i : grid0.Coords) (k : Fin k0_t1_loop.trips) (q p r : Nat)
    (hq : q < 4) (hp : p < 4) (hr : r < 4) (s : BitVec 16) (hs : s.toNat = 4 * p)
    {o : Fin 2 → Nat} (ho : o = ![256 * k.val + 64 * q + 16 * r, 128 * p])
    {oA : Fin 3 → Nat} (hoA : oA = ![p, 32 * (i 1).val + 4 * k.val + q, 0])
    (inb : ∀ a, o a + (![16, 128] : Fin 2 → Nat) a ≤ S2048x512.size a)
    (inbC : ∀ a, k0_off1 k a + S256x256.size a ≤ S256x2048.size a)
    (inbA : ∀ a, oA a + S1x1x128.size a ≤ S4x256x128.size a)
    (inbT : ∀ a, (![0, 0] : Fin 2 → Nat) a + S16x128.size a ≤ S16x128.size a)
    (h1 : S256x128.Slices ![64 * q, 0] S64x128) (h2 : S64x128.Slices ![16 * r, 0] S16x128)
    (c1 : S1x1x128.ShapeCasts S1x128) (c2 : S1x128.Broadcasts S16x128) (c3 : FTy.bits .bf16 < FTy.bits .f32) (c4 : 16 < 32)
    (c5 : S16x128.ShapeCasts S16x128x1) (c6 : S16x128x1.ShapeCasts S16x128) (c7 : S16x128.ShapeCasts S16x128)
    (x : (Rect.unit (s := S2048x512) o ![16, 128] inb).shape.Idx) :
    (shapeCast S16x128 (dynamicGather 0 (truncf (F := Ideal) .bf16 (mulf (F := Ideal) (φ := .f32)
        (View.readAt (Elt Ideal) arg2.view (Rect.unit (s := S16x128) ![0, 0] S16x128.size inbT).toLoadRect X_arg2)
        (broadcastTo S16x128 (shapeCast S1x128
          (View.readAt (Elt Ideal) arg9.view (Rect.unit (s := S4x256x128) oA S1x1x128.size inbA).toLoadRect X_arg9) c1) c2)) c3)
      (shapeCast S16x128 (shapeCast S16x128x1 (extsi 32 (extractStridedSlice S16x128 ![16 * r, 0]
        (andi (shrsi (extractStridedSlice S64x128 ![64 * q, 0] (k0_pay15
          (View.readAt (Elt Ideal) arg4.view (Rect.unit (s := S256x2048) (k0_off1 k) S256x256.size inbC).toLoadRect X_arg4)) h1)
          (broadcast S64x128 s)) (broadcast S64x128 15#16))
        h2) c4) c5) c6)) c7 x : EReal)
    = deq (arg2.view.read (Elt Ideal) X_arg2) (arg4.view.read (Elt Ideal) X_arg4) (arg9.view.read (Elt Ideal) X_arg9) (i 1)
        ((Rect.unit (s := S2048x512) o ![16, 128] inb).emb x) := by
  subst ho hoA
  have hk : k.val < 8 := Nat.lt_of_lt_of_le k.isLt k0_t1_abs.2.1
  have hi : (i 1).val < 7 := (i 1).isLt
  obtain ⟨b, a, rfl⟩ : ∃ (b : Fin 16) (a : Fin 128), x = ix2 b a := ⟨x 0, x 1, by funext c; match c with | ⟨0, _⟩ => rfl | ⟨1, _⟩ => rfl⟩
  refine (gather_apply _ _ _ q p r hq hp hr s hs h1 h2 c1 c2 c3 c4 c5 c6 c7 b a).trans ?_
  have e0 : (((Rect.unit (s := S2048x512) ![256 * k.val + 64 * q + 16 * r, 128 * p] ![16, 128] inb).emb (ix2 b a)) 0).val
      = 256 * k.val + 64 * q + 16 * r + b.val := ValueKit.rect_emb_unit_val _ _ _ _ _
  have e1 : (((Rect.unit (s := S2048x512) ![256 * k.val + 64 * q + 16 * r, 128 * p] ![16, 128] inb).emb (ix2 b a)) 1).val
      = 128 * p + a.val := ValueKit.rect_emb_unit_val _ _ _ _ _
  generalize ((Rect.unit (s := S2048x512) ![256 * k.val + 64 * q + 16 * r, 128 * p] ![16, 128] inb).emb (ix2 b a)) = y at e0 e1 ⊢
  unfold deq
  dsimp only
  have hc := k0_off1_eq k
  have hd : (y 1).val / 128 = p := by omega
  have hm : (y 1).val % 128 = a.val := by omega
  rw [View.readAt_apply, View.readAt_apply, View.readAt_apply]
  congr 2
  · funext c
    match c with
    | ⟨0, _⟩ =>
      refine Fin.ext ?_
      show 0 + 1 * (nib _ _).val = (nib _ _).val
      rw [Nat.zero_add, Nat.one_mul]
      refine congrArg Fin.val (nib_congr (congrArg _ (funext fun e => ?_)) (by rw [hd]))
      match e with
      | ⟨0, _⟩ =>
        refine Fin.ext ?_
        show k0_off1 k 0 + 1 * (2 * a.val + p / 2) = 2 * ((y 1).val % 128) + (y 1).val / 128 / 2
        rw [hc, hm, hd]; show 0 + _ = _; omega
      | ⟨1, _⟩ =>
        refine Fin.ext ?_
        show k0_off1 k 1 + 1 * (64 * q + (16 * r + b.val)) = (y 0).val
        rw [hc, e0]; show 256 * k.val + _ = _; omega
    | ⟨1, _⟩ =>
      refine Fin.ext ?_
      show 0 + 1 * a.val = (y 1).val % 128
      omega
  · funext c
    match c with
    | ⟨0, _⟩ =>
      refine Fin.ext ?_
      show p + 1 * 0 = (y 1).val / 128
      omega
    | ⟨1, _⟩ =>
      refine Fin.ext ?_
      show (32 * (i 1).val + 4 * k.val + q) + 1 * 0 = 32 * (i 1).val + (y 0).val / 64
      omega
    | ⟨2, _⟩ =>
      refine Fin.ext ?_
      show 0 + 1 * a.val = (y 1).val % 128
      omega

set_option pp.maxSteps 600 in
/-- The sixty-four stores of one trip of the dequantisation write `deq`. -/
theorem trip_pieces (𝒱 : Variants) (c : Dev nD) (bd : Option 𝒱.V) (i : grid0.Coords) (arg2 : Memref sig .tc .vmem S16x128 .f32) (harg2 : arg2.IsWhole) (arg3 : Memref sig .tc .vmem S256x14336 .bf16) (harg3 : arg3.IsWhole) (arg4 : Memref sig .tc .vmem S256x2048 .i8) (harg4 : arg4.IsWhole) (arg5 : Memref sig .tc .vmem S512x224 .f32) (harg5 : arg5.IsWhole) (arg6 : Memref sig .tc .vmem S1x1x512 .f32) (harg6 : arg6.IsWhole) (arg7 : Memref sig .tc .vmem S256x512 .bf16) (harg7 : arg7.IsWhole) (arg8 : Memref sig .tc .vmem S512x128 .f32) (harg8 : arg8.IsWhole) (arg9 : Memref sig .tc .vmem S4x256x128 .f32) (harg9 : arg9.IsWhole) (arg10 : Memref sig .tc .vmem S2048x512 .bf16) (harg10 : arg10.IsWhole) (arg11 : Memref sig .tc .vmem S256x512 .f32) (harg11 : arg11.IsWhole) (arg12 : Memref sig .tc .vmem S2x256x2x128 .bf16) (harg12 : arg12.IsWhole) (arg1 : BitVec 32) (X_arg2 : BufTy.Contents (Elt Ideal) arg2.view.ty) (X_arg4 : BufTy.Contents (Elt Ideal) arg4.view.ty) (X_arg9 : BufTy.Contents (Elt Ideal) arg9.view.ty) (k : Fin k0_t1_loop.trips) :
    View.PiecesOf (deq (arg2.view.read (Elt Ideal) X_arg2) (arg4.view.read (Elt Ideal) X_arg4) (arg9.view.read (Elt Ideal) X_arg9) (i 1))
      (tripL_k0_t1 (F := Ideal) 𝒱 c bd i arg2 harg2 arg3 harg3 arg4 harg4 arg5 harg5 arg6 harg6 arg7 harg7 arg8 harg8 arg9 harg9 arg10 harg10 arg11 harg11 arg12 harg12 arg1 X_arg2 X_arg4 X_arg9 k) := by
  unfold tripL_k0_t1 trip_k0_t1
  dsimp only
  refine ⟨?_, ?_⟩
  · intro x
    dsimp only
    exact piece_ok arg2 arg4 arg9 X_arg2 X_arg4 X_arg9 i k 3 3 3 (by decide) (by decide) (by decide) 12#16 rfl (k0_off9_eq k 3 3) (k0_off8_eq i k 3) _ _ _ _ slices_S256x128_o192_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 3 2 (by decide) (by decide) (by decide) 12#16 rfl (k0_off9_eq k 3 2) (k0_off8_eq i k 3) _ _ _ _ slices_S256x128_o192_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 3 1 (by decide) (by decide) (by decide) 12#16 rfl (k0_off9_eq k 3 1) (k0_off8_eq i k 3) _ _ _ _ slices_S256x128_o192_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 3 0 (by decide) (by decide) (by decide) 12#16 rfl (k0_off9_eq k 3 0) (k0_off8_eq i k 3) _ _ _ _ slices_S256x128_o192_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 2 3 (by decide) (by decide) (by decide) 8#16 rfl (k0_off7_eq k 3 3) (k0_off6_eq i k 3) _ _ _ _ slices_S256x128_o192_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 2 2 (by decide) (by decide) (by decide) 8#16 rfl (k0_off7_eq k 3 2) (k0_off6_eq i k 3) _ _ _ _ slices_S256x128_o192_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 2 1 (by decide) (by decide) (by decide) 8#16 rfl (k0_off7_eq k 3 1) (k0_off6_eq i k 3) _ _ _ _ slices_S256x128_o192_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 2 0 (by decide) (by decide) (by decide) 8#16 rfl (k0_off7_eq k 3 0) (k0_off6_eq i k 3) _ _ _ _ slices_S256x128_o192_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 1 3 (by decide) (by decide) (by decide) 4#16 rfl (k0_off5_eq k 3 3) (k0_off4_eq i k 3) _ _ _ _ slices_S256x128_o192_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 1 2 (by decide) (by decide) (by decide) 4#16 rfl (k0_off5_eq k 3 2) (k0_off4_eq i k 3) _ _ _ _ slices_S256x128_o192_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 1 1 (by decide) (by decide) (by decide) 4#16 rfl (k0_off5_eq k 3 1) (k0_off4_eq i k 3) _ _ _ _ slices_S256x128_o192_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 1 0 (by decide) (by decide) (by decide) 4#16 rfl (k0_off5_eq k 3 0) (k0_off4_eq i k 3) _ _ _ _ slices_S256x128_o192_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 0 3 (by decide) (by decide) (by decide) 0#16 rfl (k0_off3_eq k 3 3) (k0_off2_eq i k 3) _ _ _ _ slices_S256x128_o192_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 0 2 (by decide) (by decide) (by decide) 0#16 rfl (k0_off3_eq k 3 2) (k0_off2_eq i k 3) _ _ _ _ slices_S256x128_o192_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 0 1 (by decide) (by decide) (by decide) 0#16 rfl (k0_off3_eq k 3 1) (k0_off2_eq i k 3) _ _ _ _ slices_S256x128_o192_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 3 0 0 (by decide) (by decide) (by decide) 0#16 rfl (k0_off3_eq k 3 0) (k0_off2_eq i k 3) _ _ _ _ slices_S256x128_o192_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 3 3 (by decide) (by decide) (by decide) 12#16 rfl (k0_off9_eq k 2 3) (k0_off8_eq i k 2) _ _ _ _ slices_S256x128_o128_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 3 2 (by decide) (by decide) (by decide) 12#16 rfl (k0_off9_eq k 2 2) (k0_off8_eq i k 2) _ _ _ _ slices_S256x128_o128_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 3 1 (by decide) (by decide) (by decide) 12#16 rfl (k0_off9_eq k 2 1) (k0_off8_eq i k 2) _ _ _ _ slices_S256x128_o128_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 3 0 (by decide) (by decide) (by decide) 12#16 rfl (k0_off9_eq k 2 0) (k0_off8_eq i k 2) _ _ _ _ slices_S256x128_o128_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 2 3 (by decide) (by decide) (by decide) 8#16 rfl (k0_off7_eq k 2 3) (k0_off6_eq i k 2) _ _ _ _ slices_S256x128_o128_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 2 2 (by decide) (by decide) (by decide) 8#16 rfl (k0_off7_eq k 2 2) (k0_off6_eq i k 2) _ _ _ _ slices_S256x128_o128_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 2 1 (by decide) (by decide) (by decide) 8#16 rfl (k0_off7_eq k 2 1) (k0_off6_eq i k 2) _ _ _ _ slices_S256x128_o128_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 2 0 (by decide) (by decide) (by decide) 8#16 rfl (k0_off7_eq k 2 0) (k0_off6_eq i k 2) _ _ _ _ slices_S256x128_o128_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 1 3 (by decide) (by decide) (by decide) 4#16 rfl (k0_off5_eq k 2 3) (k0_off4_eq i k 2) _ _ _ _ slices_S256x128_o128_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 1 2 (by decide) (by decide) (by decide) 4#16 rfl (k0_off5_eq k 2 2) (k0_off4_eq i k 2) _ _ _ _ slices_S256x128_o128_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 1 1 (by decide) (by decide) (by decide) 4#16 rfl (k0_off5_eq k 2 1) (k0_off4_eq i k 2) _ _ _ _ slices_S256x128_o128_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 1 0 (by decide) (by decide) (by decide) 4#16 rfl (k0_off5_eq k 2 0) (k0_off4_eq i k 2) _ _ _ _ slices_S256x128_o128_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 0 3 (by decide) (by decide) (by decide) 0#16 rfl (k0_off3_eq k 2 3) (k0_off2_eq i k 2) _ _ _ _ slices_S256x128_o128_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 0 2 (by decide) (by decide) (by decide) 0#16 rfl (k0_off3_eq k 2 2) (k0_off2_eq i k 2) _ _ _ _ slices_S256x128_o128_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 0 1 (by decide) (by decide) (by decide) 0#16 rfl (k0_off3_eq k 2 1) (k0_off2_eq i k 2) _ _ _ _ slices_S256x128_o128_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 2 0 0 (by decide) (by decide) (by decide) 0#16 rfl (k0_off3_eq k 2 0) (k0_off2_eq i k 2) _ _ _ _ slices_S256x128_o128_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 3 3 (by decide) (by decide) (by decide) 12#16 rfl (k0_off9_eq k 1 3) (k0_off8_eq i k 1) _ _ _ _ slices_S256x128_o64_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 3 2 (by decide) (by decide) (by decide) 12#16 rfl (k0_off9_eq k 1 2) (k0_off8_eq i k 1) _ _ _ _ slices_S256x128_o64_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 3 1 (by decide) (by decide) (by decide) 12#16 rfl (k0_off9_eq k 1 1) (k0_off8_eq i k 1) _ _ _ _ slices_S256x128_o64_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 3 0 (by decide) (by decide) (by decide) 12#16 rfl (k0_off9_eq k 1 0) (k0_off8_eq i k 1) _ _ _ _ slices_S256x128_o64_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 2 3 (by decide) (by decide) (by decide) 8#16 rfl (k0_off7_eq k 1 3) (k0_off6_eq i k 1) _ _ _ _ slices_S256x128_o64_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 2 2 (by decide) (by decide) (by decide) 8#16 rfl (k0_off7_eq k 1 2) (k0_off6_eq i k 1) _ _ _ _ slices_S256x128_o64_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 2 1 (by decide) (by decide) (by decide) 8#16 rfl (k0_off7_eq k 1 1) (k0_off6_eq i k 1) _ _ _ _ slices_S256x128_o64_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 2 0 (by decide) (by decide) (by decide) 8#16 rfl (k0_off7_eq k 1 0) (k0_off6_eq i k 1) _ _ _ _ slices_S256x128_o64_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 1 3 (by decide) (by decide) (by decide) 4#16 rfl (k0_off5_eq k 1 3) (k0_off4_eq i k 1) _ _ _ _ slices_S256x128_o64_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 1 2 (by decide) (by decide) (by decide) 4#16 rfl (k0_off5_eq k 1 2) (k0_off4_eq i k 1) _ _ _ _ slices_S256x128_o64_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 1 1 (by decide) (by decide) (by decide) 4#16 rfl (k0_off5_eq k 1 1) (k0_off4_eq i k 1) _ _ _ _ slices_S256x128_o64_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 1 0 (by decide) (by decide) (by decide) 4#16 rfl (k0_off5_eq k 1 0) (k0_off4_eq i k 1) _ _ _ _ slices_S256x128_o64_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 0 3 (by decide) (by decide) (by decide) 0#16 rfl (k0_off3_eq k 1 3) (k0_off2_eq i k 1) _ _ _ _ slices_S256x128_o64_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 0 2 (by decide) (by decide) (by decide) 0#16 rfl (k0_off3_eq k 1 2) (k0_off2_eq i k 1) _ _ _ _ slices_S256x128_o64_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 0 1 (by decide) (by decide) (by decide) 0#16 rfl (k0_off3_eq k 1 1) (k0_off2_eq i k 1) _ _ _ _ slices_S256x128_o64_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 1 0 0 (by decide) (by decide) (by decide) 0#16 rfl (k0_off3_eq k 1 0) (k0_off2_eq i k 1) _ _ _ _ slices_S256x128_o64_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 3 3 (by decide) (by decide) (by decide) 12#16 rfl (k0_off9_eq k 0 3) (k0_off8_eq i k 0) _ _ _ _ slices_S256x128_o0_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 3 2 (by decide) (by decide) (by decide) 12#16 rfl (k0_off9_eq k 0 2) (k0_off8_eq i k 0) _ _ _ _ slices_S256x128_o0_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 3 1 (by decide) (by decide) (by decide) 12#16 rfl (k0_off9_eq k 0 1) (k0_off8_eq i k 0) _ _ _ _ slices_S256x128_o0_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 3 0 (by decide) (by decide) (by decide) 12#16 rfl (k0_off9_eq k 0 0) (k0_off8_eq i k 0) _ _ _ _ slices_S256x128_o0_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 2 3 (by decide) (by decide) (by decide) 8#16 rfl (k0_off7_eq k 0 3) (k0_off6_eq i k 0) _ _ _ _ slices_S256x128_o0_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 2 2 (by decide) (by decide) (by decide) 8#16 rfl (k0_off7_eq k 0 2) (k0_off6_eq i k 0) _ _ _ _ slices_S256x128_o0_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 2 1 (by decide) (by decide) (by decide) 8#16 rfl (k0_off7_eq k 0 1) (k0_off6_eq i k 0) _ _ _ _ slices_S256x128_o0_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 2 0 (by decide) (by decide) (by decide) 8#16 rfl (k0_off7_eq k 0 0) (k0_off6_eq i k 0) _ _ _ _ slices_S256x128_o0_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 1 3 (by decide) (by decide) (by decide) 4#16 rfl (k0_off5_eq k 0 3) (k0_off4_eq i k 0) _ _ _ _ slices_S256x128_o0_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 1 2 (by decide) (by decide) (by decide) 4#16 rfl (k0_off5_eq k 0 2) (k0_off4_eq i k 0) _ _ _ _ slices_S256x128_o0_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 1 1 (by decide) (by decide) (by decide) 4#16 rfl (k0_off5_eq k 0 1) (k0_off4_eq i k 0) _ _ _ _ slices_S256x128_o0_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 1 0 (by decide) (by decide) (by decide) 4#16 rfl (k0_off5_eq k 0 0) (k0_off4_eq i k 0) _ _ _ _ slices_S256x128_o0_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 0 3 (by decide) (by decide) (by decide) 0#16 rfl (k0_off3_eq k 0 3) (k0_off2_eq i k 0) _ _ _ _ slices_S256x128_o0_0_S64x128 slices_S64x128_o48_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 0 2 (by decide) (by decide) (by decide) 0#16 rfl (k0_off3_eq k 0 2) (k0_off2_eq i k 0) _ _ _ _ slices_S256x128_o0_0_S64x128 slices_S64x128_o32_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 0 1 (by decide) (by decide) (by decide) 0#16 rfl (k0_off3_eq k 0 1) (k0_off2_eq i k 0) _ _ _ _ slices_S256x128_o0_0_S64x128 slices_S64x128_o16_0_S16x128 shapeCasts_S1x1x128_S1x128 broadcasts_S1x128_S16x128 bitsLt_bf16_f32 natLt_16_32 shapeCasts_S16x128_S16x128x1 shapeCasts_S16x128x1_S16x128 shapeCasts_S16x128_S16x128 x
  refine ⟨?_, ?_⟩
  · intro x
    dsimp only
    exact piece_ok arg2 arg4 arg9 X_arg2 X_arg4 X_arg9 i k 0 0 0 (by decide) (by decide) (by decide) 0#16 rfl (k0_off3_eq k 0 0) (k0_off2_eq i k 0) _ _ _ _ slices_S256x128_o0_0_S64x128 slices_S64x128_o0_0_S16x128 shapeCasts_S1x1x128_S1x128 broadcasts_S1x128_S16x128 bitsLt_bf16_f32 natLt_16_32 shapeCasts_S16x128_S16x128x1 shapeCasts_S16x128x1_S16x128 shapeCasts_S16x128_S16x128 x
  trivial

/-- After any number of trips, every store made so far has written `deq` at its place. -/
theorem loop_pieces (𝒱 : Variants) (c : Dev nD) (bd : Option 𝒱.V) (i : grid0.Coords) (arg2 : Memref sig .tc .vmem S16x128 .f32) (harg2 : arg2.IsWhole) (arg3 : Memref sig .tc .vmem S256x14336 .bf16) (harg3 : arg3.IsWhole) (arg4 : Memref sig .tc .vmem S256x2048 .i8) (harg4 : arg4.IsWhole) (arg5 : Memref sig .tc .vmem S512x224 .f32) (harg5 : arg5.IsWhole) (arg6 : Memref sig .tc .vmem S1x1x512 .f32) (harg6 : arg6.IsWhole) (arg7 : Memref sig .tc .vmem S256x512 .bf16) (harg7 : arg7.IsWhole) (arg8 : Memref sig .tc .vmem S512x128 .f32) (harg8 : arg8.IsWhole) (arg9 : Memref sig .tc .vmem S4x256x128 .f32) (harg9 : arg9.IsWhole) (arg10 : Memref sig .tc .vmem S2048x512 .bf16) (harg10 : arg10.IsWhole) (arg11 : Memref sig .tc .vmem S256x512 .f32) (harg11 : arg11.IsWhole) (arg12 : Memref sig .tc .vmem S2x256x2x128 .bf16) (harg12 : arg12.IsWhole) (arg1 : BitVec 32) (X_arg2 : BufTy.Contents (Elt Ideal) arg2.view.ty) (X_arg4 : BufTy.Contents (Elt Ideal) arg4.view.ty) (X_arg9 : BufTy.Contents (Elt Ideal) arg9.view.ty) : ∀ n, n ≤ k0_t1_loop.trips → ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg1 X_arg2 X_arg4 X_arg9 n, ∀ x : p.1.shape.Idx,
      p.2 x = (deq (arg2.view.read (Elt Ideal) X_arg2) (arg4.view.read (Elt Ideal) X_arg4) (arg9.view.read (Elt Ideal) X_arg9) (i 1)) (p.1.emb x) := by
  intro n
  induction n with
  | zero => intro _ p hp; exact absurd hp List.not_mem_nil
  | succ n ih =>
    intro hn p hp x
    have h := pb_k0_t1_succ (F := Ideal) 𝒱 c bd i arg2 harg2 arg3 harg3 arg4 harg4 arg5 harg5 arg6 harg6 arg7 harg7 arg8 harg8 arg9 harg9 arg10 harg10 arg11 harg11 arg12 harg12 arg1 X_arg2 X_arg4 X_arg9 ⟨n, hn⟩
    rw [h] at hp
    rcases List.mem_append.mp hp with hp | hp
    · exact View.PiecesOf.mem (trip_pieces 𝒱 c bd i arg2 harg2 arg3 harg3 arg4 harg4 arg5 harg5 arg6 harg6 arg7 harg7 arg8 harg8 arg9 harg9 arg10 harg10 arg11 harg11 arg12 harg12 arg1 X_arg2 X_arg4 X_arg9 ⟨n, hn⟩) p hp x
    · exact ih (Nat.le_of_lt hn) p hp x

/-- The whole loop's stores cover the weights' buffer, so what it holds afterwards is `deq` everywhere. -/
theorem loop_canon (𝒱 : Variants) (c : Dev nD) (bd : Option 𝒱.V) (i : grid0.Coords) (arg2 : Memref sig .tc .vmem S16x128 .f32) (harg2 : arg2.IsWhole) (arg3 : Memref sig .tc .vmem S256x14336 .bf16) (harg3 : arg3.IsWhole) (arg4 : Memref sig .tc .vmem S256x2048 .i8) (harg4 : arg4.IsWhole) (arg5 : Memref sig .tc .vmem S512x224 .f32) (harg5 : arg5.IsWhole) (arg6 : Memref sig .tc .vmem S1x1x512 .f32) (harg6 : arg6.IsWhole) (arg7 : Memref sig .tc .vmem S256x512 .bf16) (harg7 : arg7.IsWhole) (arg8 : Memref sig .tc .vmem S512x128 .f32) (harg8 : arg8.IsWhole) (arg9 : Memref sig .tc .vmem S4x256x128 .f32) (harg9 : arg9.IsWhole) (arg10 : Memref sig .tc .vmem S2048x512 .bf16) (harg10 : arg10.IsWhole) (arg11 : Memref sig .tc .vmem S256x512 .f32) (harg11 : arg11.IsWhole) (arg12 : Memref sig .tc .vmem S2x256x2x128 .bf16) (harg12 : arg12.IsWhole) (arg1 : BitVec 32) (X_arg2 : BufTy.Contents (Elt Ideal) arg2.view.ty) (X_arg4 : BufTy.Contents (Elt Ideal) arg4.view.ty) (X_arg9 : BufTy.Contents (Elt Ideal) arg9.view.ty) (y : S2048x512.Idx) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg1 X_arg2 X_arg4 X_arg9 (Scf.trips k0_t1_loop.lb k0_t1_loop.ub k0_t1_loop.st)) y
      = deq (arg2.view.read (Elt Ideal) X_arg2) (arg4.view.read (Elt Ideal) X_arg4) (arg9.view.read (Elt Ideal) X_arg9) (i 1) y := by
  have hc := View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 arg1 X_arg2 X_arg4 X_arg9 (Scf.trips k0_t1_loop.lb k0_t1_loop.ub k0_t1_loop.st)) S16x128.size (by sl_kernel_rfl) y
  have h := View.canon_append_of_pieces (deq (arg2.view.read (Elt Ideal) X_arg2) (arg4.view.read (Elt Ideal) X_arg4) (arg9.view.read (Elt Ideal) X_arg9) (i 1))
    [] (pb_k0_t1 (F := Ideal) 𝒱 c bd i arg2 harg2 arg3 harg3 arg4 harg4 arg5 harg5 arg6 harg6 arg7 harg7 arg8 harg8 arg9 harg9 arg10 harg10 arg11 harg11 arg12 harg12 arg1 X_arg2 X_arg4 X_arg9 (Scf.trips k0_t1_loop.lb k0_t1_loop.ub k0_t1_loop.st))
    (loop_pieces 𝒱 c bd i arg2 harg2 arg3 harg3 arg4 harg4 arg5 harg5 arg6 harg6 arg7 harg7 arg8 harg8 arg9 harg9 arg10 harg10 arg11 harg11 arg12 harg12 arg1 X_arg2 X_arg4 X_arg9 _ (Nat.le_refl _)) y hc
  rwa [List.append_nil] at h

end Cert.KernelIdeal.Gen

end
-- ==== Proof.Acc.lean ====
/- What one grid step leaves in the accumulator: the chunk's product with the dequantised weights. -/
module

public import proofs.«01_k».proof.Proof.Gen.KernelIdeal.Loops
public import proofs.«01_k».proof.Proof.Gen.KernelIdeal.Frame
public import proofs.«01_k».proof.Proof.Trip
public import Idealize.ShloMosaic.PureOps.Ideal
public import Idealize.ShloMosaic.Lib.Pipeline.Value
public import Idealize.ShloMosaic.Lib.Pointwise
@[expose] public section

set_option maxRecDepth 16384

noncomputable section

namespace Cert.KernelIdeal.Gen

open Idealize.ShloMosaic hiding ix1 ix2 ix3 ix4
open Idealize.ShloMosaic.TcCoe Idealize.ShloMosaic.Tactic

open ValueIdx

/-- The product of one chunk, as the kernel's payload computes it. -/
theorem pay7_apply (x : Vec Ideal S256x2048 .bf16) (w : Vec Ideal S2048x512 .bf16) (s : Fin 256) (y : Fin 512) :
    (k0_pay7 (F := Ideal) x w (ix2 s y) : EReal) = ∑ d : Fin 2048, (x (ix2 s d) : EReal) * w (ix2 d y) := by
  unfold k0_pay7
  pointwise
  rfl

theorem pay8_apply (x : Vec Ideal S256x2048 .bf16) (w : Vec Ideal S2048x512 .bf16) (s : Fin 256) (y : Fin 512) :
    (k0_pay8 (F := Ideal) x w (ix2 s y) : EReal) = ∑ d : Fin 2048, (x (ix2 s d) : EReal) * w (ix2 d y) := by
  unfold k0_pay8
  rw [shapeCast_apply _ shapeCasts_S256x512_S256x512 (ix2 s y) (ix2 s y) rfl]
  exact pay7_apply x w s y

theorem pay9_apply (x : Vec Ideal S256x2048 .bf16) (w : Vec Ideal S2048x512 .bf16) (a : Vec Ideal S256x512 .f32) (s : Fin 256) (y : Fin 512) :
    (k0_pay9 (F := Ideal) x w a (ix2 s y) : EReal) = (a (ix2 s y) : EReal) + ∑ d : Fin 2048, (x (ix2 s d) : EReal) * w (ix2 d y) := by
  unfold k0_pay9
  rw [shapeCast_apply _ shapeCasts_S256x512_S256x512 (ix2 s y) (ix2 s y) rfl]
  show (a (ix2 s y) : EReal) + k0_pay7 (F := Ideal) x w (ix2 s y) = _
  rw [pay7_apply]

/-- One chunk's contribution to the accumulator at row `s`, column `y`. -/
def chunk (T : S16x128.Idx → EReal) (X : S256x14336.Idx → EReal) (C : S256x2048.Idx → BitVec 8) (A : S4x256x128.Idx → EReal)
    (j : Fin 7) (s : Fin 256) (y : Fin 512) : EReal :=
  ∑ d : Fin 2048, X (ix2 s ⟨2048 * j.val + d.val, by have := j.isLt; have := d.isLt; omega⟩) * deq T C A j (ix2 d y)

/-- The chunk of activations a step loads. -/
theorem xchunk_apply (i : grid0.Coords) (arg3 : Memref sig .tc .vmem S256x14336 .bf16) (harg3 : arg3.IsWhole) (x1 : Vec Ideal S256x14336 .bf16)
    (h : ∀ a, k0_off10 i a + S256x2048.size a ≤ S256x14336.size a) (s : Fin 256) (d : Fin 2048) :
    (View.readAt (Elt Ideal) arg3.view (Rect.unit (s := S256x14336) (k0_off10 i) S256x2048.size h).toLoadRect (harg3.unread x1) (ix2 s d) : EReal)
      = x1 (ix2 s ⟨2048 * (i 1).val + d.val, by have : (i 1).val < 7 := (i 1).isLt; have := d.isLt; omega⟩) := by
  rw [View.readAt_apply, harg3.read_unread]
  refine congrArg x1 (funext fun a => Fin.ext ?_)
  have e := k0_off10_eq i
  match a with
  | 0 =>
    show k0_off10 i 0 + 1 * s.val = s.val
    rw [e]; show 0 + 1 * s.val = s.val; omega
  | 1 =>
    show k0_off10 i 1 + 1 * d.val = 2048 * (i 1).val + d.val
    rw [e]; show 2048 * (i 1).val + 1 * d.val = 2048 * (i 1).val + d.val; omega

/-- A middle step adds its chunk's contribution. -/
theorem sout0_B_3_apply (c : Dev nD) (i : grid0.Coords) (arg2 : Memref sig .tc .vmem S16x128 .f32) (harg2 : arg2.IsWhole) (arg3 : Memref sig .tc .vmem S256x14336 .bf16) (harg3 : arg3.IsWhole) (arg4 : Memref sig .tc .vmem S256x2048 .i8) (harg4 : arg4.IsWhole) (arg5 : Memref sig .tc .vmem S512x224 .f32) (harg5 : arg5.IsWhole) (arg6 : Memref sig .tc .vmem S1x1x512 .f32) (harg6 : arg6.IsWhole) (arg7 : Memref sig .tc .vmem S256x512 .bf16) (harg7 : arg7.IsWhole) (arg8 : Memref sig .tc .vmem S512x128 .f32) (harg8 : arg8.IsWhole) (arg9 : Memref sig .tc .vmem S4x256x128 .f32) (harg9 : arg9.IsWhole) (arg10 : Memref sig .tc .vmem S2048x512 .bf16) (harg10 : arg10.IsWhole) (arg11 : Memref sig .tc .vmem S256x512 .f32) (harg11 : arg11.IsWhole) (arg12 : Memref sig .tc .vmem S2x256x2x128 .bf16) (harg12 : arg12.IsWhole) (hc0 : ¬cond0_0 i) (hc1 : ¬cond0_1 i) (hc2 : cond0_2 i) (hc3 : ¬cond0_3 i)     (x0 : Vec Ideal S16x128 .f32) (x1 : Vec Ideal S256x14336 .bf16) (x2 : Vec Ideal S256x2048 .i8) (x3 : Vec Ideal S512x224 .f32) (x4 : Vec Ideal S1x1x512 .f32) (xs1 : Vec Ideal S4x256x128 .f32) (xs3 : Vec Ideal S256x512 .f32) (s : Fin 256) (y : Fin 512) :
    (sout0_B_3 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 xs1 xs3 (ix2 s y) : EReal) = (xs3 (ix2 s y) : EReal) + chunk x0 x1 x2 xs1 (i 1) s y := by
  unfold sout0_B_3
  rw [View.read_writes_junk_eq_canon]
  unfold kernelRun0_B
  dsimp only
  refine (congrFun (View.canon_cons_unit_zero (funext fun a => by match a with | 0 => rfl | 1 => rfl) _ _ _) _).trans ?_
  unfold chunk
  refine (pay9_apply _ _ _ s y).trans ?_
  refine congrArg₂ (· + ·) ?_ (Finset.sum_congr rfl fun d _ => congrArg₂ (· * ·) (xchunk_apply i arg3 harg3 x1 _ s d) ?_)
  · rw [View.readAt_apply, harg11.read_unread]
    exact congrArg xs3 (funext fun a => by
      match a with
      | 0 => exact Fin.ext (by show 0 + 1 * s.val = s.val; omega)
      | 1 => exact Fin.ext (by show 0 + 1 * y.val = y.val; omega))
  · rw [View.readCov_eq_canon']
    have hidx : ((Rect.unit (s := S2048x512) ![0, 0] S2048x512.size inb_S2048x512_S2048x512_0_0).toLoadRect.idx (ix2 d y) : S2048x512.Idx) = ix2 d y := by
      funext a; match a with
      | 0 => exact Fin.ext (by show 0 + 1 * d.val = d.val; omega)
      | 1 => exact Fin.ext (by show 0 + 1 * y.val = y.val; omega)
    refine (congrArg _ hidx).trans ?_
    refine (loop_canon Variants.none c none i arg2 harg2 arg3 harg3 arg4 harg4 arg5 harg5 arg6 harg6 arg7 harg7 arg8 harg8 arg9 harg9 arg10 harg10 arg11 harg11 arg12 harg12 (BitVec.ofNat 32 ↑(i 1)) (harg2.unread x0) (harg4.unread x2) (harg9.unread xs1) (ix2 d y)).trans ?_
    rw [harg2.read_unread, harg4.read_unread, harg9.read_unread]

/-- The last step adds its chunk's contribution. -/
theorem sout0_C_3_apply (c : Dev nD) (i : grid0.Coords) (arg2 : Memref sig .tc .vmem S16x128 .f32) (harg2 : arg2.IsWhole) (arg3 : Memref sig .tc .vmem S256x14336 .bf16) (harg3 : arg3.IsWhole) (arg4 : Memref sig .tc .vmem S256x2048 .i8) (harg4 : arg4.IsWhole) (arg5 : Memref sig .tc .vmem S512x224 .f32) (harg5 : arg5.IsWhole) (arg6 : Memref sig .tc .vmem S1x1x512 .f32) (harg6 : arg6.IsWhole) (arg7 : Memref sig .tc .vmem S256x512 .bf16) (harg7 : arg7.IsWhole) (arg8 : Memref sig .tc .vmem S512x128 .f32) (harg8 : arg8.IsWhole) (arg9 : Memref sig .tc .vmem S4x256x128 .f32) (harg9 : arg9.IsWhole) (arg10 : Memref sig .tc .vmem S2048x512 .bf16) (harg10 : arg10.IsWhole) (arg11 : Memref sig .tc .vmem S256x512 .f32) (harg11 : arg11.IsWhole) (arg12 : Memref sig .tc .vmem S2x256x2x128 .bf16) (harg12 : arg12.IsWhole) (hc0 : ¬cond0_0 i) (hc1 : ¬cond0_1 i) (hc2 : cond0_2 i) (hc3 : cond0_3 i)     (x0 : Vec Ideal S16x128 .f32) (x1 : Vec Ideal S256x14336 .bf16) (x2 : Vec Ideal S256x2048 .i8) (x3 : Vec Ideal S512x224 .f32) (x4 : Vec Ideal S1x1x512 .f32) (xs1 : Vec Ideal S4x256x128 .f32) (xs3 : Vec Ideal S256x512 .f32) (s : Fin 256) (y : Fin 512) :
    (sout0_C_3 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 xs1 xs3 (ix2 s y) : EReal) = (xs3 (ix2 s y) : EReal) + chunk x0 x1 x2 xs1 (i 1) s y := by
  unfold sout0_C_3
  rw [View.read_writes_junk_eq_canon]
  unfold kernelRun0_C
  dsimp only
  unfold kernelRun0_C.sl.HS3_1
  refine (congrFun (View.canon_cons_unit_zero (funext fun a => by match a with | 0 => rfl | 1 => rfl) _ _ _) _).trans ?_
  unfold chunk
  refine (pay9_apply _ _ _ s y).trans ?_
  refine congrArg₂ (· + ·) ?_ (Finset.sum_congr rfl fun d _ => congrArg₂ (· * ·) (xchunk_apply i arg3 harg3 x1 _ s d) ?_)
  · rw [View.readAt_apply, harg11.read_unread]
    exact congrArg xs3 (funext fun a => by
      match a with
      | 0 => exact Fin.ext (by show 0 + 1 * s.val = s.val; omega)
      | 1 => exact Fin.ext (by show 0 + 1 * y.val = y.val; omega))
  · rw [View.readCov_eq_canon']
    have hidx : ((Rect.unit (s := S2048x512) ![0, 0] S2048x512.size inb_S2048x512_S2048x512_0_0).toLoadRect.idx (ix2 d y) : S2048x512.Idx) = ix2 d y := by
      funext a; match a with
      | 0 => exact Fin.ext (by show 0 + 1 * d.val = d.val; omega)
      | 1 => exact Fin.ext (by show 0 + 1 * y.val = y.val; omega)
    refine (congrArg _ hidx).trans ?_
    refine (loop_canon Variants.none c none i arg2 harg2 arg3 harg3 arg4 harg4 arg5 harg5 arg6 harg6 arg7 harg7 arg8 harg8 arg9 harg9 arg10 harg10 arg11 harg11 arg12 harg12 (BitVec.ofNat 32 ↑(i 1)) (harg2.unread x0) (harg4.unread x2) (harg9.unread xs1) (ix2 d y)).trans ?_
    rw [harg2.read_unread, harg4.read_unread, harg9.read_unread]

/-- At a chunk column's first step the accumulator is set to that chunk's contribution. -/
theorem sout0_A_3_apply (c : Dev nD) (i : grid0.Coords) (arg2 : Memref sig .tc .vmem S16x128 .f32) (harg2 : arg2.IsWhole) (arg3 : Memref sig .tc .vmem S256x14336 .bf16) (harg3 : arg3.IsWhole) (arg4 : Memref sig .tc .vmem S256x2048 .i8) (harg4 : arg4.IsWhole) (arg5 : Memref sig .tc .vmem S512x224 .f32) (harg5 : arg5.IsWhole) (arg6 : Memref sig .tc .vmem S1x1x512 .f32) (harg6 : arg6.IsWhole) (arg7 : Memref sig .tc .vmem S256x512 .bf16) (harg7 : arg7.IsWhole) (arg8 : Memref sig .tc .vmem S512x128 .f32) (harg8 : arg8.IsWhole) (arg9 : Memref sig .tc .vmem S4x256x128 .f32) (harg9 : arg9.IsWhole) (arg10 : Memref sig .tc .vmem S2048x512 .bf16) (harg10 : arg10.IsWhole) (arg11 : Memref sig .tc .vmem S256x512 .f32) (harg11 : arg11.IsWhole) (arg12 : Memref sig .tc .vmem S2x256x2x128 .bf16) (harg12 : arg12.IsWhole) (hc0 : cond0_0 i) (hc1 : cond0_1 i) (hc2 : ¬cond0_2 i) (hc3 : ¬cond0_3 i)     (x0 : Vec Ideal S16x128 .f32) (x1 : Vec Ideal S256x14336 .bf16) (x2 : Vec Ideal S256x2048 .i8) (x3 : Vec Ideal S512x224 .f32) (x4 : Vec Ideal S1x1x512 .f32) (s : Fin 256) (y : Fin 512) :
    (sout0_A_3 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 (ix2 s y) : EReal) = chunk x0 x1 x2 (arg9.view.read (Elt Ideal) (arg9.view.writes (Elt Ideal) arg9.view.junk (kernelRun0_A.sl.HS1_8 c arg5 harg5 arg8 x3))) (i 1) s y := by
  unfold sout0_A_3
  rw [View.read_writes_junk_eq_canon]
  unfold kernelRun0_A
  dsimp only
  refine (congrFun (View.canon_cons_unit_zero (funext fun a => by match a with | 0 => rfl | 1 => rfl) _ _ _) _).trans ?_
  unfold chunk
  refine (pay8_apply _ _ s y).trans ?_
  refine Finset.sum_congr rfl fun d _ => congrArg₂ (· * ·) (xchunk_apply i arg3 harg3 x1 _ s d) ?_
  · rw [View.readCov_eq_canon']
    have hidx : ((Rect.unit (s := S2048x512) ![0, 0] S2048x512.size inb_S2048x512_S2048x512_0_0).toLoadRect.idx (ix2 d y) : S2048x512.Idx) = ix2 d y := by
      funext a; match a with
      | 0 => exact Fin.ext (by show 0 + 1 * d.val = d.val; omega)
      | 1 => exact Fin.ext (by show 0 + 1 * y.val = y.val; omega)
    refine (congrArg _ hidx).trans ?_
    refine (loop_canon Variants.none c none i arg2 harg2 arg3 harg3 arg4 harg4 arg5 harg5 arg6 harg6 arg7 harg7 arg8 harg8 arg9 harg9 arg10 harg10 arg11 harg11 arg12 harg12 (BitVec.ofNat 32 ↑(i 1)) (harg2.unread x0) (harg4.unread x2) (arg9.view.writes (Elt Ideal) arg9.view.junk (kernelRun0_A.sl.HS1_8 c arg5 harg5 arg8 x3)) (ix2 d y)).trans ?_
    rw [harg2.read_unread, harg4.read_unread]

end Cert.KernelIdeal.Gen

end
-- ==== Proof.Windows.lean ====
/- What the kernel reads of its arguments at each grid step, entry by entry. -/
module

public import proofs.«01_k».proof.Proof.Gen.KernelIdeal.Loops
public import proofs.«01_k».proof.Proof.Acc
public import proofs.«01_k».proof.Proof.Gen.KernelIdeal.Value
@[expose] public section

set_option maxRecDepth 16384

noncomputable section

namespace Cert.KernelIdeal.Gen

open Idealize.ShloMosaic hiding ix1 ix2 ix3 ix4
open Idealize.ShloMosaic.TcCoe Idealize.ShloMosaic.Tactic

variable (m : (ℓ : Loc nD τ sig) → Buf (Elt Ideal) ℓ)

open ValueIdx Idealize.ShloMosaic.StableHlo

/-- The sixteen entries of the NF4 table, as the bits of f32 numbers. -/
def nf4 : Fin 16 → BitVec 32 := fun r => lit0 ⟨128 * r.val, by omega⟩

/-- Every one of the 128 columns of the program's table array holds that table. -/
theorem lit0_row : ∀ (r : Fin 16) (l : Fin 128), lit0 ⟨128 * r.val + l.val, by omega⟩ = nf4 r := by
  decide +kernel

/-- An index into a 4096-channel axis from its block and the place in it. -/
def chan (g : Fin 8) (y : Fin 512) : Fin 4096 := ⟨512 * g.val + (4 * (y.val % 128) + y.val / 128), by omega⟩

theorem idx_facts : ∀ t : Fin grid0.N,
    (win0_0.index t 0 = 0 ∧ win0_0.index t 1 = 0) ∧ (win0_1.index t 0 = 0 ∧ win0_1.index t 1 = 0)
    ∧ (win0_2.index t 0 = t.val / 7 ∧ win0_2.index t 1 = t.val % 7) ∧ (win0_3.index t 0 = t.val / 7 ∧ win0_3.index t 1 = 0)
    ∧ (win0_4.index t 0 = t.val / 7 ∧ win0_4.index t 1 = 0 ∧ win0_4.index t 2 = 0)
    ∧ ((grid0.coords t) 1).val = t.val % 7 := by
  decide +kernel

/-- The table array at an entry. -/
theorem V_table (c : Dev nD) (r : Fin 16) (l : Fin 128) :
    (V m c main_cst : Vec Ideal S16x128 .f32) (ix2 r l) = Ideal.ofBits .f32 (nf4 r) := by
  unfold_abbrev_sides
  unfold hostOps0
  after_results
  show FloatOps.ofBits .f32 (lit0 (S16x128.rowMajor (ix2 r l))) = _
  rw [← lit0_row r l]
  congr 2
  apply Fin.ext
  rw [Shape.rowMajor_val_two]
  show r.val * 128 + l.val = 128 * r.val + l.val
  omega

theorem bias_order (b : S4096.Idx → EReal) (h1 : S4096.ShapeCasts S8x128x4) (h2 : S8x128x4.Transposes [0, 2, 1] S8x4x128)
    (h3 : S8x4x128.ShapeCasts S8x1x512) (g : Fin 8) (y : Fin 512) :
    shapeCast S8x1x512 (transpose S8x4x128 [0, 2, 1] (shapeCast S8x128x4 b h1) h2) h3 (ix3 g 0 y) = b (ix1 (chan g y)) := by
  have h128 := Nat.mod_add_div y.val 128
  rw [shapeCast_apply _ h3 _ (ix3 g (⟨y.val / 128, by omega⟩ : Fin 4) (⟨y.val % 128, by omega⟩ : Fin 128))
    ((Shape.rowMajor_val_three _).trans (Eq.trans (by show (g.val * 4 + y.val / 128) * 128 + y.val % 128 = (g.val * 1 + 0) * 512 + y.val; omega) (Shape.rowMajor_val_three _).symm))]
  rw [transpose_apply [0, 2, 1] _ h2 _ (ix3 g (⟨y.val % 128, by omega⟩ : Fin 128) (⟨y.val / 128, by omega⟩ : Fin 4)) (fun a => by match a with | 0 => rfl | 1 => rfl | 2 => rfl)]
  exact shapeCast_apply _ h1 _ (ix1 (chan g y))
    ((Shape.rowMajor_val_one _).trans (Eq.trans (by show 512 * g.val + (4 * (y.val % 128) + y.val / 128) = (g.val * 128 + y.val % 128) * 4 + y.val / 128; omega) (Shape.rowMajor_val_three _).symm))

/-- The bias in the kernel's own channel order. -/
theorem V_bias (c : Dev nD) (g : Fin 8) (y : Fin 512) :
    (V m c main_v2 : Vec Ideal S8x1x512 .f32) (ix3 g 0 y) = (m (c.tc.loc main_arg3) : Vec Ideal S4096 .f32) (ix1 (chan g y)) := by
  unfold_abbrev_sides
  unfold hostOps0
  after_results
  exact bias_order _ _ _ _ g y

/-- Window 0 is the whole table. -/
theorem iblk0_apply (c : Dev nD) (t : Fin cfg0.N) (r : Fin 16) (l : Fin 128) :
    (iblk m c 0 t : Vec Ideal S16x128 .f32) (ix2 r l) = Ideal.ofBits .f32 (nf4 r) := by
  rw [← V_table m c r l]
  have hi := (idx_facts t).1
  unfold iblk
  rw [View.read_apply]
  show V m c main_cst _ = _
  congr 1
  funext a
  apply Fin.ext
  match a with
  | ⟨0, _⟩ => show win0_0.index t 0 * 16 + 1 * r.val = r.val; rw [hi.1]; omega
  | ⟨1, _⟩ => show win0_0.index t 1 * 128 + 1 * l.val = l.val; rw [hi.2]; omega

/-- Window 1 is the whole of the activations. -/
theorem iblk1_apply (c : Dev nD) (t : Fin cfg0.N) (s : Fin 256) (d : Fin 14336) :
    (iblk m c 1 t : Vec Ideal S256x14336 .bf16) (ix2 s d) = (m (c.tc.loc main_arg0) : Vec Ideal S256x14336 .bf16) (ix2 s d) := by
  rw [← V_main_arg0 m c]
  have hi := (idx_facts t).2.1
  unfold iblk
  rw [View.read_apply]
  show V m c main_arg0 _ = V m c main_arg0 _
  congr 1
  funext a
  apply Fin.ext
  match a with
  | ⟨0, _⟩ => show win0_1.index t 0 * 256 + 1 * s.val = s.val; rw [hi.1]; omega
  | ⟨1, _⟩ => show win0_1.index t 1 * 14336 + 1 * d.val = d.val; rw [hi.2]; omega

/-- Window 2 at step `(g, k)` is block `(g, k)` of the packed codes. -/
theorem iblk2_apply (c : Dev nD) (t : Fin cfg0.N) (g : Fin 8) (k : Fin 7) (ht : t.val = 7 * g.val + k.val) (r : Fin 256) (d : Fin 2048) :
    (iblk m c 2 t : Vec Ideal S256x2048 .i8) (ix2 r d)
      = (m (c.tc.loc main_arg1) : Vec Ideal S2048x14336 .i8) (ix2 ⟨256 * g.val + r.val, by omega⟩ ⟨2048 * k.val + d.val, by omega⟩) := by
  rw [← V_main_arg1 m c]
  have hi := (idx_facts t).2.2.1
  unfold iblk
  rw [View.read_apply]
  show V m c main_arg1 _ = V m c main_arg1 _
  congr 1
  funext a
  apply Fin.ext
  match a with
  | ⟨0, _⟩ => show win0_2.index t 0 * 256 + 1 * r.val = 256 * g.val + r.val; rw [hi.1]; omega
  | ⟨1, _⟩ => show win0_2.index t 1 * 2048 + 1 * d.val = 2048 * k.val + d.val; rw [hi.2]; omega

/-- Window 3 at step `(g, k)` is the rows of the scales of group `g`. -/
theorem iblk3_apply (c : Dev nD) (t : Fin cfg0.N) (g : Fin 8) (k : Fin 7) (ht : t.val = 7 * g.val + k.val) (r : Fin 512) (q : Fin 224) :
    (iblk m c 3 t : Vec Ideal S512x224 .f32) (ix2 r q)
      = (m (c.tc.loc main_arg2) : Vec Ideal S4096x224 .f32) (ix2 ⟨512 * g.val + r.val, by omega⟩ q) := by
  rw [← V_main_arg2 m c]
  have hi := (idx_facts t).2.2.2.1
  unfold iblk
  rw [View.read_apply]
  show V m c main_arg2 _ = V m c main_arg2 _
  congr 1
  funext a
  apply Fin.ext
  match a with
  | ⟨0, _⟩ => show win0_3.index t 0 * 512 + 1 * r.val = 512 * g.val + r.val; rw [hi.1]; omega
  | ⟨1, _⟩ => show win0_3.index t 1 * 224 + 1 * q.val = q.val; rw [hi.2]; omega

/-- Window 4 at step `(g, k)` is the bias of group `g`, in the kernel's channel order. -/
theorem iblk4_apply (c : Dev nD) (t : Fin cfg0.N) (g : Fin 8) (k : Fin 7) (ht : t.val = 7 * g.val + k.val) (y : Fin 512) :
    (iblk m c 4 t : Vec Ideal S1x1x512 .f32) (ix3 0 0 y)
      = (m (c.tc.loc main_arg3) : Vec Ideal S4096 .f32) (ix1 (chan g y)) := by
  rw [← V_bias m c]
  have hi := (idx_facts t).2.2.2.2.1
  unfold iblk
  rw [View.read_apply]
  show V m c main_v2 _ = V m c main_v2 _
  congr 1
  funext a
  apply Fin.ext
  match a with
  | ⟨0, _⟩ => show win0_4.index t 0 * 1 + 1 * 0 = g.val; rw [hi.1]; omega
  | ⟨1, _⟩ => show win0_4.index t 1 * 1 + 1 * 0 = 0; rw [hi.2.1]
  | ⟨2, _⟩ => show win0_4.index t 2 * 512 + 1 * y.val = y.val; rw [hi.2.2]; omega

/-- The second grid coordinate of step `(g, k)` is `k`. -/
theorem coord1 (t : Fin cfg0.N) (g : Fin 8) (k : Fin 7) (ht : t.val = 7 * g.val + k.val) : ((grid0.coords t) 1).val = k.val := by
  have h := (idx_facts t).2.2.2.2.2
  omega

end Cert.KernelIdeal.Gen

end
-- ==== Proof.Scales.lean ====
/- What a chunk column's first step leaves in the buffer of transposed scales. -/
module

public import proofs.«01_k».proof.Proof.Gen.KernelIdeal.Loops
public import proofs.«01_k».proof.Proof.Gen.KernelIdeal.Frame
public import Idealize.ShloMosaic.PureOps.Ideal
public import Idealize.ShloMosaic.Lib.Pipeline.Value
public import Idealize.ShloMosaic.Lib.Pipeline.ReadBack
public import Idealize.ShloMosaic.Lib.Pipeline.ValueKit.Geometry
public import Idealize.ShloMosaic.Lib.Ring
public import Idealize.ShloMosaic.Lib.ValueIdxCore
public import Idealize.ShloMosaic.Lib.Pointwise
@[expose] public section

set_option maxRecDepth 16384

noncomputable section

namespace Cert.KernelIdeal.Gen

open Idealize.ShloMosaic hiding ix1 ix2 ix3 ix4
open Idealize.ShloMosaic.TcCoe Idealize.ShloMosaic.Tactic

open ValueIdx

/-- The transposed scales' buffer when its upper and lower halves of rows are read off two arrays of rows of scales:
    row `n` of plane `p`, lane `a`, is row `4a + p`, column `n % 128`, of the array for that half. -/
def atOf (F : Nat → S512x128.Idx → EReal) : S4x256x128.Idx → EReal := fun y =>
  have h0 : (y 0).val < 4 := (y 0).isLt
  have h2 : (y 2).val < 128 := (y 2).isLt
  F ((y 1).val / 128) (ix2 ⟨4 * (y 2).val + (y 0).val, by omega⟩ ⟨(y 1).val % 128, Nat.mod_lt _ (by decide)⟩)

/-- One store of 128 transposed rows of scales writes `atOf` at its place. -/
theorem at_piece (F : Nat → S512x128.Idx → EReal) (p h : Nat) (hp : p < 4) (v : Vec Ideal S128x128 .f32)
    (hv : ∀ r l : Fin 128, (v (ix2 r l) : EReal) = F h (ix2 ⟨4 * r.val + p, by have := r.isLt; omega⟩ l))
    (t : S128x128.Transposes [1, 0] S128x128) (c : S128x128.ShapeCasts S1x128x128)
    (inb : ∀ a, (![p, 128 * h, 0] : Fin 3 → Nat) a + S1x128x128.size a ≤ S4x256x128.size a) (x : S1x128x128.Idx) :
    (shapeCast S1x128x128 (transpose S128x128 [1, 0] v t) c x : EReal)
      = atOf F ((Rect.unit (s := S4x256x128) ![p, 128 * h, 0] S1x128x128.size inb).emb x) := by
  have h0 : (x 0).val < 1 := (x 0).isLt
  have h1 : (x 1).val < 128 := (x 1).isLt
  have h2 : (x 2).val < 128 := (x 2).isLt
  rw [shapeCast_apply _ c x (ix2 (⟨(x 1).val, h1⟩ : Fin 128) (⟨(x 2).val, h2⟩ : Fin 128))
    ((Shape.rowMajor_val_two _).trans (Eq.trans (by show (x 1).val * 128 + (x 2).val = ((x 0).val * 128 + (x 1).val) * 128 + (x 2).val; omega) (Shape.rowMajor_val_three _).symm))]
  rw [transpose_apply [1, 0] v t _ (ix2 (⟨(x 2).val, h2⟩ : Fin 128) (⟨(x 1).val, h1⟩ : Fin 128)) (fun a => by match a with | 0 => rfl | 1 => rfl)]
  rw [hv]
  have e0 := ValueKit.rect_emb_unit_val (s := S4x256x128) ![p, 128 * h, 0] S1x128x128.size inb x 0
  have e1 := ValueKit.rect_emb_unit_val (s := S4x256x128) ![p, 128 * h, 0] S1x128x128.size inb x 1
  have e2 := ValueKit.rect_emb_unit_val (s := S4x256x128) ![p, 128 * h, 0] S1x128x128.size inb x 2
  replace e0 : ((Rect.unit (s := S4x256x128) ![p, 128 * h, 0] S1x128x128.size inb).emb x 0).val = p + (x 0).val := e0
  replace e1 : ((Rect.unit (s := S4x256x128) ![p, 128 * h, 0] S1x128x128.size inb).emb x 1).val = 128 * h + (x 1).val := e1
  replace e2 : ((Rect.unit (s := S4x256x128) ![p, 128 * h, 0] S1x128x128.size inb).emb x 2).val = 0 + (x 2).val := e2
  generalize (Rect.unit (s := S4x256x128) ![p, 128 * h, 0] S1x128x128.size inb).emb x = z at e0 e1 e2 ⊢
  unfold atOf
  have eh : h = (z 1).val / 128 := by omega
  refine congrArg₂ F eh (congrArg₂ ix2 (Fin.ext ?_) (Fin.ext ?_))
  · show 4 * (x 2).val + p = 4 * (z 2).val + (z 0).val
    omega
  · show (x 1).val = (z 1).val % 128
    omega

/-- The scratch rows of scales as the first half and as the second half of the transposes find them. -/
def rowsOf (c : Dev nD) (arg5 : Memref sig .tc .vmem S512x224 .f32) (harg5 : arg5.IsWhole) (x3 : Vec Ideal S512x224 .f32) (h : Nat) : S512x128.Idx → EReal :=
  if h = 0 then View.canon (kernelRun0_A.sl.HS0_1 (F := Ideal) c arg5 harg5 x3) else View.canon (kernelRun0_A.sl.HS0_2 (F := Ideal) c arg5 harg5 x3)

theorem rowsOf_zero (c : Dev nD) (arg5 : Memref sig .tc .vmem S512x224 .f32) (harg5 : arg5.IsWhole) (x3 : Vec Ideal S512x224 .f32) (r : Fin 512) (l : Fin 128) :
    rowsOf c arg5 harg5 x3 0 (ix2 r l) = x3 (ix2 r ⟨l.val, by have := l.isLt; omega⟩) := by
  unfold rowsOf
  rw [if_pos rfl]
  unfold kernelRun0_A.sl.HS0_1
  refine (congrFun (View.canon_cons_unit_zero (funext fun a => by match a with | 0 => rfl | 1 => rfl) _ _ _) _).trans ?_
  unfold k0_pay10
  rw [shapeCast_apply _ shapeCasts_S512x128_S512x128 (ix2 r l) (ix2 r l) rfl]
  rw [View.readAt_apply, harg5.read_unread]
  refine congrArg x3 (funext fun a => Fin.ext ?_)
  match a with
  | 0 => show 0 + 1 * r.val = r.val; omega
  | 1 => show 0 + 1 * l.val = l.val; omega

theorem rowsOf_one (c : Dev nD) (arg5 : Memref sig .tc .vmem S512x224 .f32) (harg5 : arg5.IsWhole) (x3 : Vec Ideal S512x224 .f32) (r : Fin 512) (l : Fin 128) (hl : l.val < 96) :
    rowsOf c arg5 harg5 x3 1 (ix2 r l) = x3 (ix2 r ⟨128 + l.val, by omega⟩) := by
  unfold rowsOf
  rw [if_neg (by decide)]
  unfold kernelRun0_A.sl.HS0_2
  have e := View.canon_cons_emb (Val := Elt Ideal) (Rect.unit (s := S512x128) ![0, 0] ![512, 96] inb_S512x128_S512x96_0_0) (k0_pay1 (F := Ideal) (kernelRun0_A.sl.r c arg5 harg5 x3))
    (kernelRun0_A.sl.HS0_1 c arg5 harg5 x3) (ix2 r (⟨l.val, hl⟩ : Fin 96) : S512x96.Idx)
  have hi : (Rect.unit (s := S512x128) ![0, 0] ![512, 96] inb_S512x128_S512x96_0_0).emb (ix2 r (⟨l.val, hl⟩ : Fin 96) : S512x96.Idx) = ix2 r l := by
    funext a
    match a with
    | 0 => exact Fin.ext (by show 0 + 1 * r.val = r.val; omega)
    | 1 => exact Fin.ext (by show 0 + 1 * l.val = l.val; omega)
  rw [hi] at e
  refine e.trans ?_
  unfold k0_pay1
  rw [shapeCast_apply _ shapeCasts_S512x96_S512x96 (ix2 r (⟨l.val, hl⟩ : Fin 96)) (ix2 r (⟨l.val, hl⟩ : Fin 96)) rfl]
  unfold kernelRun0_A.sl.r
  rw [View.readAt_apply, harg5.read_unread]
  refine congrArg x3 (funext fun a => Fin.ext ?_)
  match a with
  | 0 => show 0 + 1 * r.val = r.val; omega
  | 1 => show 128 + 1 * l.val = 128 + l.val; omega

/-- What the eight stores leave in the transposed scales' buffer. -/
theorem at_canon (c : Dev nD) (arg5 : Memref sig .tc .vmem S512x224 .f32) (harg5 : arg5.IsWhole) (arg8 : Memref sig .tc .vmem S512x128 .f32) (x3 : Vec Ideal S512x224 .f32) (y : S4x256x128.Idx) :
    (View.canon (kernelRun0_A.sl.HS1_8 (F := Ideal) c arg5 harg5 arg8 x3) y : EReal) = atOf (rowsOf c arg5 harg5 x3) y := by
  have hc := View.cover_of_tiledL (kernelRun0_A.sl.HS1_8 (F := Ideal) c arg5 harg5 arg8 x3) S1x128x128.size (by sl_kernel_rfl) y
  have hp : View.PiecesOf (Val := Elt Ideal) (atOf (rowsOf c arg5 harg5 x3)) (kernelRun0_A.sl.HS1_8 (F := Ideal) c arg5 harg5 arg8 x3) := by
    unfold kernelRun0_A.sl.HS1_8
    refine ⟨?_, ?_⟩
    · intro x
      refine at_piece (rowsOf c arg5 harg5 x3) 3 1 (by decide) (kernelRun0_A.sl.v62 (F := Ideal) c arg5 harg5 arg8 x3) (fun r l => ?_) transposes_S128x128_p1_0_S128x128 shapeCasts_S128x128_S1x128x128 inb_S4x256x128_S1x128x128_3_128_0 x
      unfold kernelRun0_A.sl.v62 rowsOf
      rw [View.readCov_eq_canon', if_neg (by decide)]
      refine congrArg _ (funext fun a => Fin.ext ?_)
      match a with
      | 0 => show 3 + 4 * r.val = 4 * r.val + 3; omega
      | 1 => show 0 + 1 * l.val = l.val; omega
    refine ⟨?_, ?_⟩
    · intro x
      refine at_piece (rowsOf c arg5 harg5 x3) 2 1 (by decide) (kernelRun0_A.sl.v57 (F := Ideal) c arg5 harg5 arg8 x3) (fun r l => ?_) transposes_S128x128_p1_0_S128x128 shapeCasts_S128x128_S1x128x128 inb_S4x256x128_S1x128x128_2_128_0 x
      unfold kernelRun0_A.sl.v57 rowsOf
      rw [View.readCov_eq_canon', if_neg (by decide)]
      refine congrArg _ (funext fun a => Fin.ext ?_)
      match a with
      | 0 => show 2 + 4 * r.val = 4 * r.val + 2; omega
      | 1 => show 0 + 1 * l.val = l.val; omega
    refine ⟨?_, ?_⟩
    · intro x
      refine at_piece (rowsOf c arg5 harg5 x3) 1 1 (by decide) (kernelRun0_A.sl.v52 (F := Ideal) c arg5 harg5 arg8 x3) (fun r l => ?_) transposes_S128x128_p1_0_S128x128 shapeCasts_S128x128_S1x128x128 inb_S4x256x128_S1x128x128_1_128_0 x
      unfold kernelRun0_A.sl.v52 rowsOf
      rw [View.readCov_eq_canon', if_neg (by decide)]
      refine congrArg _ (funext fun a => Fin.ext ?_)
      match a with
      | 0 => show 1 + 4 * r.val = 4 * r.val + 1; omega
      | 1 => show 0 + 1 * l.val = l.val; omega
    refine ⟨?_, ?_⟩
    · intro x
      refine at_piece (rowsOf c arg5 harg5 x3) 0 1 (by decide) (kernelRun0_A.sl.v47 (F := Ideal) c arg5 harg5 arg8 x3) (fun r l => ?_) transposes_S128x128_p1_0_S128x128 shapeCasts_S128x128_S1x128x128 inb_S4x256x128_S1x128x128_0_128_0 x
      unfold kernelRun0_A.sl.v47 rowsOf
      rw [View.readCov_eq_canon', if_neg (by decide)]
      refine congrArg _ (funext fun a => Fin.ext ?_)
      match a with
      | 0 => show 0 + 4 * r.val = 4 * r.val + 0; omega
      | 1 => show 0 + 1 * l.val = l.val; omega
    refine ⟨?_, ?_⟩
    · intro x
      refine at_piece (rowsOf c arg5 harg5 x3) 3 0 (by decide) (kernelRun0_A.sl.v38 (F := Ideal) c arg5 harg5 arg8 x3) (fun r l => ?_) transposes_S128x128_p1_0_S128x128 shapeCasts_S128x128_S1x128x128 inb_S4x256x128_S1x128x128_3_0_0 x
      unfold kernelRun0_A.sl.v38 rowsOf
      rw [View.readCov_eq_canon', if_pos rfl]
      refine congrArg _ (funext fun a => Fin.ext ?_)
      match a with
      | 0 => show 3 + 4 * r.val = 4 * r.val + 3; omega
      | 1 => show 0 + 1 * l.val = l.val; omega
    refine ⟨?_, ?_⟩
    · intro x
      refine at_piece (rowsOf c arg5 harg5 x3) 2 0 (by decide) (kernelRun0_A.sl.v33 (F := Ideal) c arg5 harg5 arg8 x3) (fun r l => ?_) transposes_S128x128_p1_0_S128x128 shapeCasts_S128x128_S1x128x128 inb_S4x256x128_S1x128x128_2_0_0 x
      unfold kernelRun0_A.sl.v33 rowsOf
      rw [View.readCov_eq_canon', if_pos rfl]
      refine congrArg _ (funext fun a => Fin.ext ?_)
      match a with
      | 0 => show 2 + 4 * r.val = 4 * r.val + 2; omega
      | 1 => show 0 + 1 * l.val = l.val; omega
    refine ⟨?_, ?_⟩
    · intro x
      refine at_piece (rowsOf c arg5 harg5 x3) 1 0 (by decide) (kernelRun0_A.sl.v28 (F := Ideal) c arg5 harg5 arg8 x3) (fun r l => ?_) transposes_S128x128_p1_0_S128x128 shapeCasts_S128x128_S1x128x128 inb_S4x256x128_S1x128x128_1_0_0 x
      unfold kernelRun0_A.sl.v28 rowsOf
      rw [View.readCov_eq_canon', if_pos rfl]
      refine congrArg _ (funext fun a => Fin.ext ?_)
      match a with
      | 0 => show 1 + 4 * r.val = 4 * r.val + 1; omega
      | 1 => show 0 + 1 * l.val = l.val; omega
    refine ⟨?_, ?_⟩
    · intro x
      refine at_piece (rowsOf c arg5 harg5 x3) 0 0 (by decide) (kernelRun0_A.sl.v23 (F := Ideal) c arg5 harg5 arg8 x3) (fun r l => ?_) transposes_S128x128_p1_0_S128x128 shapeCasts_S128x128_S1x128x128 inb_S4x256x128_S1x128x128_0_0_0 x
      unfold kernelRun0_A.sl.v23 rowsOf
      rw [View.readCov_eq_canon', if_pos rfl]
      refine congrArg _ (funext fun a => Fin.ext ?_)
      match a with
      | 0 => show 0 + 4 * r.val = 4 * r.val + 0; omega
      | 1 => show 0 + 1 * l.val = l.val; omega
    trivial
  have h := View.canon_append_of_pieces (atOf (rowsOf c arg5 harg5 x3)) [] (kernelRun0_A.sl.HS1_8 (F := Ideal) c arg5 harg5 arg8 x3) (fun p h x => View.PiecesOf.mem hp p h x) y hc
  rwa [List.append_nil] at h

/-- The transposed scales' buffer holds the scale of channel `4a + p`, quantisation block `n`, at plane `p`, row `n`, lane `a`. -/
theorem at_value (c : Dev nD) (arg5 : Memref sig .tc .vmem S512x224 .f32) (harg5 : arg5.IsWhole) (arg8 : Memref sig .tc .vmem S512x128 .f32) (x3 : Vec Ideal S512x224 .f32)
    (p : Fin 4) (n : Fin 256) (a : Fin 128) (hn : n.val < 224) :
    (View.canon (kernelRun0_A.sl.HS1_8 (F := Ideal) c arg5 harg5 arg8 x3) (ix3 p n a) : EReal)
      = x3 (ix2 ⟨4 * a.val + p.val, by have := a.isLt; have := p.isLt; omega⟩ ⟨n.val, hn⟩) := by
  rw [at_canon]
  show rowsOf c arg5 harg5 x3 (n.val / 128) (ix2 (⟨4 * a.val + p.val, _⟩ : Fin 512) (⟨n.val % 128, _⟩ : Fin 128)) = _
  by_cases h : n.val < 128
  · rw [show n.val / 128 = 0 by omega, rowsOf_zero]
    refine congrArg x3 (congrArg₂ ix2 rfl (Fin.ext ?_))
    show n.val % 128 = n.val
    omega
  · rw [show n.val / 128 = 1 by omega, rowsOf_one _ _ _ _ _ _ (by show n.val % 128 < 96; omega)]
    refine congrArg x3 (congrArg₂ ix2 rfl (Fin.ext ?_))
    show 128 + n.val % 128 = n.val
    omega

/-- A chunk column's first step leaves the column's scales, transposed. -/
theorem sout0_A_1_canon (c : Dev nD) (i : grid0.Coords) (arg2 : Memref sig .tc .vmem S16x128 .f32) (harg2 : arg2.IsWhole) (arg3 : Memref sig .tc .vmem S256x14336 .bf16) (harg3 : arg3.IsWhole) (arg4 : Memref sig .tc .vmem S256x2048 .i8) (harg4 : arg4.IsWhole) (arg5 : Memref sig .tc .vmem S512x224 .f32) (harg5 : arg5.IsWhole) (arg6 : Memref sig .tc .vmem S1x1x512 .f32) (harg6 : arg6.IsWhole) (arg7 : Memref sig .tc .vmem S256x512 .bf16) (harg7 : arg7.IsWhole) (arg8 : Memref sig .tc .vmem S512x128 .f32) (harg8 : arg8.IsWhole) (arg9 : Memref sig .tc .vmem S4x256x128 .f32) (harg9 : arg9.IsWhole) (arg10 : Memref sig .tc .vmem S2048x512 .bf16) (harg10 : arg10.IsWhole) (arg11 : Memref sig .tc .vmem S256x512 .f32) (harg11 : arg11.IsWhole) (arg12 : Memref sig .tc .vmem S2x256x2x128 .bf16) (harg12 : arg12.IsWhole) (hc0 : cond0_0 i) (hc1 : cond0_1 i) (hc2 : ¬cond0_2 i) (hc3 : ¬cond0_3 i)     (x0 : Vec Ideal S16x128 .f32) (x1 : Vec Ideal S256x14336 .bf16) (x2 : Vec Ideal S256x2048 .i8) (x3 : Vec Ideal S512x224 .f32) (x4 : Vec Ideal S1x1x512 .f32) :
    sout0_A_1 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 = View.canon (kernelRun0_A.sl.HS1_8 (F := Ideal) c arg5 harg5 arg8 x3) := by
  unfold sout0_A_1
  rw [View.read_writes_junk_eq_canon]
  unfold kernelRun0_A
  rfl

theorem sout0_A_1_apply (c : Dev nD) (i : grid0.Coords) (arg2 : Memref sig .tc .vmem S16x128 .f32) (harg2 : arg2.IsWhole) (arg3 : Memref sig .tc .vmem S256x14336 .bf16) (harg3 : arg3.IsWhole) (arg4 : Memref sig .tc .vmem S256x2048 .i8) (harg4 : arg4.IsWhole) (arg5 : Memref sig .tc .vmem S512x224 .f32) (harg5 : arg5.IsWhole) (arg6 : Memref sig .tc .vmem S1x1x512 .f32) (harg6 : arg6.IsWhole) (arg7 : Memref sig .tc .vmem S256x512 .bf16) (harg7 : arg7.IsWhole) (arg8 : Memref sig .tc .vmem S512x128 .f32) (harg8 : arg8.IsWhole) (arg9 : Memref sig .tc .vmem S4x256x128 .f32) (harg9 : arg9.IsWhole) (arg10 : Memref sig .tc .vmem S2048x512 .bf16) (harg10 : arg10.IsWhole) (arg11 : Memref sig .tc .vmem S256x512 .f32) (harg11 : arg11.IsWhole) (arg12 : Memref sig .tc .vmem S2x256x2x128 .bf16) (harg12 : arg12.IsWhole) (hc0 : cond0_0 i) (hc1 : cond0_1 i) (hc2 : ¬cond0_2 i) (hc3 : ¬cond0_3 i)     (x0 : Vec Ideal S16x128 .f32) (x1 : Vec Ideal S256x14336 .bf16) (x2 : Vec Ideal S256x2048 .i8) (x3 : Vec Ideal S512x224 .f32) (x4 : Vec Ideal S1x1x512 .f32) (p : Fin 4) (n : Fin 256) (a : Fin 128) (hn : n.val < 224) :
    (sout0_A_1 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 (ix3 p n a) : EReal) = x3 (ix2 ⟨4 * a.val + p.val, by have := a.isLt; have := p.isLt; omega⟩ ⟨n.val, hn⟩) := by
  rw [sout0_A_1_canon]
  exact at_value c arg5 harg5 arg8 x3 p n a hn

end Cert.KernelIdeal.Gen

end
-- ==== Proof.Finish.lean ====
/- The last step's rearrangement of the accumulator: what its vector operations compute, at an index. -/
module

public import proofs.«01_k».proof.Proof.Gen.KernelIdeal.Loops
public import proofs.«01_k».proof.Proof.Gen.KernelIdeal.Frame
public import Idealize.ShloMosaic.PureOps.Ideal
public import Idealize.ShloMosaic.Lib.Pipeline.Value
public import Idealize.ShloMosaic.Lib.Pipeline.ReadBack
public import Idealize.ShloMosaic.Lib.Pipeline.ValueKit.Geometry
public import Idealize.ShloMosaic.Lib.Ring
public import Idealize.ShloMosaic.Lib.ValueIdxCore
public import Idealize.ShloMosaic.Lib.Pointwise
@[expose] public section

set_option maxRecDepth 16384

noncomputable section

namespace Cert.KernelIdeal.Gen

open Idealize.ShloMosaic hiding ix1 ix2 ix3 ix4
open Idealize.ShloMosaic.TcCoe Idealize.ShloMosaic.Tactic

open ValueIdx

/-- Rows of words: word row `r`, half `e`. Interleaving two planes puts the first at `e = 0`, the second at `e = 1`. -/
theorem interleave_words (lo hi : S1x128x1x128.Idx → EReal) (h : S1x128x2x128.Bitcasts 16 S1x128x1x128 32) (a : Fin 128) (e : Fin 2) (l : Fin 128) :
    interleaveRows S1x128x2x128 lo hi h (ix4 0 a e l) = if e.val = 0 then lo (ix4 0 a 0 l) else hi (ix4 0 a 0 l) := by
  match e with
  | 0 =>
    pointwise
    rfl
  | 1 =>
    pointwise
    rfl

/-- The rows of even (odd) number of a buffer of pairs are its pairs' first (second) halves. -/
theorem parity_words (p : Fin 2) (x : S1x256x2x128.Idx → EReal) (h : S1x256x2x128.Bitcasts 16 S1x256x1x128 32) (r : Fin 256) (l : Fin 128) :
    rowsOfParity p S1x256x1x128 x h (ix4 0 r 0 l) = x (ix4 0 r p l) := by
  match p with
  | 0 =>
    pointwise
    rfl
  | 1 =>
    pointwise
    rfl

/-- Interleaving 256 rows with 256 rows: row `n` is row `n / 2` of the one or the other. -/
theorem interleave_rows (lo hi : S256x128.Idx → EReal) (h : S512x128.Bitcasts 16 S256x128 32) (n : Fin 512) (l : Fin 128) :
    interleaveRows S512x128 lo hi h (ix2 n l) = if n.val % 2 = 0 then lo (ix2 ⟨n.val / 2, by omega⟩ l) else hi (ix2 ⟨n.val / 2, by omega⟩ l) := by
  pointwise
  rfl

/-- The transposed pairs' buffer of a 256×512 block `V`: plane `c`, word row `2a + h`, half `e`, lane `l` holds the
    block's row `128c + l`, column `128(2h + e) + a`. -/
def pairs (V : S256x512.Idx → EReal) : S2x256x2x128.Idx → EReal := fun y =>
  have h0 : (y 0).val < 2 := (y 0).isLt
  have h1 : (y 1).val < 256 := (y 1).isLt
  have h2 : (y 2).val < 2 := (y 2).isLt
  have h3 : (y 3).val < 128 := (y 3).isLt
  V (ix2 ⟨128 * (y 0).val + (y 3).val, by omega⟩ ⟨128 * (2 * ((y 1).val % 2) + (y 2).val) + (y 1).val / 2, by omega⟩)

/-- The place of one strided store: plane `c`, the word rows of parity `h`. -/
abbrev wordRect (c h : Nat)
    (inb : ∀ a : Fin 4, S1x128x2x128.size a = 0 ∨ (![c, h, 0, 0] : Fin 4 → Nat) a + (![1, 2, 1, 1] : Fin 4 → Nat) a * (S1x128x2x128.size a - 1) < S2x256x2x128.size a)
    (sp : ∀ a : Fin 4, 0 < (![1, 2, 1, 1] : Fin 4 → Nat) a) : Rect S2x256x2x128 :=
  { off := ![c, h, 0, 0], size := S1x128x2x128.size, stride := ![1, 2, 1, 1], inb := inb, stride_pos := sp }

/-- An index of the buffer lies in the store of its plane and its word row's parity. -/
theorem mem_wordRect (c h : Nat) (inb sp) (y : S2x256x2x128.Idx) (h0 : (y 0).val = c) (h1 : (y 1).val % 2 = h) : y ∈ (wordRect c h inb sp).set := by
  have l1 : (y 1).val < 256 := (y 1).isLt
  refine (LoadRect.mem_set _).mpr fun a => ?_
  match a with
  | 0 => exact ⟨0, Nat.zero_lt_one, (by show (y 0).val = c + 1 * 0; omega)⟩
  | 1 => exact ⟨(y 1).val / 2, (by show (y 1).val / 2 < 128; omega), (by show (y 1).val = h + 2 * ((y 1).val / 2); omega)⟩
  | 2 => exact ⟨(y 2).val, (y 2).isLt, (by show (y 2).val = 0 + 1 * (y 2).val; omega)⟩
  | 3 => exact ⟨(y 3).val, (y 3).isLt, (by show (y 3).val = 0 + 1 * (y 3).val; omega)⟩

/-- Four strided stores of the buffer's planes and parities, each writing `G` at its place, leave `G`. -/
theorem words_canon (G : S2x256x2x128.Idx → EReal) (i11 i01 i10 i00 sp) (w11 w01 w10 w00 : S1x128x2x128.Idx → EReal)
    (h11 : ∀ x, w11 x = G ((wordRect 1 1 i11 sp).emb x)) (h01 : ∀ x, w01 x = G ((wordRect 0 1 i01 sp).emb x))
    (h10 : ∀ x, w10 x = G ((wordRect 1 0 i10 sp).emb x)) (h00 : ∀ x, w00 x = G ((wordRect 0 0 i00 sp).emb x)) (y : S2x256x2x128.Idx) :
    (View.canon (Val := Elt Ideal) (e := .bf16) [⟨wordRect 1 1 i11 sp, w11⟩, ⟨wordRect 0 1 i01 sp, w01⟩, ⟨wordRect 1 0 i10 sp, w10⟩, ⟨wordRect 0 0 i00 sp, w00⟩] y : EReal) = G y := by
  have l0 : (y 0).val < 2 := (y 0).isLt
  have hp : View.PiecesOf (Val := Elt Ideal) (e := .bf16) G [⟨wordRect 1 1 i11 sp, w11⟩, ⟨wordRect 0 1 i01 sp, w01⟩, ⟨wordRect 1 0 i10 sp, w10⟩, ⟨wordRect 0 0 i00 sp, w00⟩] :=
    ⟨h11, h01, h10, h00, trivial⟩
  have hc : ∃ p ∈ ([⟨wordRect 1 1 i11 sp, w11⟩, ⟨wordRect 0 1 i01 sp, w01⟩, ⟨wordRect 1 0 i10 sp, w10⟩, ⟨wordRect 0 0 i00 sp, w00⟩] : List (View.Piece (Elt Ideal) S2x256x2x128 .bf16)), y ∈ p.1.set := by
    rcases Nat.mod_two_eq_zero_or_one (y 1).val with a | a <;> rcases (show (y 0).val = 0 ∨ (y 0).val = 1 by omega) with b | b
    · exact ⟨_, .tail _ (.tail _ (.tail _ (.head _))), mem_wordRect 0 0 _ _ y b a⟩
    · exact ⟨_, .tail _ (.tail _ (.head _)), mem_wordRect 1 0 _ _ y b a⟩
    · exact ⟨_, .tail _ (.head _), mem_wordRect 0 1 _ _ y b a⟩
    · exact ⟨_, .head _, mem_wordRect 1 1 _ _ y b a⟩
  have h := View.canon_append_of_pieces G [] _ (fun p h x => View.PiecesOf.mem hp p h x) y hc
  rwa [List.append_nil] at h

/-- One strided store of 128 word rows writes `pairs` at its place. -/
theorem pairs_piece (V : S256x512.Idx → EReal) (c h : Nat) (hc : c < 2) (hh : h < 2) (lo hi : S128x256.Idx → EReal)
    (hlo : ∀ (a : Fin 128) (s : Fin 256), lo (ix2 a s) = V (ix2 s ⟨128 * (2 * h) + a.val, by have := a.isLt; omega⟩))
    (hhi : ∀ (a : Fin 128) (s : Fin 256), hi (ix2 a s) = V (ix2 s ⟨128 * (2 * h + 1) + a.val, by have := a.isLt; omega⟩))
    (s1 : S128x256.Slices ![0, 128 * c] S128x128) (c1 : S128x128.ShapeCasts S1x128x128) (c2 : S1x128x128.ShapeCasts S1x128x1x128)
    (b : S1x128x2x128.Bitcasts 16 S1x128x1x128 32)
    (inb : ∀ a : Fin 4, S1x128x2x128.size a = 0 ∨ (![c, h, 0, 0] : Fin 4 → Nat) a + (![1, 2, 1, 1] : Fin 4 → Nat) a * (S1x128x2x128.size a - 1) < S2x256x2x128.size a) (sp : ∀ a : Fin 4, 0 < (![1, 2, 1, 1] : Fin 4 → Nat) a)
    (x : S1x128x2x128.Idx) :
    interleaveRows S1x128x2x128 (shapeCast S1x128x1x128 (shapeCast S1x128x128 (extractStridedSlice S128x128 ![0, 128 * c] lo s1) c1) c2)
        (shapeCast S1x128x1x128 (shapeCast S1x128x128 (extractStridedSlice S128x128 ![0, 128 * c] hi s1) c1) c2) b x
      = pairs V ((wordRect c h inb sp).emb x) := by
  have h0 : (x 0).val < 1 := (x 0).isLt
  have h1 : (x 1).val < 128 := (x 1).isLt
  have h2 : (x 2).val < 2 := (x 2).isLt
  have h3 : (x 3).val < 128 := (x 3).isLt
  have ex : x = ix4 0 (⟨(x 1).val, h1⟩ : Fin 128) (⟨(x 2).val, h2⟩ : Fin 2) (⟨(x 3).val, h3⟩ : Fin 128) := by
    funext a
    match a with
    | 0 => exact Fin.ext (by show (x 0).val = 0; omega)
    | 1 => rfl
    | 2 => rfl
    | 3 => rfl
  have e0 : ((wordRect c h inb sp).emb x 0).val = c + 1 * (x 0).val := rfl
  have e1 : ((wordRect c h inb sp).emb x 1).val = h + 2 * (x 1).val := rfl
  have e2 : ((wordRect c h inb sp).emb x 2).val = 0 + 1 * (x 2).val := rfl
  have e3 : ((wordRect c h inb sp).emb x 3).val = 0 + 1 * (x 3).val := rfl
  generalize (wordRect c h inb sp).emb x = z at e0 e1 e2 e3 ⊢
  have hsl : ∀ w : S128x256.Idx → EReal, shapeCast S1x128x1x128 (shapeCast S1x128x128 (extractStridedSlice S128x128 ![0, 128 * c] w s1) c1) c2
      (ix4 0 (⟨(x 1).val, h1⟩ : Fin 128) 0 (⟨(x 3).val, h3⟩ : Fin 128)) = w (ix2 (⟨(x 1).val, h1⟩ : Fin 128) (⟨128 * c + (x 3).val, by omega⟩ : Fin 256)) := by
    intro w
    rw [shapeCast_apply _ c2 _ (ix3 (0 : Fin 1) (⟨(x 1).val, h1⟩ : Fin 128) (⟨(x 3).val, h3⟩ : Fin 128))
      ((Shape.rowMajor_val_three _).trans (Eq.trans (by show (0 * 128 + (x 1).val) * 128 + (x 3).val = ((0 * 128 + (x 1).val) * 1 + 0) * 128 + (x 3).val; omega) (Shape.rowMajor_val_four _).symm))]
    rw [shapeCast_apply _ c1 _ (ix2 (⟨(x 1).val, h1⟩ : Fin 128) (⟨(x 3).val, h3⟩ : Fin 128))
      ((Shape.rowMajor_val_two _).trans (Eq.trans (by show (x 1).val * 128 + (x 3).val = (0 * 128 + (x 1).val) * 128 + (x 3).val; omega) (Shape.rowMajor_val_three _).symm))]
    exact extractStridedSlice_apply _ w s1 _ _ (fun a => by match a with | 0 => (show (x 1).val = 0 + (x 1).val; omega) | 1 => rfl)
  rw [ex, interleave_words, hsl, hsl, hlo, hhi]
  unfold pairs
  split_ifs with he
  · replace he : (x 2).val = 0 := he
    refine congrArg V (congrArg₂ ix2 (Fin.ext ?_) (Fin.ext ?_))
    · show 128 * c + (x 3).val = 128 * (z 0).val + (z 3).val
      omega
    · show 128 * (2 * h) + (x 1).val = 128 * (2 * ((z 1).val % 2) + (z 2).val) + (z 1).val / 2
      omega
  · replace he : ¬ (x 2).val = 0 := he
    refine congrArg V (congrArg₂ ix2 (Fin.ext ?_) (Fin.ext ?_))
    · show 128 * c + (x 3).val = 128 * (z 0).val + (z 3).val
      omega
    · show 128 * (2 * h + 1) + (x 1).val = 128 * (2 * ((z 1).val % 2) + (z 2).val) + (z 1).val / 2
      omega

/-- One plane of pairs read back as rows and transposed: row `s`, column `n` is the pair row `n / 2`'s half `n % 2` at lane `s`. -/
theorem finish_apply (raw : Vec Ideal S1x256x2x128 .bf16) (s : Fin 128) (n : Fin 512) :
    (k0_pay142 (F := Ideal) raw (ix2 s n) : EReal) = raw (ix4 0 ⟨n.val / 2, by omega⟩ ⟨n.val % 2, Nat.mod_lt _ (by decide)⟩ s) := by
  have hp : ∀ p : Fin 2, ∀ r : Fin 256, (shapeCast S256x128 (shapeCast S1x256x128 (rowsOfParity p S1x256x1x128 raw bitcasts_S1x256x2x128_w16_S1x256x1x128_w32) shapeCasts_S1x256x1x128_S1x256x128) shapeCasts_S1x256x128_S256x128 (ix2 r s) : EReal)
      = raw (ix4 0 r p s) := by
    intro p r
    rw [shapeCast_apply _ shapeCasts_S1x256x128_S256x128 _ (ix3 (0 : Fin 1) r s)
      ((Shape.rowMajor_val_three _).trans (Eq.trans (by show (0 * 256 + r.val) * 128 + s.val = r.val * 128 + s.val; omega) (Shape.rowMajor_val_two _).symm))]
    rw [shapeCast_apply _ shapeCasts_S1x256x1x128_S1x256x128 _ (ix4 (0 : Fin 1) r (0 : Fin 1) s)
      ((Shape.rowMajor_val_four _).trans (Eq.trans (by show ((0 * 256 + r.val) * 1 + 0) * 128 + s.val = (0 * 256 + r.val) * 128 + s.val; omega) (Shape.rowMajor_val_three _).symm))]
    exact parity_words p raw _ r s
  unfold k0_pay142
  dsimp only
  rw [transpose_apply [1, 0] _ transposes_S512x128_p1_0_S128x512 (ix2 s n) (ix2 n s) (fun a => by match a with | 0 => rfl | 1 => rfl)]
  refine (interleave_rows _ _ _ n s).trans ?_
  split_ifs with h
  · refine (hp 0 _).trans (congrArg raw ?_)
    funext a
    match a with
    | 0 => rfl
    | 1 => rfl
    | 2 => exact Fin.ext h.symm
    | 3 => rfl
  · refine (hp 1 _).trans (congrArg raw ?_)
    funext a
    match a with
    | 0 => rfl
    | 1 => rfl
    | 2 => exact Fin.ext (by show 1 = n.val % 2; omega)
    | 3 => rfl

/-- The accumulator with the bias added. -/
theorem pay131_apply (v : Vec Ideal S256x512 .f32) (b : Vec Ideal S1x1x512 .f32) (s : Fin 256) (y : Fin 512) :
    (k0_pay131 (F := Ideal) v b (ix2 s y) : EReal) = (v (ix2 s y) : EReal) + b (ix3 0 0 y) := by
  unfold k0_pay131
  show (v (ix2 s y) : EReal) + _ = _
  rw [broadcastTo_apply _ broadcasts_S1x512_S256x512 (ix2 s y) (ix2 (0 : Fin 1) y) (fun a => by match a with | 0 => rfl | 1 => rfl)]
  rw [shapeCast_apply _ shapeCasts_S1x1x512_S1x512 (ix2 (0 : Fin 1) y) (ix3 (0 : Fin 1) (0 : Fin 1) y)
      ((Shape.rowMajor_val_three _).trans (Eq.trans (by show (0 * 1 + 0) * 512 + y.val = 0 * 512 + y.val; omega) (Shape.rowMajor_val_two _).symm))]

theorem pay132_apply (v : Vec Ideal S256x512 .f32) (b : Vec Ideal S1x1x512 .f32) (a : Fin 128) (s : Fin 256) :
    (k0_pay132 (F := Ideal) v b (ix2 a s) : EReal) = k0_pay131 (F := Ideal) v b (ix2 s ⟨0 + a.val, by have := a.isLt; omega⟩) := by
  unfold k0_pay132
  dsimp only
  show (transpose S128x256 [1, 0] (extractStridedSlice S256x128 ![0, 0] (k0_pay131 (F := Ideal) v b) slices_S256x512_o0_0_S256x128) transposes_S256x128_p1_0_S128x256 (ix2 a s) : EReal) = _
  refine (transpose_apply [1, 0] _ transposes_S256x128_p1_0_S128x256 (ix2 a s) (ix2 s a) (fun a => by match a with | 0 => rfl | 1 => rfl)).trans ?_
  exact extractStridedSlice_apply _ _ slices_S256x512_o0_0_S256x128 _ _ (fun k => by match k with | 0 => (show s.val = 0 + s.val; omega) | 1 => rfl)

theorem pay133_apply (v : Vec Ideal S256x512 .f32) (b : Vec Ideal S1x1x512 .f32) (a : Fin 128) (s : Fin 256) :
    (k0_pay133 (F := Ideal) v b (ix2 a s) : EReal) = k0_pay131 (F := Ideal) v b (ix2 s ⟨128 + a.val, by have := a.isLt; omega⟩) := by
  unfold k0_pay133
  dsimp only
  show (transpose S128x256 [1, 0] (extractStridedSlice S256x128 ![0, 128] (k0_pay131 (F := Ideal) v b) slices_S256x512_o0_128_S256x128) transposes_S256x128_p1_0_S128x256 (ix2 a s) : EReal) = _
  refine (transpose_apply [1, 0] _ transposes_S256x128_p1_0_S128x256 (ix2 a s) (ix2 s a) (fun a => by match a with | 0 => rfl | 1 => rfl)).trans ?_
  exact extractStridedSlice_apply _ _ slices_S256x512_o0_128_S256x128 _ _ (fun k => by match k with | 0 => (show s.val = 0 + s.val; omega) | 1 => rfl)

theorem pay138_apply (v : Vec Ideal S256x512 .f32) (b : Vec Ideal S1x1x512 .f32) (a : Fin 128) (s : Fin 256) :
    (k0_pay138 (F := Ideal) (k0_pay137 (F := Ideal) v b) (ix2 a s) : EReal) = k0_pay131 (F := Ideal) v b (ix2 s ⟨256 + a.val, by have := a.isLt; omega⟩) := by
  unfold k0_pay138 k0_pay137
  dsimp only
  show (transpose S128x256 [1, 0] (extractStridedSlice S256x128 ![0, 256] (k0_pay131 (F := Ideal) v b) slices_S256x512_o0_256_S256x128) transposes_S256x128_p1_0_S128x256 (ix2 a s) : EReal) = _
  refine (transpose_apply [1, 0] _ transposes_S256x128_p1_0_S128x256 (ix2 a s) (ix2 s a) (fun a => by match a with | 0 => rfl | 1 => rfl)).trans ?_
  exact extractStridedSlice_apply _ _ slices_S256x512_o0_256_S256x128 _ _ (fun k => by match k with | 0 => (show s.val = 0 + s.val; omega) | 1 => rfl)

theorem pay139_apply (v : Vec Ideal S256x512 .f32) (b : Vec Ideal S1x1x512 .f32) (a : Fin 128) (s : Fin 256) :
    (k0_pay139 (F := Ideal) (k0_pay136 (F := Ideal) v b) (ix2 a s) : EReal) = k0_pay131 (F := Ideal) v b (ix2 s ⟨384 + a.val, by have := a.isLt; omega⟩) := by
  unfold k0_pay139 k0_pay136
  dsimp only
  show (transpose S128x256 [1, 0] (extractStridedSlice S256x128 ![0, 384] (k0_pay131 (F := Ideal) v b) slices_S256x512_o0_384_S256x128) transposes_S256x128_p1_0_S128x256 (ix2 a s) : EReal) = _
  refine (transpose_apply [1, 0] _ transposes_S256x128_p1_0_S128x256 (ix2 a s) (ix2 s a) (fun a => by match a with | 0 => rfl | 1 => rfl)).trans ?_
  exact extractStridedSlice_apply _ _ slices_S256x512_o0_384_S256x128 _ _ (fun k => by match k with | 0 => (show s.val = 0 + s.val; omega) | 1 => rfl)

/-- The four strided stores of a finished block leave its transposed pairs. -/
theorem finish_words (v : Vec Ideal S256x512 .f32) (b : Vec Ideal S1x1x512 .f32) (y : S2x256x2x128.Idx) :
    (View.canon (Val := Elt Ideal) (e := .bf16) (s := S2x256x2x128) [⟨{ off := ![1, 1, 0, 0], size := S1x128x2x128.size, stride := ![1, 2, 1, 1], inb := inb_S2x256x2x128_S1x128x2x128_1_1_0_0_s_1_2_1_1, stride_pos := spos_1_2_1_1 }, k0_pay141 (F := Ideal) (k0_pay136 v b) (k0_pay137 v b)⟩, ⟨{ off := ![0, 1, 0, 0], size := S1x128x2x128.size, stride := ![1, 2, 1, 1], inb := inb_S2x256x2x128_S1x128x2x128_0_1_0_0_s_1_2_1_1, stride_pos := spos_1_2_1_1 }, k0_pay140 (F := Ideal) (k0_pay136 v b) (k0_pay137 v b)⟩, ⟨{ off := ![1, 0, 0, 0], size := S1x128x2x128.size, stride := ![1, 2, 1, 1], inb := inb_S2x256x2x128_S1x128x2x128_1_0_0_0_s_1_2_1_1, stride_pos := spos_1_2_1_1 }, k0_pay135 (F := Ideal) v b⟩, ⟨{ off := ![0, 0, 0, 0], size := S1x128x2x128.size, stride := ![1, 2, 1, 1], inb := inb_S2x256x2x128_S1x128x2x128_0_0_0_0_s_1_2_1_1, stride_pos := spos_1_2_1_1 }, k0_pay134 (F := Ideal) v b⟩] y : EReal) = pairs (k0_pay131 (F := Ideal) v b) y := by
  refine words_canon (pairs (k0_pay131 (F := Ideal) v b)) _ _ _ _ _ _ _ _ _ ?_ ?_ ?_ ?_ y
  · intro x
    exact pairs_piece (k0_pay131 (F := Ideal) v b) 1 1 (by decide) (by decide) (k0_pay138 (F := Ideal) (k0_pay137 (F := Ideal) v b)) (k0_pay139 (F := Ideal) (k0_pay136 (F := Ideal) v b)) (fun a s => pay138_apply v b a s) (fun a s => pay139_apply v b a s) slices_S128x256_o0_128_S128x128 shapeCasts_S128x128_S1x128x128 shapeCasts_S1x128x128_S1x128x1x128 bitcasts_S1x128x2x128_w16_S1x128x1x128_w32 inb_S2x256x2x128_S1x128x2x128_1_1_0_0_s_1_2_1_1 spos_1_2_1_1 x
  · intro x
    exact pairs_piece (k0_pay131 (F := Ideal) v b) 0 1 (by decide) (by decide) (k0_pay138 (F := Ideal) (k0_pay137 (F := Ideal) v b)) (k0_pay139 (F := Ideal) (k0_pay136 (F := Ideal) v b)) (fun a s => pay138_apply v b a s) (fun a s => pay139_apply v b a s) slices_S128x256_o0_0_S128x128 shapeCasts_S128x128_S1x128x128 shapeCasts_S1x128x128_S1x128x1x128 bitcasts_S1x128x2x128_w16_S1x128x1x128_w32 inb_S2x256x2x128_S1x128x2x128_0_1_0_0_s_1_2_1_1 spos_1_2_1_1 x
  · intro x
    exact pairs_piece (k0_pay131 (F := Ideal) v b) 1 0 (by decide) (by decide) (k0_pay132 (F := Ideal) v b) (k0_pay133 (F := Ideal) v b) (fun a s => pay132_apply v b a s) (fun a s => pay133_apply v b a s) slices_S128x256_o0_128_S128x128 shapeCasts_S128x128_S1x128x128 shapeCasts_S1x128x128_S1x128x1x128 bitcasts_S1x128x2x128_w16_S1x128x1x128_w32 inb_S2x256x2x128_S1x128x2x128_1_0_0_0_s_1_2_1_1 spos_1_2_1_1 x
  · intro x
    exact pairs_piece (k0_pay131 (F := Ideal) v b) 0 0 (by decide) (by decide) (k0_pay132 (F := Ideal) v b) (k0_pay133 (F := Ideal) v b) (fun a s => pay132_apply v b a s) (fun a s => pay133_apply v b a s) slices_S128x256_o0_0_S128x128 shapeCasts_S128x128_S1x128x128 shapeCasts_S1x128x128_S1x128x1x128 bitcasts_S1x128x2x128_w16_S1x128x1x128_w32 inb_S2x256x2x128_S1x128x2x128_0_0_0_0_s_1_2_1_1 spos_1_2_1_1 x

end Cert.KernelIdeal.Gen

end
-- ==== Proof.Output.lean ====
/- What the last grid step of a column writes to its output block. -/
module

public import proofs.«01_k».proof.Proof.Gen.KernelIdeal.Loops
public import proofs.«01_k».proof.Proof.Gen.KernelIdeal.Frame
public import proofs.«01_k».proof.Proof.Finish
@[expose] public section

set_option maxRecDepth 16384

noncomputable section

namespace Cert.KernelIdeal.Gen

open Idealize.ShloMosaic hiding ix1 ix2 ix3 ix4
open Idealize.ShloMosaic.TcCoe Idealize.ShloMosaic.Tactic

open ValueIdx

theorem pairs_run (c : Dev nD) (i : grid0.Coords) (arg2 : Memref sig .tc .vmem S16x128 .f32) (harg2 : arg2.IsWhole) (arg3 : Memref sig .tc .vmem S256x14336 .bf16) (harg3 : arg3.IsWhole) (arg4 : Memref sig .tc .vmem S256x2048 .i8) (harg4 : arg4.IsWhole) (arg5 : Memref sig .tc .vmem S512x224 .f32) (harg5 : arg5.IsWhole) (arg6 : Memref sig .tc .vmem S1x1x512 .f32) (harg6 : arg6.IsWhole) (arg7 : Memref sig .tc .vmem S256x512 .bf16) (harg7 : arg7.IsWhole) (arg8 : Memref sig .tc .vmem S512x128 .f32) (harg8 : arg8.IsWhole) (arg9 : Memref sig .tc .vmem S4x256x128 .f32) (harg9 : arg9.IsWhole) (arg10 : Memref sig .tc .vmem S2048x512 .bf16) (harg10 : arg10.IsWhole) (arg11 : Memref sig .tc .vmem S256x512 .f32) (harg11 : arg11.IsWhole) (arg12 : Memref sig .tc .vmem S2x256x2x128 .bf16) (harg12 : arg12.IsWhole) (x0 : Vec Ideal S16x128 .f32) (x1 : Vec Ideal S256x14336 .bf16) (x2 : Vec Ideal S256x2048 .i8) (x4 : Vec Ideal S1x1x512 .f32) (xs1 : Vec Ideal S4x256x128 .f32) (xs3 : Vec Ideal S256x512 .f32) (y : S2x256x2x128.Idx) :
    (View.canon (kernelRun0_C.sl.HS4_4 (F := Ideal) c i arg2 harg2 arg3 harg3 arg4 harg4 arg5 harg5 arg6 harg6 arg7 harg7 arg8 harg8 arg9 harg9 arg10 harg10 arg11 harg11 arg12 harg12 x0 x1 x2 x4 xs1 xs3) y : EReal) = pairs (k0_pay131 (F := Ideal) (kernelRun0_C.sl.v19 (F := Ideal) c i arg2 harg2 arg3 harg3 arg4 harg4 arg5 harg5 arg6 harg6 arg7 harg7 arg8 harg8 arg9 harg9 arg10 harg10 arg11 harg11 arg12 harg12 x0 x1 x2 xs1 xs3) (View.readAt (Elt Ideal) arg6.view (Rect.unit ![0, 0, 0] S1x1x512.size inb_S1x1x512_S1x1x512_0_0_0).toLoadRect (harg6.unread x4))) y := by
  unfold kernelRun0_C.sl.HS4_4 kernelRun0_C.sl.r kernelRun0_C.sl.r_1
  exact finish_words _ _ y

theorem pairs_at (V : S256x512.Idx → EReal) (c : Fin 2) (s : Fin 128) (n : Fin 512) :
    pairs V (ix4 c ⟨n.val / 2, by omega⟩ ⟨n.val % 2, Nat.mod_lt _ (by decide)⟩ s)
      = V (ix2 ⟨128 * c.val + s.val, by have := c.isLt; have := s.isLt; omega⟩ ⟨128 * (n.val % 4) + n.val / 4, by have := n.isLt; omega⟩) := by
  unfold pairs
  refine congrArg V (congrArg₂ ix2 rfl (Fin.ext ?_))
  show 128 * (2 * (n.val / 2 % 2) + n.val % 2) + n.val / 2 / 2 = 128 * (n.val % 4) + n.val / 4
  omega

theorem half_lo (c : Dev nD) (i : grid0.Coords) (arg2 : Memref sig .tc .vmem S16x128 .f32) (harg2 : arg2.IsWhole) (arg3 : Memref sig .tc .vmem S256x14336 .bf16) (harg3 : arg3.IsWhole) (arg4 : Memref sig .tc .vmem S256x2048 .i8) (harg4 : arg4.IsWhole) (arg5 : Memref sig .tc .vmem S512x224 .f32) (harg5 : arg5.IsWhole) (arg6 : Memref sig .tc .vmem S1x1x512 .f32) (harg6 : arg6.IsWhole) (arg7 : Memref sig .tc .vmem S256x512 .bf16) (harg7 : arg7.IsWhole) (arg8 : Memref sig .tc .vmem S512x128 .f32) (harg8 : arg8.IsWhole) (arg9 : Memref sig .tc .vmem S4x256x128 .f32) (harg9 : arg9.IsWhole) (arg10 : Memref sig .tc .vmem S2048x512 .bf16) (harg10 : arg10.IsWhole) (arg11 : Memref sig .tc .vmem S256x512 .f32) (harg11 : arg11.IsWhole) (arg12 : Memref sig .tc .vmem S2x256x2x128 .bf16) (harg12 : arg12.IsWhole) (x0 : Vec Ideal S16x128 .f32) (x1 : Vec Ideal S256x14336 .bf16) (x2 : Vec Ideal S256x2048 .i8) (x4 : Vec Ideal S1x1x512 .f32) (xs1 : Vec Ideal S4x256x128 .f32) (xs3 : Vec Ideal S256x512 .f32) (s : Fin 128) (n : Fin 512) :
    (k0_pay142 (F := Ideal) (kernelRun0_C.sl.v64_raw (F := Ideal) c i arg2 harg2 arg3 harg3 arg4 harg4 arg5 harg5 arg6 harg6 arg7 harg7 arg8 harg8 arg9 harg9 arg10 harg10 arg11 harg11 arg12 harg12 x0 x1 x2 x4 xs1 xs3) (ix2 s n) : EReal)
      = k0_pay131 (F := Ideal) (kernelRun0_C.sl.v19 (F := Ideal) c i arg2 harg2 arg3 harg3 arg4 harg4 arg5 harg5 arg6 harg6 arg7 harg7 arg8 harg8 arg9 harg9 arg10 harg10 arg11 harg11 arg12 harg12 x0 x1 x2 xs1 xs3) (View.readAt (Elt Ideal) arg6.view (Rect.unit ![0, 0, 0] S1x1x512.size inb_S1x1x512_S1x1x512_0_0_0).toLoadRect (harg6.unread x4)) (ix2 ⟨s.val, by have := s.isLt; omega⟩ ⟨128 * (n.val % 4) + n.val / 4, by have := n.isLt; omega⟩) := by
  rw [finish_apply]
  unfold kernelRun0_C.sl.v64_raw
  rw [View.readCov_eq_canon']
  refine (pairs_run c i arg2 harg2 arg3 harg3 arg4 harg4 arg5 harg5 arg6 harg6 arg7 harg7 arg8 harg8 arg9 harg9 arg10 harg10 arg11 harg11 arg12 harg12 x0 x1 x2 x4 xs1 xs3 _).trans (Eq.trans (congrArg _ ?_) ((pairs_at _ 0 s n).trans (congrArg _ (congrArg₂ ix2 (Fin.ext (by show 128 * 0 + s.val = s.val; omega)) rfl))))
  funext a
  match a with
  | 0 => rfl
  | 1 => exact Fin.ext (by show 0 + 1 * (n.val / 2) = n.val / 2; omega)
  | 2 => exact Fin.ext (by show 0 + 1 * (n.val % 2) = n.val % 2; omega)
  | 3 => exact Fin.ext (by show 0 + 1 * s.val = s.val; omega)

theorem half_hi (c : Dev nD) (i : grid0.Coords) (arg2 : Memref sig .tc .vmem S16x128 .f32) (harg2 : arg2.IsWhole) (arg3 : Memref sig .tc .vmem S256x14336 .bf16) (harg3 : arg3.IsWhole) (arg4 : Memref sig .tc .vmem S256x2048 .i8) (harg4 : arg4.IsWhole) (arg5 : Memref sig .tc .vmem S512x224 .f32) (harg5 : arg5.IsWhole) (arg6 : Memref sig .tc .vmem S1x1x512 .f32) (harg6 : arg6.IsWhole) (arg7 : Memref sig .tc .vmem S256x512 .bf16) (harg7 : arg7.IsWhole) (arg8 : Memref sig .tc .vmem S512x128 .f32) (harg8 : arg8.IsWhole) (arg9 : Memref sig .tc .vmem S4x256x128 .f32) (harg9 : arg9.IsWhole) (arg10 : Memref sig .tc .vmem S2048x512 .bf16) (harg10 : arg10.IsWhole) (arg11 : Memref sig .tc .vmem S256x512 .f32) (harg11 : arg11.IsWhole) (arg12 : Memref sig .tc .vmem S2x256x2x128 .bf16) (harg12 : arg12.IsWhole) (x0 : Vec Ideal S16x128 .f32) (x1 : Vec Ideal S256x14336 .bf16) (x2 : Vec Ideal S256x2048 .i8) (x4 : Vec Ideal S1x1x512 .f32) (xs1 : Vec Ideal S4x256x128 .f32) (xs3 : Vec Ideal S256x512 .f32) (s : Fin 128) (n : Fin 512) :
    (kernelRun0_C.sl.r_2 (F := Ideal) c i arg2 harg2 arg3 harg3 arg4 harg4 arg5 harg5 arg6 harg6 arg7 harg7 arg8 harg8 arg9 harg9 arg10 harg10 arg11 harg11 arg12 harg12 x0 x1 x2 x4 xs1 xs3 (ix2 s n) : EReal)
      = k0_pay131 (F := Ideal) (kernelRun0_C.sl.v19 (F := Ideal) c i arg2 harg2 arg3 harg3 arg4 harg4 arg5 harg5 arg6 harg6 arg7 harg7 arg8 harg8 arg9 harg9 arg10 harg10 arg11 harg11 arg12 harg12 x0 x1 x2 xs1 xs3) (View.readAt (Elt Ideal) arg6.view (Rect.unit ![0, 0, 0] S1x1x512.size inb_S1x1x512_S1x1x512_0_0_0).toLoadRect (harg6.unread x4)) (ix2 ⟨128 + s.val, by have := s.isLt; omega⟩ ⟨128 * (n.val % 4) + n.val / 4, by have := n.isLt; omega⟩) := by
  unfold kernelRun0_C.sl.r_2
  refine (finish_apply (kernelRun0_C.sl.v69_raw (F := Ideal) c i arg2 harg2 arg3 harg3 arg4 harg4 arg5 harg5 arg6 harg6 arg7 harg7 arg8 harg8 arg9 harg9 arg10 harg10 arg11 harg11 arg12 harg12 x0 x1 x2 x4 xs1 xs3) s n).trans ?_
  unfold kernelRun0_C.sl.v69_raw
  rw [View.readCov_eq_canon']
  refine (pairs_run c i arg2 harg2 arg3 harg3 arg4 harg4 arg5 harg5 arg6 harg6 arg7 harg7 arg8 harg8 arg9 harg9 arg10 harg10 arg11 harg11 arg12 harg12 x0 x1 x2 x4 xs1 xs3 _).trans (Eq.trans (congrArg _ ?_) ((pairs_at _ 1 s n).trans (congrArg _ (congrArg₂ ix2 (Fin.ext (by show 128 * 1 + s.val = 128 + s.val; omega)) rfl))))
  funext a
  match a with
  | 0 => rfl
  | 1 => exact Fin.ext (by show 0 + 1 * (n.val / 2) = n.val / 2; omega)
  | 2 => exact Fin.ext (by show 0 + 1 * (n.val % 2) = n.val % 2; omega)
  | 3 => exact Fin.ext (by show 0 + 1 * s.val = s.val; omega)

/-- The last step's output block: column `n` is the accumulator's column `128 (n % 4) + n / 4`, with its bias. -/
theorem out0_C_5_apply (c : Dev nD) (i : grid0.Coords) (arg2 : Memref sig .tc .vmem S16x128 .f32) (harg2 : arg2.IsWhole) (arg3 : Memref sig .tc .vmem S256x14336 .bf16) (harg3 : arg3.IsWhole) (arg4 : Memref sig .tc .vmem S256x2048 .i8) (harg4 : arg4.IsWhole) (arg5 : Memref sig .tc .vmem S512x224 .f32) (harg5 : arg5.IsWhole) (arg6 : Memref sig .tc .vmem S1x1x512 .f32) (harg6 : arg6.IsWhole) (arg7 : Memref sig .tc .vmem S256x512 .bf16) (harg7 : arg7.IsWhole) (arg8 : Memref sig .tc .vmem S512x128 .f32) (harg8 : arg8.IsWhole) (arg9 : Memref sig .tc .vmem S4x256x128 .f32) (harg9 : arg9.IsWhole) (arg10 : Memref sig .tc .vmem S2048x512 .bf16) (harg10 : arg10.IsWhole) (arg11 : Memref sig .tc .vmem S256x512 .f32) (harg11 : arg11.IsWhole) (arg12 : Memref sig .tc .vmem S2x256x2x128 .bf16) (harg12 : arg12.IsWhole) (hc0 : ¬cond0_0 i) (hc1 : ¬cond0_1 i) (hc2 : cond0_2 i) (hc3 : cond0_3 i)     (x0 : Vec Ideal S16x128 .f32) (x1 : Vec Ideal S256x14336 .bf16) (x2 : Vec Ideal S256x2048 .i8) (x3 : Vec Ideal S512x224 .f32) (x4 : Vec Ideal S1x1x512 .f32) (xs1 : Vec Ideal S4x256x128 .f32) (xs3 : Vec Ideal S256x512 .f32) (s : Fin 256) (n : Fin 512) :
    (out0_C_5 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 xs1 xs3 (ix2 s n) : EReal)
      = (sout0_C_3 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 xs1 xs3 (ix2 s ⟨128 * (n.val % 4) + n.val / 4, by have := n.isLt; omega⟩) : EReal)
        + x4 (ix3 0 0 ⟨128 * (n.val % 4) + n.val / 4, by have := n.isLt; omega⟩) := by
  have hv : ∀ (s : Fin 256) (y : Fin 512), (k0_pay131 (F := Ideal) (kernelRun0_C.sl.v19 (F := Ideal) c i arg2 harg2 arg3 harg3 arg4 harg4 arg5 harg5 arg6 harg6 arg7 harg7 arg8 harg8 arg9 harg9 arg10 harg10 arg11 harg11 arg12 harg12 x0 x1 x2 xs1 xs3) (View.readAt (Elt Ideal) arg6.view (Rect.unit ![0, 0, 0] S1x1x512.size inb_S1x1x512_S1x1x512_0_0_0).toLoadRect (harg6.unread x4)) (ix2 s y) : EReal)
      = (sout0_C_3 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 xs1 xs3 (ix2 s y) : EReal) + x4 (ix3 0 0 y) := by
    intro s y
    refine (pay131_apply _ _ s y).trans (congrArg₂ (· + ·) ?_ ?_)
    · unfold kernelRun0_C.sl.v19 sout0_C_3
      rw [View.readCov_eq_canon', View.read_writes_junk_eq_canon]
      unfold kernelRun0_C
      dsimp only
      refine congrArg _ (funext fun a => ?_)
      match a with
      | 0 => exact Fin.ext (by show 0 + 1 * s.val = s.val; omega)
      | 1 => exact Fin.ext (by show 0 + 1 * y.val = y.val; omega)
    · rw [View.readAt_apply, harg6.read_unread]
      refine congrArg x4 (funext fun a => ?_)
      match a with
      | 0 => exact Fin.ext (by show 0 + 1 * 0 = 0; omega)
      | 1 => exact Fin.ext (by show 0 + 1 * 0 = 0; omega)
      | 2 => exact Fin.ext (by show 0 + 1 * y.val = y.val; omega)
  unfold out0_C_5
  rw [View.read_writes_junk_eq_canon]
  unfold kernelRun0_C
  dsimp only
  by_cases h : s.val < 128
  · refine (View.canon_cons_of_not_mem _ _ ?_).trans ?_
    · intro hm
      have := ((Rect.mem_set_unit (s := S256x512) (off := ![128, 0]) (size := ![128, 512]) (inb := inb_S256x512_S128x512_128_0)).mp hm 0).1
      replace this : 128 ≤ s.val := this
      omega
    · have e := View.canon_cons_emb (Val := Elt Ideal) (e := .bf16) (Rect.unit (s := S256x512) ![0, 0] ![128, 512] inb_S256x512_S128x512_0_0) (k0_pay142 (F := Ideal) (kernelRun0_C.sl.v64_raw (F := Ideal) c i arg2 harg2 arg3 harg3 arg4 harg4 arg5 harg5 arg6 harg6 arg7 harg7 arg8 harg8 arg9 harg9 arg10 harg10 arg11 harg11 arg12 harg12 x0 x1 x2 x4 xs1 xs3)) [] (ix2 (⟨s.val, h⟩ : Fin 128) n : S128x512.Idx)
      have hi : (Rect.unit (s := S256x512) ![0, 0] ![128, 512] inb_S256x512_S128x512_0_0).emb (ix2 (⟨s.val, h⟩ : Fin 128) n : S128x512.Idx) = ix2 s n := by
        funext a
        match a with
        | 0 => exact Fin.ext (by show 0 + 1 * s.val = s.val; omega)
        | 1 => exact Fin.ext (by show 0 + 1 * n.val = n.val; omega)
      rw [hi] at e
      refine e.trans ((half_lo c i arg2 harg2 arg3 harg3 arg4 harg4 arg5 harg5 arg6 harg6 arg7 harg7 arg8 harg8 arg9 harg9 arg10 harg10 arg11 harg11 arg12 harg12 x0 x1 x2 x4 xs1 xs3 ⟨s.val, h⟩ n).trans ?_)
      exact hv s _
  · have e := View.canon_cons_emb (Val := Elt Ideal) (e := .bf16) (Rect.unit (s := S256x512) ![128, 0] ![128, 512] inb_S256x512_S128x512_128_0) (kernelRun0_C.sl.r_2 (F := Ideal) c i arg2 harg2 arg3 harg3 arg4 harg4 arg5 harg5 arg6 harg6 arg7 harg7 arg8 harg8 arg9 harg9 arg10 harg10 arg11 harg11 arg12 harg12 x0 x1 x2 x4 xs1 xs3) [⟨Rect.unit (s := S256x512) ![0, 0] ![128, 512] inb_S256x512_S128x512_0_0, k0_pay142 (F := Ideal) (kernelRun0_C.sl.v64_raw (F := Ideal) c i arg2 harg2 arg3 harg3 arg4 harg4 arg5 harg5 arg6 harg6 arg7 harg7 arg8 harg8 arg9 harg9 arg10 harg10 arg11 harg11 arg12 harg12 x0 x1 x2 x4 xs1 xs3)⟩] (ix2 (⟨s.val - 128, by have := s.isLt; omega⟩ : Fin 128) n : S128x512.Idx)
    have hi : (Rect.unit (s := S256x512) ![128, 0] ![128, 512] inb_S256x512_S128x512_128_0).emb (ix2 (⟨s.val - 128, by have := s.isLt; omega⟩ : Fin 128) n : S128x512.Idx) = ix2 s n := by
      funext a
      match a with
      | 0 => exact Fin.ext (by show 128 + 1 * (s.val - 128) = s.val; omega)
      | 1 => exact Fin.ext (by show 0 + 1 * n.val = n.val; omega)
    rw [hi] at e
    refine e.trans ((half_hi c i arg2 harg2 arg3 harg3 arg4 harg4 arg5 harg5 arg6 harg6 arg7 harg7 arg8 harg8 arg9 harg9 arg10 harg10 arg11 harg11 arg12 harg12 x0 x1 x2 x4 xs1 xs3 ⟨s.val - 128, by have := s.isLt; omega⟩ n).trans ?_)
    refine (hv _ _).trans ?_
    have es : (⟨128 + (s.val - 128), by have := s.isLt; omega⟩ : Fin 256) = s := Fin.ext (by show 128 + (s.val - 128) = s.val; omega)
    exact congrArg (fun t : Fin 256 => (sout0_C_3 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 xs1 xs3 (ix2 t ⟨128 * (n.val % 4) + n.val / 4, by have := n.isLt; omega⟩) : EReal)
        + x4 (ix3 0 0 ⟨128 * (n.val % 4) + n.val / 4, by have := n.isLt; omega⟩)) es

end Cert.KernelIdeal.Gen

end
-- ==== Proof.Steps.lean ====
/- What each of the three kinds of grid step leaves, in terms of what the step before left. -/
module

public import proofs.«01_k».proof.Proof.Gen.KernelIdeal.Loops
public import proofs.«01_k».proof.Proof.Acc
public import proofs.«01_k».proof.Proof.Scales
public import proofs.«01_k».proof.Proof.Output
public import proofs.«01_k».proof.Proof.Gen.KernelIdeal.Value
@[expose] public section

set_option maxRecDepth 16384

noncomputable section

namespace Cert.KernelIdeal.Gen

open Idealize.ShloMosaic hiding ix1 ix2 ix3 ix4
open Idealize.ShloMosaic.TcCoe Idealize.ShloMosaic.Tactic

open ValueIdx

variable (m : (ℓ : Loc nD τ sig) → Buf (Elt Ideal) ℓ)

/-- A group's first step leaves the group's scales, transposed. -/
theorem step_A_at (c : Dev nD) (t : Fin cfg0.N) (h0 : t.val % 7 = 0) (h1 : t.val % 7 = 0) (h2 : ¬1 ≤ t.val % 7) (h3 : ¬t.val % 7 = 6) (p : Fin 4) (n : Fin 256) (a : Fin 128) (hn : n.val < 224) :
    ((outsAt0 m c t.val t.isLt).2.1 (ix3 p n a) : EReal) = (iblk m c 3 t : Vec Ideal S512x224 .f32) (ix2 ⟨4 * a.val + p.val, by omega⟩ ⟨n.val, hn⟩) := by
  rw [outsAt0_A m c t h0 h1 h2 h3]
  dsimp only
  rw [sout0_A_1_apply]

/-- A group's first step starts the sums with its own chunk, of weights scaled by some array that holds the group's scales. -/
theorem step_A_acc (c : Dev nD) (t : Fin cfg0.N) (h0 : t.val % 7 = 0) (h1 : t.val % 7 = 0) (h2 : ¬1 ≤ t.val % 7) (h3 : ¬t.val % 7 = 6) (s : Fin 256) (y : Fin 512) :
    ∃ A : S4x256x128.Idx → EReal, (∀ (p : Fin 4) (n : Fin 256) (a : Fin 128) (hn : n.val < 224),
        A (ix3 p n a) = (iblk m c 3 t : Vec Ideal S512x224 .f32) (ix2 ⟨4 * a.val + p.val, by omega⟩ ⟨n.val, hn⟩))
      ∧ ((outsAt0 m c t.val t.isLt).2.2 (ix2 s y) : EReal) = chunk (iblk m c 0 t) (iblk m c 1 t) (iblk m c 2 t) A (grid0.coords t 1) s y :=
  ⟨View.canon (kernelRun0_A.sl.HS1_8 (F := Ideal) c (ms0_3 t) (hs0_3 t) scM0_0 (iblk m c 3 t)),
    fun p n a hn => at_value c (ms0_3 t) (hs0_3 t) scM0_0 (iblk m c 3 t) p n a hn,
    by rw [outsAt0_A m c t h0 h1 h2 h3]; dsimp only; rw [sout0_A_3_apply, View.read_writes_junk_eq_canon]⟩

/-- A middle step keeps the scales. -/
theorem step_B_at (c : Dev nD) (t : Fin cfg0.N) (h0 : ¬t.val % 7 = 0) (h1 : ¬t.val % 7 = 0) (h2 : 1 ≤ t.val % 7) (h3 : ¬t.val % 7 = 6) :
    (outsAt0 m c t.val t.isLt).2.1 = (outsAt0 m c (t.val - 1) (Nat.lt_of_le_of_lt (Nat.sub_le _ _) t.isLt)).2.1 :=
  (congrArg (fun q => q.2.1) (outsAt0_B m c t h0 h1 h2 h3)).trans rfl

/-- A middle step adds its chunk to the sums. -/
theorem step_B_acc (c : Dev nD) (t : Fin cfg0.N) (h0 : ¬t.val % 7 = 0) (h1 : ¬t.val % 7 = 0) (h2 : 1 ≤ t.val % 7) (h3 : ¬t.val % 7 = 6) (s : Fin 256) (y : Fin 512) :
    ((outsAt0 m c t.val t.isLt).2.2 (ix2 s y) : EReal) = (outsAt0 m c (t.val - 1) (Nat.lt_of_le_of_lt (Nat.sub_le _ _) t.isLt)).2.2 (ix2 s y) + chunk (iblk m c 0 t) (iblk m c 1 t) (iblk m c 2 t) (outsAt0 m c (t.val - 1) (Nat.lt_of_le_of_lt (Nat.sub_le _ _) t.isLt)).2.1 (grid0.coords t 1) s y := by
  rw [outsAt0_B m c t h0 h1 h2 h3]
  dsimp only
  rw [sout0_B_3_apply]

/-- A last step keeps the scales. -/
theorem step_C_at (c : Dev nD) (t : Fin cfg0.N) (h0 : ¬t.val % 7 = 0) (h1 : ¬t.val % 7 = 0) (h2 : 1 ≤ t.val % 7) (h3 : t.val % 7 = 6) :
    (outsAt0 m c t.val t.isLt).2.1 = (outsAt0 m c (t.val - 1) (Nat.lt_of_le_of_lt (Nat.sub_le _ _) t.isLt)).2.1 :=
  (congrArg (fun q => q.2.1) (outsAt0_C m c t h0 h1 h2 h3)).trans rfl

/-- A last step adds its chunk to the sums. -/
theorem step_C_acc (c : Dev nD) (t : Fin cfg0.N) (h0 : ¬t.val % 7 = 0) (h1 : ¬t.val % 7 = 0) (h2 : 1 ≤ t.val % 7) (h3 : t.val % 7 = 6) (s : Fin 256) (y : Fin 512) :
    ((outsAt0 m c t.val t.isLt).2.2 (ix2 s y) : EReal) = (outsAt0 m c (t.val - 1) (Nat.lt_of_le_of_lt (Nat.sub_le _ _) t.isLt)).2.2 (ix2 s y) + chunk (iblk m c 0 t) (iblk m c 1 t) (iblk m c 2 t) (outsAt0 m c (t.val - 1) (Nat.lt_of_le_of_lt (Nat.sub_le _ _) t.isLt)).2.1 (grid0.coords t 1) s y := by
  rw [outsAt0_C m c t h0 h1 h2 h3]
  dsimp only
  rw [sout0_C_3_apply]

/-- A last step writes the sums with the bias added, in the channels' own order. -/
theorem step_C_out (c : Dev nD) (t : Fin cfg0.N) (h0 : ¬t.val % 7 = 0) (h1 : ¬t.val % 7 = 0) (h2 : 1 ≤ t.val % 7) (h3 : t.val % 7 = 6) (s : Fin 256) (n : Fin 512) :
    ((outsAt0 m c t.val t.isLt).1 (ix2 s n) : EReal) = (outsAt0 m c t.val t.isLt).2.2 (ix2 s ⟨128 * (n.val % 4) + n.val / 4, by omega⟩)
      + (iblk m c 4 t : Vec Ideal S1x1x512 .f32) (ix3 0 0 ⟨128 * (n.val % 4) + n.val / 4, by omega⟩) := by
  rw [outsAt0_C m c t h0 h1 h2 h3]
  dsimp only
  rw [out0_C_5_apply]

end Cert.KernelIdeal.Gen

end
-- ==== Proof.Array.lean ====
/- The kernel over its whole grid: the carried sums, and the result entry by entry. -/
module

public import proofs.«01_k».proof.Proof.Gen.KernelIdeal.Loops
public import proofs.«01_k».proof.Proof.Windows
public import proofs.«01_k».proof.Proof.Steps
@[expose] public section

set_option maxRecDepth 16384

noncomputable section

namespace Cert.KernelIdeal.Gen

open Idealize.ShloMosaic hiding ix1 ix2 ix3 ix4
open Idealize.ShloMosaic.TcCoe Idealize.ShloMosaic.Tactic

open ValueIdx Cert.KernelIdeal.Value

/-- One product of the layer's sum: activation `D` of token `s` by weight `D` of channel `o`, which is the table's entry at
    the code's low or high half (by the channel's parity), scaled by the scale of the weight's block of 64. -/
def term (X : Fin 256 → Fin 14336 → EReal) (C : Fin 2048 → Fin 14336 → BitVec 8) (S : Fin 4096 → Fin 224 → EReal)
    (s : Fin 256) (o : Fin 4096) (D : Fin 14336) : EReal :=
  X s D * (Ideal.ofBits .f32 (nf4 (nib (C ⟨o.val / 2, by omega⟩ D) (o.val % 2))) * S o ⟨D.val / 64, by omega⟩)

theorem term_congr (X : Fin 256 → Fin 14336 → EReal) (C : Fin 2048 → Fin 14336 → BitVec 8) (S : Fin 4096 → Fin 224 → EReal)
    (s : Fin 256) (o : Fin 4096) (D : Fin 14336) (h : Fin 2048) (e : Nat) (o' : Fin 4096) (q : Fin 224)
    (hh : h.val = o.val / 2) (he : e = o.val % 2) (ho : o' = o) (hq : q.val = D.val / 64) :
    X s D * (Ideal.ofBits .f32 (nf4 (nib (C h D) e)) * S o' q) = term X C S s o D := by
  subst he ho
  have hh' : h = ⟨o'.val / 2, by omega⟩ := Fin.ext hh
  have hq' : q = ⟨D.val / 64, by omega⟩ := Fin.ext hq
  rw [hh', hq']
  rfl

variable (m : (ℓ : Loc nD τ sig) → Buf (Elt Ideal) ℓ)

/-- The activations, by row and column. -/
def argX (c : Dev nD) : Fin 256 → Fin 14336 → EReal := fun s D => (m (c.tc.loc main_arg0) : Vec Ideal S256x14336 .bf16) (ix2 s D)
/-- The packed codes, by row and column. -/
def argC (c : Dev nD) : Fin 2048 → Fin 14336 → BitVec 8 := fun h D => (m (c.tc.loc main_arg1) : Vec Ideal S2048x14336 .i8) (ix2 h D)
/-- The scales, by channel and block. -/
def argS (c : Dev nD) : Fin 4096 → Fin 224 → EReal := fun o q => (m (c.tc.loc main_arg2) : Vec Ideal S4096x224 .f32) (ix2 o q)
/-- The bias, by channel. -/
def argB (c : Dev nD) : Fin 4096 → EReal := fun o => (m (c.tc.loc main_arg3) : Vec Ideal S4096 .f32) (ix1 o)

/-- What step `k` adds to the sum of token `s`, channel `o`. -/
def part (c : Dev nD) (s : Fin 256) (o : Fin 4096) (k : Fin 7) : EReal :=
  ∑ d : Fin 2048, term (argX m c) (argC m c) (argS m c) s o ⟨2048 * k.val + d.val, by omega⟩

/-- The weights' product in a chunk, when the blocks it is computed from hold what the arguments hold. -/
theorem chunk_of (T : S16x128.Idx → EReal) (X : S256x14336.Idx → EReal) (C : S256x2048.Idx → BitVec 8) (A : S4x256x128.Idx → EReal)
    (X' : Fin 256 → Fin 14336 → EReal) (C' : Fin 2048 → Fin 14336 → BitVec 8) (S' : Fin 4096 → Fin 224 → EReal) (g : Fin 8) (k : Fin 7)
    (hT : ∀ r l, T (ix2 r l) = Ideal.ofBits .f32 (nf4 r)) (hX : ∀ s D, X (ix2 s D) = X' s D)
    (hC : ∀ (r : Fin 256) (d : Fin 2048), C (ix2 r d) = C' ⟨256 * g.val + r.val, by omega⟩ ⟨2048 * k.val + d.val, by omega⟩)
    (hA : ∀ (p : Fin 4) (n : Fin 256) (a : Fin 128) (hn : n.val < 224), A (ix3 p n a) = S' ⟨512 * g.val + (4 * a.val + p.val), by omega⟩ ⟨n.val, hn⟩)
    (s : Fin 256) (y : Fin 512) :
    chunk T X C A k s y = ∑ d : Fin 2048, term X' C' S' s (chan g y) ⟨2048 * k.val + d.val, by omega⟩ := by
  unfold chunk
  refine Finset.sum_congr rfl fun d _ => ?_
  unfold deq
  dsimp only
  rw [hT, hX, hA _ _ _ (by show 32 * k.val + d.val / 64 < 224; omega), hC]
  refine term_congr X' C' S' s (chan g y) ⟨2048 * k.val + d.val, by omega⟩ _ _ _ _ ?_ ?_ rfl ?_
  · show 256 * g.val + (2 * (y.val % 128) + y.val / 128 / 2) = (512 * g.val + (4 * (y.val % 128) + y.val / 128)) / 2
    omega
  · show y.val / 128 % 2 = (512 * g.val + (4 * (y.val % 128) + y.val / 128)) % 2
    omega
  · show 32 * k.val + d.val / 64 = (2048 * k.val + d.val) / 64
    omega

/-- A step's chunk, in terms of the arguments, when the carried scales are those of the step's group. -/
theorem chunk_eq (c : Dev nD) (t : Fin cfg0.N) (g : Fin 8) (k : Fin 7) (ht : t.val = 7 * g.val + k.val) (A : S4x256x128.Idx → EReal)
    (hA : ∀ (p : Fin 4) (n : Fin 256) (a : Fin 128) (hn : n.val < 224), A (ix3 p n a) = argS m c ⟨512 * g.val + (4 * a.val + p.val), by omega⟩ ⟨n.val, hn⟩)
    (i : Fin 7) (hi : i.val = k.val) (s : Fin 256) (y : Fin 512) :
    chunk (iblk m c 0 t) (iblk m c 1 t) (iblk m c 2 t) A i s y = part m c s (chan g y) k := by
  obtain rfl : i = k := Fin.ext hi
  exact chunk_of _ _ _ _ (argX m c) (argC m c) (argS m c) g i (iblk0_apply m c t) (iblk1_apply m c t) (iblk2_apply m c t g i ht) hA s y

/-- After step `k` of group `g` the transposed scales are the group's, and the accumulator is the sum of the steps' parts so far. -/
theorem carried (c : Dev nD) (g : Fin 8) : ∀ (k : Nat) (hk : k < 7) (hn : 7 * g.val + k < cfg0.N),
    (∀ (p : Fin 4) (n : Fin 256) (a : Fin 128) (hn' : n.val < 224), ((outsAt0 m c (7 * g.val + k) hn).2.1 (ix3 p n a) : EReal)
        = argS m c ⟨512 * g.val + (4 * a.val + p.val), by omega⟩ ⟨n.val, hn'⟩)
    ∧ ∀ (s : Fin 256) (y : Fin 512), ((outsAt0 m c (7 * g.val + k) hn).2.2 (ix2 s y) : EReal)
        = ∑ j : Fin (k + 1), part m c s (chan g y) ⟨j.val, by omega⟩
  | 0, hk, hn => by
    have ht : (⟨7 * g.val + 0, hn⟩ : Fin cfg0.N).val = 7 * g.val + (0 : Fin 7).val := rfl
    have hc := coord1 (⟨7 * g.val + 0, hn⟩ : Fin cfg0.N) g 0 ht
    have a0 : (⟨7 * g.val + 0, hn⟩ : Fin cfg0.N).val % 7 = 0 := by show (7 * g.val + 0) % 7 = 0; omega
    have a2 : ¬ 1 ≤ (⟨7 * g.val + 0, hn⟩ : Fin cfg0.N).val % 7 := by omega
    have a3 : ¬ (⟨7 * g.val + 0, hn⟩ : Fin cfg0.N).val % 7 = 6 := by omega
    constructor
    · intro p n a hn'
      exact (step_A_at m c ⟨7 * g.val + 0, hn⟩ a0 a0 a2 a3 p n a hn').trans (iblk3_apply m c _ g 0 ht _ _)
    · intro s y
      obtain ⟨A, hA, e⟩ := step_A_acc m c ⟨7 * g.val + 0, hn⟩ a0 a0 a2 a3 s y
      refine e.trans ((chunk_eq m c _ g 0 ht A (fun p n a hn' => (hA p n a hn').trans (iblk3_apply m c _ g 0 ht _ _)) _ hc s y).trans ?_)
      rw [Fin.sum_univ_castSucc, Fin.sum_univ_zero, zero_add]
      rfl
  | k + 1, hk, hn => by
    obtain ⟨ihA, ihS⟩ := carried c g k (by omega) (by omega)
    have ht : (⟨7 * g.val + (k + 1), hn⟩ : Fin cfg0.N).val = 7 * g.val + (⟨k + 1, hk⟩ : Fin 7).val := rfl
    have hc := coord1 (⟨7 * g.val + (k + 1), hn⟩ : Fin cfg0.N) g ⟨k + 1, hk⟩ ht
    have a0 : ¬ (⟨7 * g.val + (k + 1), hn⟩ : Fin cfg0.N).val % 7 = 0 := by show ¬ (7 * g.val + (k + 1)) % 7 = 0; omega
    have a2 : 1 ≤ (⟨7 * g.val + (k + 1), hn⟩ : Fin cfg0.N).val % 7 := by omega
    by_cases h6 : k + 1 = 6
    · have a3 : (⟨7 * g.val + (k + 1), hn⟩ : Fin cfg0.N).val % 7 = 6 := by show (7 * g.val + (k + 1)) % 7 = 6; omega
      refine ⟨fun p n a hn' => (congrFun (step_C_at m c ⟨7 * g.val + (k + 1), hn⟩ a0 a0 a2 a3) _).trans (ihA p n a hn'), ?_⟩
      intro s y
      refine (step_C_acc m c ⟨7 * g.val + (k + 1), hn⟩ a0 a0 a2 a3 s y).trans ?_
      rw [Fin.sum_univ_castSucc]
      exact congrArg₂ (· + ·) (ihS s y) (chunk_eq m c _ g ⟨k + 1, hk⟩ ht _ ihA _ hc s y)
    · have a3 : ¬ (⟨7 * g.val + (k + 1), hn⟩ : Fin cfg0.N).val % 7 = 6 := by show ¬ (7 * g.val + (k + 1)) % 7 = 6; omega
      refine ⟨fun p n a hn' => (congrFun (step_B_at m c ⟨7 * g.val + (k + 1), hn⟩ a0 a0 a2 a3) _).trans (ihA p n a hn'), ?_⟩
      intro s y
      refine (step_B_acc m c ⟨7 * g.val + (k + 1), hn⟩ a0 a0 a2 a3 s y).trans ?_
      rw [Fin.sum_univ_castSucc]
      exact congrArg₂ (· + ·) (ihS s y) (chunk_eq m c _ g ⟨k + 1, hk⟩ ht _ ihA _ hc s y)

/-- The kernel's result at token `s`, channel `o`. -/
theorem G5_apply (c : Dev nD) (s : Fin 256) (o : Fin 4096) :
    (G5 m c (ix2 s o) : EReal) = (∑ k : Fin 7, part m c s o k) + argB m c o := by
  have hN : cfg0.N = 56 := N_0
  let g : Fin 8 := ⟨o.val / 512, by omega⟩
  let n : Fin 512 := ⟨o.val % 512, by omega⟩
  have hp : pt5Of (ix2 s o) = 7 * g.val + 6 := by
    show 7 * (8 * (s.val / 256 - 0) + 1 * (o.val / 512 - 0)) + 6 = 7 * (o.val / 512) + 6
    have := s.isLt
    omega
  have hl : loc5Of (ix2 s o) = ix2 s n := by
    funext a
    match a with
    | ⟨0, _⟩ => exact Fin.ext (show s.val % 256 = s.val from Nat.mod_eq_of_lt s.isLt)
    | ⟨1, _⟩ => rfl
  have hlt : 7 * g.val + 6 < cfg0.N := by
    rw [hN]; show 7 * (o.val / 512) + 6 < 56; omega
  unfold G5
  rw [dif_pos (by rw [hp]; exact hlt), hl, fold0_congr m c _ _ _ (by rw [Nat.zero_add]; exact hlt) hp, ← outsAt0_sweep m c _ hlt]
  have ht : (⟨7 * g.val + 6, hlt⟩ : Fin cfg0.N).val = 7 * g.val + (6 : Fin 7).val := rfl
  have hy : chan g ⟨128 * (n.val % 4) + n.val / 4, by omega⟩ = o := by
    apply Fin.ext
    show 512 * (o.val / 512) + (4 * ((128 * (o.val % 512 % 4) + o.val % 512 / 4) % 128) + (128 * (o.val % 512 % 4) + o.val % 512 / 4) / 128) = o.val
    omega
  have hs := (carried m c g 6 (by omega) hlt).2 s ⟨128 * (n.val % 4) + n.val / 4, by omega⟩
  rw [hy] at hs
  have a0 : ¬ (⟨7 * g.val + 6, hlt⟩ : Fin cfg0.N).val % 7 = 0 := by show ¬ (7 * g.val + 6) % 7 = 0; omega
  have a3 : (⟨7 * g.val + 6, hlt⟩ : Fin cfg0.N).val % 7 = 6 := by show (7 * g.val + 6) % 7 = 6; omega
  refine (step_C_out m c ⟨7 * g.val + 6, hlt⟩ a0 a0 (by omega) a3 s n).trans ?_
  refine congrArg₂ (· + ·) hs ?_
  refine (iblk4_apply m c _ g 6 ht _).trans ?_
  rw [hy]
  rfl

end Cert.KernelIdeal.Gen

end
-- ==== Proof.RefTable.lean ====
/- The reference reads a table entry for each half of each packed code: the entry at the half. -/
module

public import proofs.«01_k».proof.Proof.Gen.ReferenceIdeal.Run
public import proofs.«01_k».proof.Proof.Array
@[expose] public section

set_option maxRecDepth 16384

noncomputable section

namespace Cert.ReferenceIdeal.Entry

open Cert.ReferenceIdeal Cert.ReferenceIdeal.Gen Cert.ReferenceIdeal.Value
open Idealize.ShloMosaic hiding ix1 ix2 ix3 ix4
open Idealize.ShloMosaic.TcCoe Idealize.ShloMosaic.Tactic Idealize.ShloMosaic.StableHlo
open ValueIdx
open Cert.KernelIdeal.Gen (nib nf4 term)

/-- Bit `k` of a code, as the reference tests it. -/
def bit (w k : BitVec 32) : BitVec 1 := IntOp.cmpi .eq (IntOp.andi (IntOp.shrsi .host w k) 1#32) 1#32

/-- The bits of the table's entry the reference's sixteen-way choice takes for a code. -/
def pick (w : BitVec 32) : BitVec 32 := Scalar.select (bit w 3#32) (Scalar.select (bit w 2#32) (Scalar.select (bit w 1#32) (Scalar.select (bit w 0#32) 0x3F800000#32 0x3F3913B3#32) (Scalar.select (bit w 0#32) 0x3F1007AB#32 0x3EE1A4B8#32)) (Scalar.select (bit w 1#32) (Scalar.select (bit w 0#32) 0x3EAD033A#32 0x3E7C04DD#32) (Scalar.select (bit w 0#32) 0x3E24CAE3#32 0x3DA2FAFF#32))) (Scalar.select (bit w 2#32) (Scalar.select (bit w 1#32) (Scalar.select (bit w 0#32) 0x00000000#32 0xBDBA7871#32) (Scalar.select (bit w 0#32) 0xBE3D353F#32 0xBE91A24D#32)) (Scalar.select (bit w 1#32) (Scalar.select (bit w 0#32) 0xBECA32A0#32 0xBF066B30#32) (Scalar.select (bit w 0#32) 0xBF3239B1#32 0xBF800000#32)))

theorem pick_eq : ∀ n : Fin 16, pick (BitVec.ofNat 32 n.val) = nf4 n := by decide +kernel

theorem low_eq : ∀ b : Fin 256, ((BitVec.ofFin b : BitVec 8).setWidth 32 &&& 15#32) = BitVec.ofNat 32 (nib (BitVec.ofFin b) 0).val := by decide +kernel

theorem high_eq : ∀ b : Fin 256, IntOp.shrsi .host ((BitVec.ofFin b : BitVec 8).setWidth 32) 4#32 = BitVec.ofNat 32 (nib (BitVec.ofFin b) 1).val := by decide +kernel

theorem select_ofBits (b : BitVec 1) (x y : BitVec 32) :
    (Scalar.select b (Ideal.ofBits .f32 x) (Ideal.ofBits .f32 y) : EReal) = Ideal.ofBits .f32 (Scalar.select b x y) := by
  unfold Scalar.select
  split <;> rfl

/-- The reference's sixteen-way choice at an index. -/
theorem tree_apply (W : IVec S2048x224x64 32) (j : S2048x224x64.Idx) :
    ((select (cmpi .eq (andi (Host.shrsi W (broadcastInDim S2048x224x64 ![] bcast_S_S2048x224x64 (constantI S_ 32 3#32))) (broadcastInDim S2048x224x64 ![] bcast_S_S2048x224x64 (constantI S_ 32 1#32))) (broadcastInDim S2048x224x64 ![] bcast_S_S2048x224x64 (constantI S_ 32 1#32))) (select (cmpi .eq (andi (Host.shrsi W (broadcastInDim S2048x224x64 ![] bcast_S_S2048x224x64 (constantI S_ 32 2#32))) (broadcastInDim S2048x224x64 ![] bcast_S_S2048x224x64 (constantI S_ 32 1#32))) (broadcastInDim S2048x224x64 ![] bcast_S_S2048x224x64 (constantI S_ 32 1#32))) (select (cmpi .eq (andi (Host.shrsi W (broadcastInDim S2048x224x64 ![] bcast_S_S2048x224x64 (constantI S_ 32 1#32))) (broadcastInDim S2048x224x64 ![] bcast_S_S2048x224x64 (constantI S_ 32 1#32))) (broadcastInDim S2048x224x64 ![] bcast_S_S2048x224x64 (constantI S_ 32 1#32))) (select (cmpi .eq (andi (Host.shrsi W (broadcastInDim S2048x224x64 ![] bcast_S_S2048x224x64 (constantI S_ 32 0#32))) (broadcastInDim S2048x224x64 ![] bcast_S_S2048x224x64 (constantI S_ 32 1#32))) (broadcastInDim S2048x224x64 ![] bcast_S_S2048x224x64 (constantI S_ 32 1#32))) (broadcastInDim S2048x224x64 ![] bcast_S_S2048x224x64 (constant (F := Ideal) S_ .f32 0x3F800000#32)) (broadcastInDim S2048x224x64 ![] bcast_S_S2048x224x64 (constant (F := Ideal) S_ .f32 0x3F3913B3#32))) (select (cmpi .eq (andi (Host.shrsi W (broadcastInDim S2048x224x64 ![] bcast_S_S2048x224x64 (constantI S_ 32 0#32))) (broadcastInDim S2048x224x64 ![] bcast_S_S2048x224x64 (constantI S_ 32 1#32))) (broadcastInDim S2048x224x64 ![] bcast_S_S2048x224x64 (constantI S_ 32 1#32))) (broadcastInDim S2048x224x64 ![] bcast_S_S2048x224x64 (constant (F := Ideal) S_ .f32 0x3F1007AB#32)) (broadcastInDim S2048x224x64 ![] bcast_S_S2048x224x64 (constant (F := Ideal) S_ .f32 0x3EE1A4B8#32)))) (select (cmpi .eq (andi (Host.shrsi W (broadcastInDim S2048x224x64 ![] bcast_S_S2048x224x64 (constantI S_ 32 1#32))) (broadcastInDim S2048x224x64 ![] bcast_S_S2048x224x64 (constantI S_ 32 1#32))) (broadcastInDim S2048x224x64 ![] bcast_S_S2048x224x64 (constantI S_ 32 1#32))) (select (cmpi .eq (andi (Host.shrsi W (broadcastInDim S2048x224x64 ![] bcast_S_S2048x224x64 (constantI S_ 32 0#32))) (broadcastInDim S2048x224x64 ![] bcast_S_S2048x224x64 (constantI S_ 32 1#32))) (broadcastInDim S2048x224x64 ![] bcast_S_S2048x224x64 (constantI S_ 32 1#32))) (broadcastInDim S2048x224x64 ![] bcast_S_S2048x224x64 (constant (F := Ideal) S_ .f32 0x3EAD033A#32)) (broadcastInDim S2048x224x64 ![] bcast_S_S2048x224x64 (constant (F := Ideal) S_ .f32 0x3E7C04DD#32))) (select (cmpi .eq (andi (Host.shrsi W (broadcastInDim S2048x224x64 ![] bcast_S_S2048x224x64 (constantI S_ 32 0#32))) (broadcastInDim S2048x224x64 ![] bcast_S_S2048x224x64 (constantI S_ 32 1#32))) (broadcastInDim S2048x224x64 ![] bcast_S_S2048x224x64 (constantI S_ 32 1#32))) (broadcastInDim S2048x224x64 ![] bcast_S_S2048x224x64 (constant (F := Ideal) S_ .f32 0x3E24CAE3#32)) (broadcastInDim S2048x224x64 ![] bcast_S_S2048x224x64 (constant (F := Ideal) S_ .f32 0x3DA2FAFF#32))))) (select (cmpi .eq (andi (Host.shrsi W (broadcastInDim S2048x224x64 ![] bcast_S_S2048x224x64 (constantI S_ 32 2#32))) (broadcastInDim S2048x224x64 ![] bcast_S_S2048x224x64 (constantI S_ 32 1#32))) (broadcastInDim S2048x224x64 ![] bcast_S_S2048x224x64 (constantI S_ 32 1#32))) (select (cmpi .eq (andi (Host.shrsi W (broadcastInDim S2048x224x64 ![] bcast_S_S2048x224x64 (constantI S_ 32 1#32))) (broadcastInDim S2048x224x64 ![] bcast_S_S2048x224x64 (constantI S_ 32 1#32))) (broadcastInDim S2048x224x64 ![] bcast_S_S2048x224x64 (constantI S_ 32 1#32))) (select (cmpi .eq (andi (Host.shrsi W (broadcastInDim S2048x224x64 ![] bcast_S_S2048x224x64 (constantI S_ 32 0#32))) (broadcastInDim S2048x224x64 ![] bcast_S_S2048x224x64 (constantI S_ 32 1#32))) (broadcastInDim S2048x224x64 ![] bcast_S_S2048x224x64 (constantI S_ 32 1#32))) (broadcastInDim S2048x224x64 ![] bcast_S_S2048x224x64 (constant (F := Ideal) S_ .f32 0x00000000#32)) (broadcastInDim S2048x224x64 ![] bcast_S_S2048x224x64 (constant (F := Ideal) S_ .f32 0xBDBA7871#32))) (select (cmpi .eq (andi (Host.shrsi W (broadcastInDim S2048x224x64 ![] bcast_S_S2048x224x64 (constantI S_ 32 0#32))) (broadcastInDim S2048x224x64 ![] bcast_S_S2048x224x64 (constantI S_ 32 1#32))) (broadcastInDim S2048x224x64 ![] bcast_S_S2048x224x64 (constantI S_ 32 1#32))) (broadcastInDim S2048x224x64 ![] bcast_S_S2048x224x64 (constant (F := Ideal) S_ .f32 0xBE3D353F#32)) (broadcastInDim S2048x224x64 ![] bcast_S_S2048x224x64 (constant (F := Ideal) S_ .f32 0xBE91A24D#32)))) (select (cmpi .eq (andi (Host.shrsi W (broadcastInDim S2048x224x64 ![] bcast_S_S2048x224x64 (constantI S_ 32 1#32))) (broadcastInDim S2048x224x64 ![] bcast_S_S2048x224x64 (constantI S_ 32 1#32))) (broadcastInDim S2048x224x64 ![] bcast_S_S2048x224x64 (constantI S_ 32 1#32))) (select (cmpi .eq (andi (Host.shrsi W (broadcastInDim S2048x224x64 ![] bcast_S_S2048x224x64 (constantI S_ 32 0#32))) (broadcastInDim S2048x224x64 ![] bcast_S_S2048x224x64 (constantI S_ 32 1#32))) (broadcastInDim S2048x224x64 ![] bcast_S_S2048x224x64 (constantI S_ 32 1#32))) (broadcastInDim S2048x224x64 ![] bcast_S_S2048x224x64 (constant (F := Ideal) S_ .f32 0xBECA32A0#32)) (broadcastInDim S2048x224x64 ![] bcast_S_S2048x224x64 (constant (F := Ideal) S_ .f32 0xBF066B30#32))) (select (cmpi .eq (andi (Host.shrsi W (broadcastInDim S2048x224x64 ![] bcast_S_S2048x224x64 (constantI S_ 32 0#32))) (broadcastInDim S2048x224x64 ![] bcast_S_S2048x224x64 (constantI S_ 32 1#32))) (broadcastInDim S2048x224x64 ![] bcast_S_S2048x224x64 (constantI S_ 32 1#32))) (broadcastInDim S2048x224x64 ![] bcast_S_S2048x224x64 (constant (F := Ideal) S_ .f32 0xBF3239B1#32)) (broadcastInDim S2048x224x64 ![] bcast_S_S2048x224x64 (constant (F := Ideal) S_ .f32 0xBF800000#32))))) : Vec Ideal S2048x224x64 .f32) j : EReal) = Ideal.ofBits .f32 (pick (W j)) := by
  show (Scalar.select (bit (W j) 3#32) (Scalar.select (bit (W j) 2#32) (Scalar.select (bit (W j) 1#32) (Scalar.select (bit (W j) 0#32) (Ideal.ofBits .f32 0x3F800000#32) (Ideal.ofBits .f32 0x3F3913B3#32)) (Scalar.select (bit (W j) 0#32) (Ideal.ofBits .f32 0x3F1007AB#32) (Ideal.ofBits .f32 0x3EE1A4B8#32))) (Scalar.select (bit (W j) 1#32) (Scalar.select (bit (W j) 0#32) (Ideal.ofBits .f32 0x3EAD033A#32) (Ideal.ofBits .f32 0x3E7C04DD#32)) (Scalar.select (bit (W j) 0#32) (Ideal.ofBits .f32 0x3E24CAE3#32) (Ideal.ofBits .f32 0x3DA2FAFF#32)))) (Scalar.select (bit (W j) 2#32) (Scalar.select (bit (W j) 1#32) (Scalar.select (bit (W j) 0#32) (Ideal.ofBits .f32 0x00000000#32) (Ideal.ofBits .f32 0xBDBA7871#32)) (Scalar.select (bit (W j) 0#32) (Ideal.ofBits .f32 0xBE3D353F#32) (Ideal.ofBits .f32 0xBE91A24D#32))) (Scalar.select (bit (W j) 1#32) (Scalar.select (bit (W j) 0#32) (Ideal.ofBits .f32 0xBECA32A0#32) (Ideal.ofBits .f32 0xBF066B30#32)) (Scalar.select (bit (W j) 0#32) (Ideal.ofBits .f32 0xBF3239B1#32) (Ideal.ofBits .f32 0xBF800000#32)))) : EReal) = _
  simp only [select_ofBits]
  rfl

variable (V0 : Valuation τ sig (Elt Ideal))

/-- The low halves' table entries. -/
theorem low_apply (h : Fin 2048) (q : Fin 224) (r : Fin 64) :
    (res_main_v109 V0 (ix3 h q r) : EReal)
      = Ideal.ofBits .f32 (nf4 (nib ((V0 (Proc.devRef .tc main_arg1) : Vec Ideal S2048x14336 .i8) (ix2 h ⟨64 * q.val + r.val, by omega⟩)) 0)) := by
  have hw : (res_main_v4 V0 : IVec S2048x224x64 32) (ix3 h q r)
      = BitVec.ofNat 32 (nib ((V0 (Proc.devRef .tc main_arg1) : Vec Ideal S2048x14336 .i8) (ix2 h ⟨64 * q.val + r.val, by omega⟩)) 0).val := by
    unfold res_main_v4
    refine (shapeCast_apply _ shapeCasts_S2048x14336_S2048x224x64 (ix3 h q r) (ix2 h (⟨64 * q.val + r.val, by omega⟩ : Fin 14336))
      ((Shape.rowMajor_val_two _).trans (Eq.trans (by show h.val * 14336 + (64 * q.val + r.val) = (h.val * 224 + q.val) * 64 + r.val; omega) (Shape.rowMajor_val_three _).symm))).trans ?_
    unfold res_main_v0
    exact low_eq (BitVec.toFin ((V0 (Proc.devRef .tc main_arg1) : Vec Ideal S2048x14336 .i8) (ix2 h ⟨64 * q.val + r.val, by omega⟩)))
  refine (tree_apply (res_main_v4 V0) (ix3 h q r)).trans ?_
  rw [hw, pick_eq]

/-- The high halves' table entries. -/
theorem high_apply (h : Fin 2048) (q : Fin 224) (r : Fin 64) :
    (res_main_v223 V0 (ix3 h q r) : EReal)
      = Ideal.ofBits .f32 (nf4 (nib ((V0 (Proc.devRef .tc main_arg1) : Vec Ideal S2048x14336 .i8) (ix2 h ⟨64 * q.val + r.val, by omega⟩)) 1)) := by
  have hw : (res_main_v118 V0 : IVec S2048x224x64 32) (ix3 h q r)
      = BitVec.ofNat 32 (nib ((V0 (Proc.devRef .tc main_arg1) : Vec Ideal S2048x14336 .i8) (ix2 h ⟨64 * q.val + r.val, by omega⟩)) 1).val := by
    unfold res_main_v118
    refine (shapeCast_apply _ shapeCasts_S2048x14336_S2048x224x64 (ix3 h q r) (ix2 h (⟨64 * q.val + r.val, by omega⟩ : Fin 14336))
      ((Shape.rowMajor_val_two _).trans (Eq.trans (by show h.val * 14336 + (64 * q.val + r.val) = (h.val * 224 + q.val) * 64 + r.val; omega) (Shape.rowMajor_val_three _).symm))).trans ?_
    unfold res_main_v0
    exact high_eq (BitVec.toFin ((V0 (Proc.devRef .tc main_arg1) : Vec Ideal S2048x14336 .i8) (ix2 h ⟨64 * q.val + r.val, by omega⟩)))
  refine (tree_apply (res_main_v118 V0) (ix3 h q r)).trans ?_
  rw [hw, pick_eq]

end Cert.ReferenceIdeal.Entry

end
-- ==== Proof.RefSum.lean ====
/- The reference entry by entry: the sum of activation times weight over the row, and the bias. -/
module

public import proofs.«01_k».proof.Proof.Gen.ReferenceIdeal.Run
public import proofs.«01_k».proof.Proof.Array
public import proofs.«01_k».proof.Proof.RefTable
@[expose] public section

set_option maxRecDepth 16384

noncomputable section

namespace Cert.ReferenceIdeal.Entry

open Cert.ReferenceIdeal Cert.ReferenceIdeal.Gen Cert.ReferenceIdeal.Value
open Idealize.ShloMosaic hiding ix1 ix2 ix3 ix4
open Idealize.ShloMosaic.TcCoe Idealize.ShloMosaic.Tactic Idealize.ShloMosaic.StableHlo
open ValueIdx
open Cert.KernelIdeal.Gen (nib nf4 term)

/-- A weight row of the reference, for the halves' table entries `v` and their scales `a`. -/
theorem weight_apply (v : FVec Ideal S2048x224x64 .f32) (a : FVec Ideal S2048x224 .f32) (h : Fin 2048) (D : Fin 14336) :
    ((truncf .bf16 (shapeCast S2048x14336 (mulf v (broadcastInDim S2048x224x64 ![0, 1, 2] bcast_S2048x224x1_S2048x224x64_0_1_2
      (broadcastInDim S2048x224x1 ![0, 1] bcast_S2048x224_S2048x224x1_0_1 a))) shapeCasts_S2048x224x64_S2048x14336) bitsLt_bf16_f32 : FVec Ideal S2048x14336 .bf16) (ix2 h D) : EReal)
      = v (ix3 h ⟨D.val / 64, by omega⟩ ⟨D.val % 64, by omega⟩) * a (ix2 h ⟨D.val / 64, by omega⟩) := by
  show (shapeCast S2048x14336 (mulf v (broadcastInDim S2048x224x64 ![0, 1, 2] bcast_S2048x224x1_S2048x224x64_0_1_2
      (broadcastInDim S2048x224x1 ![0, 1] bcast_S2048x224_S2048x224x1_0_1 a))) shapeCasts_S2048x224x64_S2048x14336 (ix2 h D) : EReal) = _
  rw [shapeCast_apply _ shapeCasts_S2048x224x64_S2048x14336 (ix2 h D) (ix3 h (⟨D.val / 64, by omega⟩ : Fin 224) (⟨D.val % 64, by omega⟩ : Fin 64))
    ((Shape.rowMajor_val_three _).trans (Eq.trans (by show (h.val * 224 + D.val / 64) * 64 + D.val % 64 = h.val * 14336 + D.val; omega) (Shape.rowMajor_val_two _).symm))]
  refine congrArg₂ (fun a b : EReal => a * b) rfl ?_
  refine (broadcastInDim_apply ![0, 1, 2] bcast_S2048x224x1_S2048x224x64_0_1_2 _ _ (ix3 h (⟨D.val / 64, by omega⟩ : Fin 224) (0 : Fin 1)) (fun a => by match a with | 0 => rfl | 1 => rfl | 2 => rfl)).trans ?_
  exact broadcastInDim_apply ![0, 1] bcast_S2048x224_S2048x224x1_0_1 a _ (ix2 h (⟨D.val / 64, by omega⟩ : Fin 224)) (fun a => by match a with | 0 => rfl | 1 => rfl)

/-- The reference's product at an entry. -/
theorem dot_apply (x : FVec Ideal S256x14336 .bf16) (w : FVec Ideal S2048x14336 .bf16) (s : Fin 256) (h : Fin 2048) :
    ((Host.dotGeneral dot_S256x14336_S2048x14336_S256x2048_1_1_0_0_n_n none x w : FVec Ideal S256x2048 .f32) (ix2 s h) : EReal)
      = ∑ D : Fin 14336, (x (ix2 s D) : EReal) * w (ix2 h D) := by
  pointwise
  rfl

/-- Two arrays stacked and flattened read the first at an even channel and the second at an odd one. -/
theorem stack_apply (P Q : S256x2048.Idx → EReal) (hc : Shape.Concatenates [S256x2048x1, S256x2048x1] S256x2048x2 2)
    (hs : S256x2048x2.ShapeCasts S256x4096) (s : Fin 256) (o : Fin 4096) :
    shapeCast S256x4096 (concatenate S256x2048x2 2 [⟨S256x2048x1, (broadcastInDim S256x2048x1 ![0, 1] bcast_S256x2048_S256x2048x1_0_1 P)⟩,
      ⟨S256x2048x1, (broadcastInDim S256x2048x1 ![0, 1] bcast_S256x2048_S256x2048x1_0_1 Q)⟩] hc) hs (ix2 s o)
      = if o.val % 2 = 0 then P (ix2 s ⟨o.val / 2, by omega⟩) else Q (ix2 s ⟨o.val / 2, by omega⟩) := by
  rw [shapeCast_apply _ hs (ix2 s o) (ix3 s (⟨o.val / 2, by omega⟩ : Fin 2048) (⟨o.val % 2, by omega⟩ : Fin 2))
    ((Shape.rowMajor_val_three _).trans (Eq.trans (by show (s.val * 2048 + o.val / 2) * 2 + o.val % 2 = s.val * 4096 + o.val; omega) (Shape.rowMajor_val_two _).symm))]
  have hb : ∀ R : S256x2048.Idx → EReal, broadcastInDim S256x2048x1 ![0, 1] bcast_S256x2048_S256x2048x1_0_1 R (ix3 s (⟨o.val / 2, by omega⟩ : Fin 2048) (0 : Fin 1))
      = R (ix2 s ⟨o.val / 2, by omega⟩) := fun R =>
    broadcastInDim_apply ![0, 1] bcast_S256x2048_S256x2048x1_0_1 R _ _ (fun a => by match a with | 0 => rfl | 1 => rfl)
  split_ifs with he
  · rw [concatenate_pair_apply_left 2 _ _ hc _ rfl (ix3 s (⟨o.val / 2, by omega⟩ : Fin 2048) (0 : Fin 1))
      (fun a => by match a with | 0 => rfl | 1 => rfl | 2 => exact he.symm), hb]
  · rw [concatenate_pair_apply_right 2 _ _ hc _ rfl rfl (ix3 s (⟨o.val / 2, by omega⟩ : Fin 2048) (0 : Fin 1))
      (fun a ha => by match a with | 0 => rfl | 1 => rfl | 2 => exact absurd rfl ha) (by show 0 + 1 = o.val % 2; omega), hb]

/-- The bias over the rows. -/
theorem bias_apply (b : S4096.Idx → EReal) (s : Fin 256) (o : Fin 4096) :
    broadcastInDim S256x4096 ![0, 1] bcast_S1x4096_S256x4096_0_1 (broadcastInDim S1x4096 ![1] bcast_S4096_S1x4096_1 b) (ix2 s o) = b (ix1 o) := by
  rw [broadcastInDim_apply ![0, 1] bcast_S1x4096_S256x4096_0_1 _ _ (ix2 (0 : Fin 1) o) (fun a => by match a with | 0 => rfl | 1 => rfl)]
  exact broadcastInDim_apply ![1] bcast_S4096_S1x4096_1 b (ix2 (0 : Fin 1) o) (ix1 o) (fun a => by match a with | 0 => rfl)

variable (V0 : Valuation τ sig (Elt Ideal))

/-- The activations, the codes, the scales and the bias the reference is given, by their coordinates. -/
def refX : Fin 256 → Fin 14336 → EReal := fun s D => (V0 (Proc.devRef .tc main_arg0) : Vec Ideal S256x14336 .bf16) (ix2 s D)
def refC : Fin 2048 → Fin 14336 → BitVec 8 := fun h D => (V0 (Proc.devRef .tc main_arg1) : Vec Ideal S2048x14336 .i8) (ix2 h D)
def refS : Fin 4096 → Fin 224 → EReal := fun o q => (V0 (Proc.devRef .tc main_arg2) : Vec Ideal S4096x224 .f32) (ix2 o q)
def refB : Fin 4096 → EReal := fun o => (V0 (Proc.devRef .tc main_arg3) : Vec Ideal S4096 .f32) (ix1 o)

/-- A weight of an even channel. -/
theorem low_weight (h : Fin 2048) (D : Fin 14336) :
    (((truncf .bf16 (shapeCast S2048x14336 (mulf (res_main_v109 V0) (broadcastInDim S2048x224x64 ![0, 1, 2] bcast_S2048x224x1_S2048x224x64_0_1_2 (broadcastInDim S2048x224x1 ![0, 1] bcast_S2048x224_S2048x224x1_0_1 (Host.slice S2048x224 ![0, 0] ![2, 1] (V0 (Proc.devRef .tc main_arg2)) slicesBy_S4096x224_S2048x224_0s2_0s1)))) shapeCasts_S2048x224x64_S2048x14336) bitsLt_bf16_f32) : FVec Ideal S2048x14336 .bf16) (ix2 h D) : EReal)
      = Ideal.ofBits .f32 (nf4 (nib (refC V0 h D) 0)) * refS V0 ⟨2 * h.val, by omega⟩ ⟨D.val / 64, by omega⟩ := by
  refine (weight_apply (res_main_v109 V0) _ h D).trans ?_
  rw [low_apply]
  refine congrArg₂ (fun a b : EReal => a * b) (congrArg (fun i => Ideal.ofBits .f32 (nf4 (nib ((V0 (Proc.devRef .tc main_arg1) : Vec Ideal S2048x14336 .i8) i) 0))) (congrArg₂ ix2 rfl (Fin.ext ?_))) ?_
  · show 64 * (D.val / 64) + D.val % 64 = D.val
    omega
  · rw [Host.slice_apply]
    refine congrArg (V0 (Proc.devRef .tc main_arg2) : Vec Ideal S4096x224 .f32) (funext fun a => Fin.ext ?_)
    match a with
    | 0 => show 0 + 2 * h.val = 2 * h.val; omega
    | 1 => show 0 + 1 * (D.val / 64) = D.val / 64; omega

/-- A weight of an odd channel. -/
theorem high_weight (h : Fin 2048) (D : Fin 14336) :
    (((truncf .bf16 (shapeCast S2048x14336 (mulf (res_main_v223 V0) (broadcastInDim S2048x224x64 ![0, 1, 2] bcast_S2048x224x1_S2048x224x64_0_1_2 (broadcastInDim S2048x224x1 ![0, 1] bcast_S2048x224_S2048x224x1_0_1 (Host.slice S2048x224 ![1, 0] ![2, 1] (V0 (Proc.devRef .tc main_arg2)) slicesBy_S4096x224_S2048x224_1s2_0s1)))) shapeCasts_S2048x224x64_S2048x14336) bitsLt_bf16_f32) : FVec Ideal S2048x14336 .bf16) (ix2 h D) : EReal)
      = Ideal.ofBits .f32 (nf4 (nib (refC V0 h D) 1)) * refS V0 ⟨2 * h.val + 1, by omega⟩ ⟨D.val / 64, by omega⟩ := by
  refine (weight_apply (res_main_v223 V0) _ h D).trans ?_
  rw [high_apply]
  refine congrArg₂ (fun a b : EReal => a * b) (congrArg (fun i => Ideal.ofBits .f32 (nf4 (nib ((V0 (Proc.devRef .tc main_arg1) : Vec Ideal S2048x14336 .i8) i) 1))) (congrArg₂ ix2 rfl (Fin.ext ?_))) ?_
  · show 64 * (D.val / 64) + D.val % 64 = D.val
    omega
  · rw [Host.slice_apply]
    refine congrArg (V0 (Proc.devRef .tc main_arg2) : Vec Ideal S4096x224 .f32) (funext fun a => Fin.ext ?_)
    match a with
    | 0 => show 1 + 2 * h.val = 2 * h.val + 1; omega
    | 1 => show 0 + 1 * (D.val / 64) = D.val / 64; omega

/-- The reference's result, as the composed term of its operations. -/
def refOut : FVec Ideal S256x4096 .bf16 := truncf .bf16 (addf (shapeCast S256x4096 (concatenate S256x2048x2 2 [⟨S256x2048x1, (broadcastInDim S256x2048x1 ![0, 1] bcast_S256x2048_S256x2048x1_0_1 (Host.dotGeneral (φ₁ := .bf16) dot_S256x14336_S2048x14336_S256x2048_1_1_0_0_n_n none (V0 (Proc.devRef .tc main_arg0) : FVec Ideal S256x14336 .bf16) (truncf .bf16 (shapeCast S2048x14336 (mulf (res_main_v109 V0) (broadcastInDim S2048x224x64 ![0, 1, 2] bcast_S2048x224x1_S2048x224x64_0_1_2 (broadcastInDim S2048x224x1 ![0, 1] bcast_S2048x224_S2048x224x1_0_1 (Host.slice S2048x224 ![0, 0] ![2, 1] (V0 (Proc.devRef .tc main_arg2)) slicesBy_S4096x224_S2048x224_0s2_0s1)))) shapeCasts_S2048x224x64_S2048x14336) bitsLt_bf16_f32)))⟩, ⟨S256x2048x1, (broadcastInDim S256x2048x1 ![0, 1] bcast_S256x2048_S256x2048x1_0_1 (Host.dotGeneral (φ₁ := .bf16) dot_S256x14336_S2048x14336_S256x2048_1_1_0_0_n_n none (V0 (Proc.devRef .tc main_arg0) : FVec Ideal S256x14336 .bf16) (truncf .bf16 (shapeCast S2048x14336 (mulf (res_main_v223 V0) (broadcastInDim S2048x224x64 ![0, 1, 2] bcast_S2048x224x1_S2048x224x64_0_1_2 (broadcastInDim S2048x224x1 ![0, 1] bcast_S2048x224_S2048x224x1_0_1 (Host.slice S2048x224 ![1, 0] ![2, 1] (V0 (Proc.devRef .tc main_arg2)) slicesBy_S4096x224_S2048x224_1s2_0s1)))) shapeCasts_S2048x224x64_S2048x14336) bitsLt_bf16_f32)))⟩] concatenates_S256x2048x1_S256x2048x1_S256x2048x2_d2) shapeCasts_S256x2048x2_S256x4096) (broadcastInDim S256x4096 ![0, 1] bcast_S1x4096_S256x4096_0_1 (broadcastInDim S1x4096 ![1] bcast_S4096_S1x4096_1 (V0 (Proc.devRef .tc main_arg3))))) bitsLt_bf16_f32

/-- The reference's result at token `s`, channel `o`. -/
theorem ref_apply (s : Fin 256) (o : Fin 4096) :
    (refOut V0 (ix2 s o) : EReal)
      = (∑ D : Fin 14336, term (refX V0) (refC V0) (refS V0) s o D) + refB V0 o := by
  refine congrArg₂ (fun a b : EReal => a + b) ?_ (bias_apply _ s o)
  refine (stack_apply _ _ _ _ s o).trans ?_
  split_ifs with he
  · refine (dot_apply _ _ s _).trans (Finset.sum_congr rfl fun D _ => ?_)
    rw [low_weight]
    exact Cert.KernelIdeal.Gen.term_congr (refX V0) (refC V0) (refS V0) s o D _ _ _ _ rfl he.symm (Fin.ext (by show 2 * (o.val / 2) = o.val; omega)) rfl
  · refine (dot_apply _ _ s _).trans (Finset.sum_congr rfl fun D _ => ?_)
    rw [high_weight]
    exact Cert.KernelIdeal.Gen.term_congr (refX V0) (refC V0) (refS V0) s o D _ _ _ _ rfl (by omega) (Fin.ext (by show 2 * (o.val / 2) + 1 = o.val; omega)) rfl

end Cert.ReferenceIdeal.Entry

end
-- ==== Proof.Equation.lean ====
/- The kernel's result is the reference's, from memories that agree on the arguments. -/
module

public import proofs.«01_k».proof.Proof.RefSum
public import proofs.«01_k».proof.Defs

@[expose] public section

noncomputable section

namespace Cert.Proof

open Idealize.ShloMosaic hiding ix1 ix2 ix3 ix4
open Idealize.ShloMosaic.TcCoe Idealize.ShloMosaic.StableHlo Idealize.SL.Sem
open ValueIdx
open Cert.KernelIdeal.Gen (nib nf4 term part argX argC argS argB G5_apply)

/-- The seven steps' parts of a sum are the whole sum. -/
theorem parts_sum (f : Fin 14336 → EReal) :
    ∑ k : Fin 7, ∑ d : Fin 2048, f ⟨2048 * k.val + d.val, by omega⟩ = ∑ D : Fin 14336, f D := by
  rw [← Fintype.sum_prod_type' (fun (k : Fin 7) (d : Fin 2048) => f ⟨2048 * k.val + d.val, by omega⟩)]
  refine Fintype.sum_equiv (finProdFinEquiv (m := 7) (n := 2048)) _ _ fun x => congrArg f (Fin.ext ?_)
  show 2048 * x.1.val + x.2.val = x.2.val + 2048 * x.1.val
  omega

/-- The reference's result and the kernel's, from memories that agree on the arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Entry.refOut (launchContents m' c) = Cert.KernelIdeal.Value.G5 m c := by
  have eX : Cert.ReferenceIdeal.Entry.refX (launchContents m' c) = argX m c := by
    funext s D; exact congrFun h0 (ix2 s D)
  have eC : Cert.ReferenceIdeal.Entry.refC (launchContents m' c) = argC m c := by
    funext s D; exact congrFun h1 (ix2 s D)
  have eS : Cert.ReferenceIdeal.Entry.refS (launchContents m' c) = argS m c := by
    funext s D; exact congrFun h2 (ix2 s D)
  have eB : Cert.ReferenceIdeal.Entry.refB (launchContents m' c) = argB m c := by
    funext o; exact congrFun h3 (ix1 o)
  funext i
  have hi : i = ix2 (⟨(i 0).val, (i 0).isLt⟩ : Fin 256) (⟨(i 1).val, (i 1).isLt⟩ : Fin 4096) := by
    funext a
    match a with
    | 0 => rfl
    | 1 => rfl
  rw [hi]
  refine (Cert.ReferenceIdeal.Entry.ref_apply (launchContents m' c) _ _).trans (Eq.trans ?_ (G5_apply m c _ _).symm)
  rw [eX, eC, eS, eB]
  unfold part
  rw [parts_sum (fun D => term (argX m c) (argC m c) (argS m c) _ _ D)]

/-- Over the extended reals the kernel and the reference end with equal results. -/
theorem algebraic : Cert.algebraic_KernelIdeal_ReferenceIdeal := fun m g m' g' _ hag =>
  ⟨fun c => Cert.KernelIdeal.Value.G5 m c, Cert.KernelIdeal.Value.run m g,
    (θ_run Cert.ReferenceIdeal.defs _ _).mono
      (fun _ h c => ⟨(h c).1.trans (result_eq m m' c (hag c).1 (hag c).2.1 (hag c).2.2.1 (hag c).2.2.2), (h c).2⟩)
      (Cert.ReferenceIdeal.Value.run m' g')⟩

end Cert.Proof

end
-- ==== Proof.RotFrame.lean ====
/- The rotation as printed: its body runs without a fault from any contents, and so does the whole call. -/
module

public import proofs.«01_k».proof.Proof.Gen.Rotation.Frame
public import proofs.«01_k».proof.Proof.Gen.Rotation.Loops
public import proofs.«01_k».proof.Proof.Gen.Rotation.Points
public import Idealize.ShloMosaic.Lib.Claim

@[expose] public section

-- membership in a rectangle of production extents (`View.cover_of_tiled`): the elaborator's structural look
-- recurses once per coordinate of the long axes
set_option maxRecDepth 16384

noncomputable section

namespace Cert.Rotation.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Each window's current staging memref at point `t`, spelled as the pipeline passes it (`bodyAt0`), and its wholeness. -/
abbrev ms0_0 (t : Fin cfg0.N) : Memref sig .tc .vmem S128x496 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x32x32 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S512x128 .f32 := Memref.whole cc0_scratch0
abbrev scM0_1 : Memref sig .tc .vmem S32x32x128 .f32 := Memref.whole cc0_scratch1
abbrev scM0_2 : Memref sig .tc .vmem S32x32x128 .f32 := Memref.whole cc0_scratch2
abbrev scM0_3 : Memref sig .tc .vmem S32x32x128 .f32 := Memref.whole cc0_scratch3
abbrev scM0_4 : Memref sig .tc .vmem S512x128 .i32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: checking it walks past the default budget)
set_option maxHeartbeats 1996000 in
/-- The body's triple: on whole staging memrefs — the inputs' at their contents,
    the FORGOTTEN outputs' (2, 3) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x128 .i32) (harg9 : arg9.IsWhole)
    (x0 : Vec F S128x496 .f32) (x1 : Vec F S256x4096 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_rot i arg1 harg1 arg2 harg2 arg3 harg3 arg4 harg4 arg5 harg5 arg6 harg6 arg7 harg7 arg8 harg8 arg9 harg9) K := by
    intro E K
    simp only [cc0_rot_eq_skeleton]; unfold cc0_rot_skel
    simp only [k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-- The output windows this certificate FORGETS (2, 3): nothing reads what the kernel leaves in them, so nothing
    of it is named (Lib/Pipeline/Dat.lean `Dat.toRForget`). -/
def forgets0 : Fin 4 → Bool := fun w => w.val == 2 || w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .bf16 0#16) (iblk m c 1 t)
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves in an input's buffer, on the part inside the array: its block. -/
theorem cut0_0 (c : Dev nD) (t : Fin cfg0.N) : win0_0.cut (grid0.coords t) ((dats m 0 c).after 0 t) = iblk m c 0 t := win0_0.cut_fill _ _ _
theorem cut0_1 (c : Dev nD) (t : Fin cfg0.N) : win0_1.cut (grid0.coords t) ((dats m 0 c).after 1 t) = iblk m c 1 t := win0_1.cut_fill _ _ _

/-- Each input's buffer arrives holding its block on the part inside the array and anything past it. -/
theorem before0_0 (c : Dev nD) (t : Fin cfg0.N) (d) : (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = win0_1.fill (grid0.coords t) d (iblk m c 1 t) := by
  unfold Dat.before; rw [if_pos (fetch0_1 t)]; rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ (∃ d, owns (c : Thread nD τ) (ms0_1 t) fullShare (win0_1.fill (grid0.coords t) d (win0_1.cut (grid0.coords t) ((dats m 0 c).after 1 t))))
    ∗ (∃ d, owns (c : Thread nD τ) (ms0_2 t) fullShare d)
    ∗ (∃ d, owns (c : Thread nD τ) (ms0_3 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩⟩
  iapply ((kernelRun0_A c (grid0.coords t) _ _ _ _ _ _ _ _ _ _ _ _ _ _ _ _ _ _ (win0_0.fill (grid0.coords t) d0 (iblk m c 0 t)) (win0_1.fill (grid0.coords t) d1 (iblk m c 1 t))) Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]
  · iexists d0
    change _ ⊢ owns (c : Thread nD τ) (ms0_0 t) fullShare (win0_0.fill (grid0.coords t) d0 (win0_0.cut (grid0.coords t) ((dats m 0 c).after 0 t)))
    rw [cut0_0]
  isplitl [H1]
  · iexists d1
    change _ ⊢ owns (c : Thread nD τ) (ms0_1 t) fullShare (win0_1.fill (grid0.coords t) d1 (win0_1.cut (grid0.coords t) ((dats m 0 c).after 1 t)))
    rw [cut0_1]
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(Pipeline.RDat.FramePost.arr_in h.1 c 1 rfl).trans ((A_eq m c 1).trans (V_main_arg0 m c)),
      (Pipeline.RDat.FramePost.arr_in h.1 c 0 rfl).trans ((A_eq m c 0).trans (V_main_arg1 m c))⟩, h.2⟩) (run_main_quiescent m ρ)

end Cert.Rotation.Gen

end
-- ==== Proof.RotFrameIdeal.lean ====
/- The rotation over the extended reals: its body runs without a fault from any contents, and so does the whole call. -/
module

public import proofs.«01_k».proof.Proof.Gen.RotationIdeal.Frame
public import proofs.«01_k».proof.Proof.Gen.RotationIdeal.Loops
public import proofs.«01_k».proof.Proof.Gen.RotationIdeal.Points
public import Idealize.ShloMosaic.Lib.Claim

@[expose] public section

-- membership in a rectangle of production extents (`View.cover_of_tiled`): the elaborator's structural look
-- recurses once per coordinate of the long axes
set_option maxRecDepth 16384

noncomputable section

namespace Cert.RotationIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Each window's current staging memref at point `t`, spelled as the pipeline passes it (`bodyAt0`), and its wholeness. -/
abbrev ms0_0 (t : Fin cfg0.N) : Memref sig .tc .vmem S128x496 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x32x32 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S512x128 .f32 := Memref.whole cc0_scratch0
abbrev scM0_1 : Memref sig .tc .vmem S32x32x128 .f32 := Memref.whole cc0_scratch1
abbrev scM0_2 : Memref sig .tc .vmem S32x32x128 .f32 := Memref.whole cc0_scratch2
abbrev scM0_3 : Memref sig .tc .vmem S32x32x128 .f32 := Memref.whole cc0_scratch3
abbrev scM0_4 : Memref sig .tc .vmem S512x2x128 .bf16 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

-- (the run's proof term is large: checking it walks past the default budget)
set_option maxHeartbeats 1996000 in
/-- The body's triple: on whole staging memrefs — the inputs' at their contents,
    the FORGOTTEN outputs' (2, 3) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x2x128 .bf16) (harg9 : arg9.IsWhole)
    (x0 : Vec F S128x496 .f32) (x1 : Vec F S256x4096 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_rot i arg1 harg1 arg2 harg2 arg3 harg3 arg4 harg4 arg5 harg5 arg6 harg6 arg7 harg7 arg8 harg8 arg9 harg9) K := by
    intro E K
    simp only [cc0_rot_eq_skeleton]; unfold cc0_rot_skel
    simp only [k0_part42_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-- The output windows this certificate FORGETS (2, 3): nothing reads what the kernel leaves in them, so nothing
    of it is named (Lib/Pipeline/Dat.lean `Dat.toRForget`). -/
def forgets0 : Fin 4 → Bool := fun w => w.val == 2 || w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .bf16 0#16) (iblk m c 1 t)
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves in an input's buffer, on the part inside the array: its block. -/
theorem cut0_0 (c : Dev nD) (t : Fin cfg0.N) : win0_0.cut (grid0.coords t) ((dats m 0 c).after 0 t) = iblk m c 0 t := win0_0.cut_fill _ _ _
theorem cut0_1 (c : Dev nD) (t : Fin cfg0.N) : win0_1.cut (grid0.coords t) ((dats m 0 c).after 1 t) = iblk m c 1 t := win0_1.cut_fill _ _ _

/-- Each input's buffer arrives holding its block on the part inside the array and anything past it. -/
theorem before0_0 (c : Dev nD) (t : Fin cfg0.N) (d) : (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = win0_1.fill (grid0.coords t) d (iblk m c 1 t) := by
  unfold Dat.before; rw [if_pos (fetch0_1 t)]; rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ (∃ d, owns (c : Thread nD τ) (ms0_1 t) fullShare (win0_1.fill (grid0.coords t) d (win0_1.cut (grid0.coords t) ((dats m 0 c).after 1 t))))
    ∗ (∃ d, owns (c : Thread nD τ) (ms0_2 t) fullShare d)
    ∗ (∃ d, owns (c : Thread nD τ) (ms0_3 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩⟩
  iapply ((kernelRun0_A c (grid0.coords t) _ _ _ _ _ _ _ _ _ _ _ _ _ _ _ _ _ _ (win0_0.fill (grid0.coords t) d0 (iblk m c 0 t)) (win0_1.fill (grid0.coords t) d1 (iblk m c 1 t))) Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]
  · iexists d0
    change _ ⊢ owns (c : Thread nD τ) (ms0_0 t) fullShare (win0_0.fill (grid0.coords t) d0 (win0_0.cut (grid0.coords t) ((dats m 0 c).after 0 t)))
    rw [cut0_0]
  isplitl [H1]
  · iexists d1
    change _ ⊢ owns (c : Thread nD τ) (ms0_1 t) fullShare (win0_1.fill (grid0.coords t) d1 (win0_1.cut (grid0.coords t) ((dats m 0 c).after 1 t)))
    rw [cut0_1]
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(Pipeline.RDat.FramePost.arr_in h.1 c 1 rfl).trans ((A_eq m c 1).trans (V_main_arg0 m c)),
      (Pipeline.RDat.FramePost.arr_in h.1 c 0 rfl).trans ((A_eq m c 0).trans (V_main_arg1 m c))⟩, h.2⟩) (run_main_quiescent m ρ)

end Cert.RotationIdeal.Gen

end
-- ==== Proof.RotClaims.lean ====
/- The frames of the rotation's call, as printed and over the extended reals, and the correctness of the rewrites between
   the two. -/
module

public import proofs.«01_k».proof.Defs
public import proofs.«01_k».proof.Proof.Gen.Rotation
public import proofs.«01_k».proof.Proof.Gen.RotationIdeal
public import proofs.«01_k».proof.Proof.RotFrame
public import proofs.«01_k».proof.Proof.RotFrameIdeal
public import Idealize.ShloMosaic.Lib.Bf16Pair
public import Idealize.ShloMosaic.Lib.Bf16PairInverse
public import Idealize.ShloMosaic.PureOps.IdealRules

@[expose] public section

noncomputable section

namespace Cert.Proof

open Idealize.ShloMosaic Idealize.SL.Sem

/-- The rotation on floating-point bits terminates without a fault, leaves its arguments unchanged and every semaphore
    at zero. -/
theorem frame_rotation : Cert.quiescent_Rotation := fun m g _ => Cert.Rotation.Gen.frame m g

/-- The rotation read over the extended reals terminates without a fault, leaves its arguments unchanged and every
    semaphore at zero. -/
theorem frame_rotationIdeal : Cert.quiescent_RotationIdeal := fun m g _ =>
  Cert.RotationIdeal.Gen.frame (F := Ideal) m g

/-- The rotation over the extended reals differs from the printed one only where pairs of bfloat16 values are packed in
    32-bit words, taken apart, selected or read as values again; at each such place the rewrite is sound. -/
theorem preserves_rotation : Cert.preserves_Rotation_RotationIdeal :=
  ⟨IdealRules.bf16_pair.bufferStatement _ _, IdealRules.bf16_pair.packStatement _, IdealRules.bf16_pair.statement _ _,
    IdealRules.bf16_pair.statement _ _, IdealRules.bf16_pair.statement _ _, IdealRules.bf16_pair.packStatement _,
    IdealRules.bf16_pair.statement _ _, IdealRules.bf16_pair.statement _ _, IdealRules.bf16_pair.selectZeroStatement _,
    IdealRules.bf16_pair.statement _ _⟩

end Cert.Proof

end
-- ==== Proof.RotLoad.lean ====
/- Loads and products of the small matrices the first call keeps in its scratch memory, entry by entry. -/
module

public import proofs.«01_k».proof.Proof.Gen.RotationIdeal.Loops
public import Idealize.ShloMosaic.Lib.Pipeline.FrameBody
public import Idealize.ShloMosaic.Lib.Pipeline.ReadBack
public import Idealize.ShloMosaic.Lib.Pipeline.ValueKit.Geometry
public import Idealize.ShloMosaic.Lib.Pointwise.ElementwiseCore
public import Idealize.ShloMosaic.PureOps.Ideal
public import Idealize.ShloMosaic.Lib.Ring
@[expose] public section

set_option maxRecDepth 16384

noncomputable section

namespace Cert.RotationIdeal.Gen

open Idealize.ShloMosaic Idealize.ShloMosaic.TcCoe Idealize.ShloMosaic.Tactic

open ValueIdx

/-- A 32 × 32 × 128 array's entry `(a, b, n)` by the numbers of its row and column. -/
def at3 (D : S32x32x128.Idx → EReal) (a b : Nat) (n : Fin 128) : EReal := D (ix3 (Fin.ofNat 32 a) (Fin.ofNat 32 b) n)

theorem add_at (a b : FVec Ideal S32x128 .f32) (x : S32x128.Idx) :
    (addf (F := Ideal) a b x : EReal) = (a x : EReal) + (b x : EReal) := rfl

theorem prod_at (A : FVec Ideal S1x1x128 .f32) (B : FVec Ideal S1x32x128 .f32) (c1 : S1x1x128.ShapeCasts S1x128)
    (c2 : S1x128.Broadcasts S32x128) (c3 : S1x32x128.ShapeCasts S32x128) (j : Fin 32) (n : Fin 128) :
    (mulf (F := Ideal) (broadcastTo S32x128 (shapeCast S1x128 A c1) c2) (shapeCast S32x128 B c3) (ix2 j n) : EReal)
      = (A (ix3 0 0 n) : EReal) * (B (ix3 0 j n) : EReal) := by
  show (broadcastTo S32x128 (shapeCast S1x128 A c1) c2 (ix2 j n) : EReal) * (shapeCast S32x128 B c3 (ix2 j n) : EReal) = _
  rw [broadcastTo_apply _ _ _ (ix2 (0 : Fin 1) n) (by intro c; match c with | ⟨0, _⟩ => rfl | ⟨1, _⟩ => rfl)]
  rw [shapeCast_apply _ c1 (ix2 (0 : Fin 1) n) (ix3 0 0 n)
    ((Shape.rowMajor_val_three _).trans ((by show (0 * 1 + 0) * 128 + n.val = 0 * 128 + n.val; omega) |> fun h => Eq.trans h (Shape.rowMajor_val_two _).symm))]
  rw [shapeCast_apply _ c3 (ix2 j n) (ix3 0 j n)
    ((Shape.rowMajor_val_three _).trans ((by show (0 * 32 + j.val) * 128 + n.val = j.val * 128 + n.val; omega) |> fun h => Eq.trans h (Shape.rowMajor_val_two _).symm))]

theorem cast_row_at (B : FVec Ideal S1x32x128 .f32) (c3 : S1x32x128.ShapeCasts S32x128) (j : Fin 32) (n : Fin 128) :
    (shapeCast S32x128 B c3 (ix2 j n) : EReal) = (B (ix3 0 j n) : EReal) := by
  rw [shapeCast_apply _ c3 (ix2 j n) (ix3 0 j n)
    ((Shape.rowMajor_val_three _).trans ((by show (0 * 32 + j.val) * 128 + n.val = j.val * 128 + n.val; omega) |> fun h => Eq.trans h (Shape.rowMajor_val_two _).symm))]

theorem cast_up_at (B : FVec Ideal S32x128 .f32) (c3 : S32x128.ShapeCasts S1x32x128) (z : Fin 1) (j : Fin 32) (n : Fin 128) :
    (shapeCast S1x32x128 B c3 (ix3 z j n) : EReal) = (B (ix2 j n) : EReal) := by
  rw [shapeCast_apply _ c3 (ix3 z j n) (ix2 j n)
    ((Shape.rowMajor_val_two _).trans ((by have := z.isLt; show j.val * 128 + n.val = (z.val * 32 + j.val) * 128 + n.val; omega) |> fun h => Eq.trans h (Shape.rowMajor_val_three _).symm))]

theorem col_at (mr : Memref sig .tc .vmem S32x32x128 .f32) (X : BufTy.Contents (Elt Ideal) mr.view.ty) (o : Fin 3 → Nat) (a b : Nat)
    (ho : o = ![a, b, 0]) (inb : ∀ e, o e + S1x1x128.size e ≤ S32x32x128.size e) (n : Fin 128) :
    (View.readAt (Elt Ideal) mr.view (Rect.unit (s := S32x32x128) o S1x1x128.size inb).toLoadRect X (ix3 0 0 n) : EReal)
      = at3 (mr.view.read (Elt Ideal) X) a b n := by
  subst ho
  have h0 : a + 1 ≤ 32 := inb 0
  have h1 : b + 1 ≤ 32 := inb 1
  rw [View.readAt_apply]
  unfold at3
  refine congrArg _ (funext fun e => Fin.ext ?_)
  match e with
  | ⟨0, _⟩ => show a + 1 * 0 = a % 32; omega
  | ⟨1, _⟩ => show b + 1 * 0 = b % 32; omega
  | ⟨2, _⟩ => show 0 + 1 * n.val = n.val; omega

theorem row_at (mr : Memref sig .tc .vmem S32x32x128 .f32) (X : BufTy.Contents (Elt Ideal) mr.view.ty) (o : Fin 3 → Nat) (a : Nat)
    (ho : o = ![a, 0, 0]) (inb : ∀ e, o e + S1x32x128.size e ≤ S32x32x128.size e) (j : Fin 32) (n : Fin 128) :
    (View.readAt (Elt Ideal) mr.view (Rect.unit (s := S32x32x128) o S1x32x128.size inb).toLoadRect X (ix3 0 j n) : EReal)
      = at3 (mr.view.read (Elt Ideal) X) a j.val n := by
  subst ho
  have h0 : a + 1 ≤ 32 := inb 0
  have := j.isLt
  rw [View.readAt_apply]
  unfold at3
  refine congrArg _ (funext fun e => Fin.ext ?_)
  match e with
  | ⟨0, _⟩ => show a + 1 * 0 = a % 32; omega
  | ⟨1, _⟩ => show 0 + 1 * j.val = j.val % 32; omega
  | ⟨2, _⟩ => show 0 + 1 * n.val = n.val; omega

/-- The product of two 32 × 32 matrices, entry by entry, in each of the 128 lanes. -/
def mm (A B : S32x32x128.Idx → EReal) (a b : Nat) (n : Fin 128) : EReal := ∑ k ∈ Finset.range 32, at3 A a k n * at3 B k b n

theorem scale_at (z : Ideal .f32) (b : FVec Ideal S32x128 .f32) (x : S32x128.Idx) :
    (mulf (F := Ideal) (broadcast S32x128 z) b x : EReal) = (z : EReal) * (b x : EReal) := rfl

theorem at3_val (D : S32x32x128.Idx → EReal) (y : S32x32x128.Idx) : at3 D (y 0).val (y 1).val (y 2) = D y := by
  have h0 : (y 0).val < 32 := (y 0).isLt
  have h1 : (y 1).val < 32 := (y 1).isLt
  unfold at3
  refine congrArg D (funext fun e => ?_)
  match e with
  | ⟨0, _⟩ => exact Fin.ext (Nat.mod_eq_of_lt h0)
  | ⟨1, _⟩ => exact Fin.ext (Nat.mod_eq_of_lt h1)
  | ⟨2, _⟩ => rfl

/-- The square of a 32 × 32 matrix in every lane. -/
def sqV (D : S32x32x128.Idx → EReal) : S32x32x128.Idx → EReal := fun y => mm D D (y 0).val (y 1).val (y 2)

/-- The square plus the matrix. -/
def sqPlus (D : S32x32x128.Idx → EReal) : S32x32x128.Idx → EReal := fun y => mm D D (y 0).val (y 1).val (y 2) + D y

/-- The number 2 as the programs write it. -/
def two : EReal := (Scalar.ofBits (F := Ideal) .f32 0x40000000#32 : EReal)

/-- Entry `(i, j)` of the series in lane `n`: twice the sum of `D8` and the product of `D7` and `D8`. -/
def serE (D7 D8 : S32x32x128.Idx → EReal) (a b : Nat) (n : Fin 128) : EReal := two * (at3 D8 a b n + mm D7 D8 a b n)

/-- The series as the pairs' buffer holds it: word row `32 i + j`, half `p`, lane `n` is entry `(2 i + p, j)`. -/
def serW (D7 D8 : S32x32x128.Idx → EReal) : S512x2x128.Idx → EReal := fun y =>
  serE D7 D8 (2 * ((y 0).val / 32) + (y 1).val) ((y 0).val % 32) (y 2)

end Cert.RotationIdeal.Gen

end
-- ==== Proof.RotSquare.lean ====
/- The squaring loop: what it leaves in its two buffers. -/
module

public import proofs.«01_k».proof.Proof.Gen.RotationIdeal.Loops
public import Idealize.ShloMosaic.Lib.Pipeline.FrameBody
public import Idealize.ShloMosaic.Lib.Pipeline.ReadBack
public import Idealize.ShloMosaic.Lib.Pipeline.ValueKit.Geometry
public import Idealize.ShloMosaic.Lib.Pointwise.ElementwiseCore
public import Idealize.ShloMosaic.PureOps.Ideal
public import Idealize.ShloMosaic.Lib.Ring
public import proofs.«01_k».proof.Proof.RotLoad
@[expose] public section

set_option maxRecDepth 16384

noncomputable section

namespace Cert.RotationIdeal.Gen

open Idealize.ShloMosaic Idealize.ShloMosaic.TcCoe Idealize.ShloMosaic.Tactic

open ValueIdx

set_option maxHeartbeats 4000000 in
theorem square_row (𝒱 : Variants) (c : Dev nD) (bd : Option 𝒱.V) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x2x128 .bf16) (harg9 : arg9.IsWhole) (v401 : Vec Ideal S1x128 .f32) (v402 : Vec Ideal S1x1x128 .f32) (X_arg6 : BufTy.Contents (Elt Ideal) arg6.view.ty) (k : Fin k0_t1_loop.trips) (j : Fin 32) (n : Fin 128) :
    (trip_k0_t1.sl.r_12 (F := Ideal) arg6 X_arg6 k (ix2 j n) : EReal)
      = mm (arg6.view.read (Elt Ideal) X_arg6) (arg6.view.read (Elt Ideal) X_arg6) k.val j.val n := by
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, k0_pay2, k0_pay3, k0_pay4, k0_pay5, k0_pay6, k0_pay7, k0_pay8, k0_pay9, k0_pay10, k0_pay11, k0_pay12, k0_pay13, add_at, prod_at]
  simp only [col_at arg6 X_arg6 _ k.val 0 (k0_off1_eq k), col_at arg6 X_arg6 _ k.val 1 (k0_off2_eq k), col_at arg6 X_arg6 _ k.val 2 (k0_off3_eq k), col_at arg6 X_arg6 _ k.val 3 (k0_off4_eq k), col_at arg6 X_arg6 _ k.val 4 (k0_off5_eq k), col_at arg6 X_arg6 _ k.val 5 (k0_off6_eq k), col_at arg6 X_arg6 _ k.val 6 (k0_off7_eq k), col_at arg6 X_arg6 _ k.val 7 (k0_off8_eq k), col_at arg6 X_arg6 _ k.val 8 (k0_off9_eq k), col_at arg6 X_arg6 _ k.val 9 (k0_off10_eq k), col_at arg6 X_arg6 _ k.val 10 (k0_off11_eq k), col_at arg6 X_arg6 _ k.val 11 (k0_off12_eq k), col_at arg6 X_arg6 _ k.val 12 (k0_off13_eq k), col_at arg6 X_arg6 _ k.val 13 (k0_off14_eq k), col_at arg6 X_arg6 _ k.val 14 (k0_off15_eq k), col_at arg6 X_arg6 _ k.val 15 (k0_off16_eq k), col_at arg6 X_arg6 _ k.val 16 (k0_off17_eq k), col_at arg6 X_arg6 _ k.val 17 (k0_off18_eq k), col_at arg6 X_arg6 _ k.val 18 (k0_off19_eq k), col_at arg6 X_arg6 _ k.val 19 (k0_off20_eq k), col_at arg6 X_arg6 _ k.val 20 (k0_off21_eq k), col_at arg6 X_arg6 _ k.val 21 (k0_off22_eq k), col_at arg6 X_arg6 _ k.val 22 (k0_off23_eq k), col_at arg6 X_arg6 _ k.val 23 (k0_off24_eq k), col_at arg6 X_arg6 _ k.val 24 (k0_off25_eq k), col_at arg6 X_arg6 _ k.val 25 (k0_off26_eq k), col_at arg6 X_arg6 _ k.val 26 (k0_off27_eq k), col_at arg6 X_arg6 _ k.val 27 (k0_off28_eq k), col_at arg6 X_arg6 _ k.val 28 (k0_off29_eq k), col_at arg6 X_arg6 _ k.val 29 (k0_off30_eq k), col_at arg6 X_arg6 _ k.val 30 (k0_off31_eq k), col_at arg6 X_arg6 _ k.val 31 (k0_off32_eq k)]
  simp only [row_at arg6 X_arg6 ![0, 0, 0] 0 rfl, row_at arg6 X_arg6 ![1, 0, 0] 1 rfl, row_at arg6 X_arg6 ![2, 0, 0] 2 rfl, row_at arg6 X_arg6 ![3, 0, 0] 3 rfl, row_at arg6 X_arg6 ![4, 0, 0] 4 rfl, row_at arg6 X_arg6 ![5, 0, 0] 5 rfl, row_at arg6 X_arg6 ![6, 0, 0] 6 rfl, row_at arg6 X_arg6 ![7, 0, 0] 7 rfl, row_at arg6 X_arg6 ![8, 0, 0] 8 rfl, row_at arg6 X_arg6 ![9, 0, 0] 9 rfl, row_at arg6 X_arg6 ![10, 0, 0] 10 rfl, row_at arg6 X_arg6 ![11, 0, 0] 11 rfl, row_at arg6 X_arg6 ![12, 0, 0] 12 rfl, row_at arg6 X_arg6 ![13, 0, 0] 13 rfl, row_at arg6 X_arg6 ![14, 0, 0] 14 rfl, row_at arg6 X_arg6 ![15, 0, 0] 15 rfl, row_at arg6 X_arg6 ![16, 0, 0] 16 rfl, row_at arg6 X_arg6 ![17, 0, 0] 17 rfl, row_at arg6 X_arg6 ![18, 0, 0] 18 rfl, row_at arg6 X_arg6 ![19, 0, 0] 19 rfl, row_at arg6 X_arg6 ![20, 0, 0] 20 rfl, row_at arg6 X_arg6 ![21, 0, 0] 21 rfl, row_at arg6 X_arg6 ![22, 0, 0] 22 rfl, row_at arg6 X_arg6 ![23, 0, 0] 23 rfl, row_at arg6 X_arg6 ![24, 0, 0] 24 rfl, row_at arg6 X_arg6 ![25, 0, 0] 25 rfl, row_at arg6 X_arg6 ![26, 0, 0] 26 rfl, row_at arg6 X_arg6 ![27, 0, 0] 27 rfl, row_at arg6 X_arg6 ![28, 0, 0] 28 rfl, row_at arg6 X_arg6 ![29, 0, 0] 29 rfl, row_at arg6 X_arg6 ![30, 0, 0] 30 rfl, row_at arg6 X_arg6 ![31, 0, 0] 31 rfl]
  unfold mm
  simp only [Finset.sum_range_succ, Finset.sum_range_zero, zero_add]

/-- One trip writes one row of the square and one row of the square plus the matrix. -/
theorem square_pieces (𝒱 : Variants) (c : Dev nD) (bd : Option 𝒱.V) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x2x128 .bf16) (harg9 : arg9.IsWhole) (v401 : Vec Ideal S1x128 .f32) (v402 : Vec Ideal S1x1x128 .f32) (X_arg6 : BufTy.Contents (Elt Ideal) arg6.view.ty) (k : Fin k0_t1_loop.trips) :
    View.PiecesOf (Val := Elt Ideal) (e := .f32) (sqV (arg6.view.read (Elt Ideal) X_arg6)) (tripL_k0_t1 (F := Ideal) 𝒱 c bd i arg1 harg1 arg2 harg2 arg3 harg3 arg4 harg4 arg5 harg5 arg6 harg6 arg7 harg7 arg8 harg8 arg9 harg9 v401 v402 X_arg6 k).1
    ∧ View.PiecesOf (Val := Elt Ideal) (e := .f32) (sqPlus (arg6.view.read (Elt Ideal) X_arg6)) (tripL_k0_t1 (F := Ideal) 𝒱 c bd i arg1 harg1 arg2 harg2 arg3 harg3 arg4 harg4 arg5 harg5 arg6 harg6 arg7 harg7 arg8 harg8 arg9 harg9 v401 v402 X_arg6 k).2 := by
  have hrow := square_row 𝒱 c bd i arg1 harg1 arg2 harg2 arg3 harg3 arg4 harg4 arg5 harg5 arg6 harg6 arg7 harg7 arg8 harg8 arg9 harg9 v401 v402 X_arg6 k
  unfold tripL_k0_t1 trip_k0_t1
  dsimp only
  refine ⟨⟨?_, trivial⟩, ⟨?_, trivial⟩⟩
  · intro x
    dsimp only
    have e0 : (((Rect.unit (s := S32x32x128) (k0_off33 k) ![1, 32, 128] (k0_off33_inb k)).emb x) 0).val = k0_off33 k 0 + (x 0).val := ValueKit.rect_emb_unit_val _ _ _ _ _
    have e1 : (((Rect.unit (s := S32x32x128) (k0_off33 k) ![1, 32, 128] (k0_off33_inb k)).emb x) 1).val = k0_off33 k 1 + (x 1).val := ValueKit.rect_emb_unit_val _ _ _ _ _
    have e2 : (((Rect.unit (s := S32x32x128) (k0_off33 k) ![1, 32, 128] (k0_off33_inb k)).emb x) 2).val = k0_off33 k 2 + (x 2).val := ValueKit.rect_emb_unit_val _ _ _ _ _
    generalize ((Rect.unit (s := S32x32x128) (k0_off33 k) ![1, 32, 128] (k0_off33_inb k)).emb x) = y at e0 e1 e2 ⊢
    have o0 : k0_off33 k 0 = k.val := congrFun (k0_off33_eq k) 0
    have o1 : k0_off33 k 1 = 0 := congrFun (k0_off33_eq k) 1
    have o2 : k0_off33 k 2 = 0 := congrFun (k0_off33_eq k) 2
    obtain ⟨z, j, n, rfl⟩ : ∃ (z : Fin 1) (j : Fin 32) (n : Fin 128), x = ix3 z j n := ⟨x 0, x 1, x 2, by funext c; match c with | ⟨0, _⟩ => rfl | ⟨1, _⟩ => rfl | ⟨2, _⟩ => rfl⟩
    unfold k0_pay143
    refine (cast_up_at _ _ z j n).trans ((hrow j n).trans ?_)
    have hz := z.isLt
    replace e0 : (y 0).val = k0_off33 k 0 + z.val := e0
    replace e1 : (y 1).val = k0_off33 k 1 + j.val := e1
    replace e2 : (y 2).val = k0_off33 k 2 + n.val := e2
    unfold sqV
    rw [show (y 0).val = k.val by omega, show (y 1).val = j.val by omega, show y 2 = n from Fin.ext (by omega)]
  · intro x
    dsimp only
    have e0 : (((Rect.unit (s := S32x32x128) (k0_off33 k) ![1, 32, 128] (k0_off33_inb k)).emb x) 0).val = k0_off33 k 0 + (x 0).val := ValueKit.rect_emb_unit_val _ _ _ _ _
    have e1 : (((Rect.unit (s := S32x32x128) (k0_off33 k) ![1, 32, 128] (k0_off33_inb k)).emb x) 1).val = k0_off33 k 1 + (x 1).val := ValueKit.rect_emb_unit_val _ _ _ _ _
    have e2 : (((Rect.unit (s := S32x32x128) (k0_off33 k) ![1, 32, 128] (k0_off33_inb k)).emb x) 2).val = k0_off33 k 2 + (x 2).val := ValueKit.rect_emb_unit_val _ _ _ _ _
    generalize ((Rect.unit (s := S32x32x128) (k0_off33 k) ![1, 32, 128] (k0_off33_inb k)).emb x) = y at e0 e1 e2 ⊢
    have o0 : k0_off33 k 0 = k.val := congrFun (k0_off33_eq k) 0
    have o1 : k0_off33 k 1 = 0 := congrFun (k0_off33_eq k) 1
    have o2 : k0_off33 k 2 = 0 := congrFun (k0_off33_eq k) 2
    obtain ⟨z, j, n, rfl⟩ : ∃ (z : Fin 1) (j : Fin 32) (n : Fin 128), x = ix3 z j n := ⟨x 0, x 1, x 2, by funext c; match c with | ⟨0, _⟩ => rfl | ⟨1, _⟩ => rfl | ⟨2, _⟩ => rfl⟩
    unfold k0_pay144
    refine (cast_up_at _ _ z j n).trans ((add_at _ _ _).trans ?_)
    rw [cast_row_at, row_at arg6 X_arg6 _ k.val (k0_off33_eq k), hrow j n]
    have hz := z.isLt
    replace e0 : (y 0).val = k0_off33 k 0 + z.val := e0
    replace e1 : (y 1).val = k0_off33 k 1 + j.val := e1
    replace e2 : (y 2).val = k0_off33 k 2 + n.val := e2
    unfold sqPlus
    rw [← at3_val (arg6.view.read (Elt Ideal) X_arg6) y, show (y 0).val = k.val by omega, show (y 1).val = j.val by omega, show y 2 = n from Fin.ext (by omega)]

theorem square_loop (𝒱 : Variants) (c : Dev nD) (bd : Option 𝒱.V) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x2x128 .bf16) (harg9 : arg9.IsWhole) (v401 : Vec Ideal S1x128 .f32) (v402 : Vec Ideal S1x1x128 .f32) (X_arg6 : BufTy.Contents (Elt Ideal) arg6.view.ty) : ∀ n : Nat, n ≤ k0_t1_loop.trips →
    (∀ p ∈ (pb_k0_t1 (F := Ideal) 𝒱 c bd i arg1 harg1 arg2 harg2 arg3 harg3 arg4 harg4 arg5 harg5 arg6 harg6 arg7 harg7 arg8 harg8 arg9 harg9 v401 v402 X_arg6 n).1, ∀ x : p.1.shape.Idx, p.2 x = sqV (arg6.view.read (Elt Ideal) X_arg6) (p.1.emb x))
    ∧ (∀ p ∈ (pb_k0_t1 (F := Ideal) 𝒱 c bd i arg1 harg1 arg2 harg2 arg3 harg3 arg4 harg4 arg5 harg5 arg6 harg6 arg7 harg7 arg8 harg8 arg9 harg9 v401 v402 X_arg6 n).2, ∀ x : p.1.shape.Idx, p.2 x = sqPlus (arg6.view.read (Elt Ideal) X_arg6) (p.1.emb x)) := by
  intro n
  induction n with
  | zero => intro _; exact ⟨fun p hp => absurd hp List.not_mem_nil, fun p hp => absurd hp List.not_mem_nil⟩
  | succ n ih =>
    intro hn
    have h := pb_k0_t1_succ (F := Ideal) 𝒱 c bd i arg1 harg1 arg2 harg2 arg3 harg3 arg4 harg4 arg5 harg5 arg6 harg6 arg7 harg7 arg8 harg8 arg9 harg9 v401 v402 X_arg6 ⟨n, hn⟩
    have hp2 := square_pieces 𝒱 c bd i arg1 harg1 arg2 harg2 arg3 harg3 arg4 harg4 arg5 harg5 arg6 harg6 arg7 harg7 arg8 harg8 arg9 harg9 v401 v402 X_arg6 ⟨n, hn⟩
    have ih := ih (Nat.le_of_lt hn)
    rw [h]
    refine ⟨fun p hp x => ?_, fun p hp x => ?_⟩
    · rcases List.mem_append.mp hp with hp | hp
      · exact View.PiecesOf.mem hp2.1 p hp x
      · exact ih.1 p hp x
    · rcases List.mem_append.mp hp with hp | hp
      · exact View.PiecesOf.mem hp2.2 p hp x
      · exact ih.2 p hp x

theorem square_read1 (𝒱 : Variants) (c : Dev nD) (bd : Option 𝒱.V) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x2x128 .bf16) (harg9 : arg9.IsWhole) (v401 : Vec Ideal S1x128 .f32) (v402 : Vec Ideal S1x1x128 .f32) (X_arg6 : BufTy.Contents (Elt Ideal) arg6.view.ty) (f : BufTy.Contents (Elt Ideal) arg7.view.ty) :
    arg7.view.read (Elt Ideal) (arg7.view.writes (Elt Ideal) f (pb_k0_t1 (F := Ideal) 𝒱 c bd i arg1 harg1 arg2 harg2 arg3 harg3 arg4 harg4 arg5 harg5 arg6 harg6 arg7 harg7 arg8 harg8 arg9 harg9 v401 v402 X_arg6 (Scf.trips k0_t1_loop.lb k0_t1_loop.ub k0_t1_loop.st)).1)
      = sqV (arg6.view.read (Elt Ideal) X_arg6) := by
  funext y
  have hc := View.cover_of_tiledL (pb_k0_t1 (F := Ideal) 𝒱 c bd i arg1 harg1 arg2 harg2 arg3 harg3 arg4 harg4 arg5 harg5 arg6 harg6 arg7 harg7 arg8 harg8 arg9 harg9 v401 v402 X_arg6 (Scf.trips k0_t1_loop.lb k0_t1_loop.ub k0_t1_loop.st)).1 S1x32x128.size (by sl_kernel_rfl) y
  refine (View.read_writes_apply_eq_canon arg7.view f y _ hc).trans ?_
  have h := View.canon_append_of_pieces (sqV (arg6.view.read (Elt Ideal) X_arg6)) [] _ (square_loop 𝒱 c bd i arg1 harg1 arg2 harg2 arg3 harg3 arg4 harg4 arg5 harg5 arg6 harg6 arg7 harg7 arg8 harg8 arg9 harg9 v401 v402 X_arg6 _ (Nat.le_refl _)).1 y hc
  rwa [List.append_nil] at h

theorem square_read2 (𝒱 : Variants) (c : Dev nD) (bd : Option 𝒱.V) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x2x128 .bf16) (harg9 : arg9.IsWhole) (v401 : Vec Ideal S1x128 .f32) (v402 : Vec Ideal S1x1x128 .f32) (X_arg6 : BufTy.Contents (Elt Ideal) arg6.view.ty) (f : BufTy.Contents (Elt Ideal) arg8.view.ty) :
    arg8.view.read (Elt Ideal) (arg8.view.writes (Elt Ideal) f (pb_k0_t1 (F := Ideal) 𝒱 c bd i arg1 harg1 arg2 harg2 arg3 harg3 arg4 harg4 arg5 harg5 arg6 harg6 arg7 harg7 arg8 harg8 arg9 harg9 v401 v402 X_arg6 (Scf.trips k0_t1_loop.lb k0_t1_loop.ub k0_t1_loop.st)).2)
      = sqPlus (arg6.view.read (Elt Ideal) X_arg6) := by
  funext y
  have hc := View.cover_of_tiledL (pb_k0_t1 (F := Ideal) 𝒱 c bd i arg1 harg1 arg2 harg2 arg3 harg3 arg4 harg4 arg5 harg5 arg6 harg6 arg7 harg7 arg8 harg8 arg9 harg9 v401 v402 X_arg6 (Scf.trips k0_t1_loop.lb k0_t1_loop.ub k0_t1_loop.st)).2 S1x32x128.size (by sl_kernel_rfl) y
  refine (View.read_writes_apply_eq_canon arg8.view f y _ hc).trans ?_
  have h := View.canon_append_of_pieces (sqPlus (arg6.view.read (Elt Ideal) X_arg6)) [] _ (square_loop 𝒱 c bd i arg1 harg1 arg2 harg2 arg3 harg3 arg4 harg4 arg5 harg5 arg6 harg6 arg7 harg7 arg8 harg8 arg9 harg9 v401 v402 X_arg6 _ (Nat.le_refl _)).2 y hc
  rwa [List.append_nil] at h

end Cert.RotationIdeal.Gen

end
-- ==== Proof.RotSeries.lean ====
/- The loop of the series: what it leaves in the pairs' buffer. -/
module

public import proofs.«01_k».proof.Proof.Gen.RotationIdeal.Loops
public import Idealize.ShloMosaic.Lib.Pipeline.FrameBody
public import Idealize.ShloMosaic.Lib.Pipeline.ReadBack
public import Idealize.ShloMosaic.Lib.Pipeline.ValueKit.Geometry
public import Idealize.ShloMosaic.Lib.Pointwise.ElementwiseCore
public import Idealize.ShloMosaic.PureOps.Ideal
public import Idealize.ShloMosaic.Lib.Ring
public import Idealize.ShloMosaic.Lib.Pointwise
public import proofs.«01_k».proof.Proof.RotLoad
@[expose] public section

set_option maxRecDepth 16384

noncomputable section

namespace Cert.RotationIdeal.Gen

open Idealize.ShloMosaic hiding ix1 ix2 ix3 ix4

open ValueIdx

theorem interleave3 (lo hi : S32x1x128.Idx → EReal) (h : S32x2x128.Bitcasts 16 S32x1x128 32) (j : Fin 32) (p : Fin 2) (n : Fin 128) :
    interleaveRows S32x2x128 lo hi h (ix3 j p n) = if p.val = 0 then lo (ix3 j 0 n) else hi (ix3 j 0 n) := by
  match p with
  | 0 =>
    pointwise
    rfl
  | 1 =>
    pointwise
    rfl

theorem cast_mid_at (B : FVec Ideal S32x128 .bf16) (c3 : S32x128.ShapeCasts S32x1x128) (j : Fin 32) (n : Fin 128) :
    (shapeCast S32x1x128 B c3 (ix3 j 0 n) : EReal) = (B (ix2 j n) : EReal) := by
  rw [shapeCast_apply _ c3 (ix3 j 0 n) (ix2 j n)
    ((Shape.rowMajor_val_two _).trans ((by show j.val * 128 + n.val = (j.val * 1 + 0) * 128 + n.val; omega) |> fun h => Eq.trans h (Shape.rowMajor_val_three _).symm))]

theorem trunc_at (B : FVec Ideal S32x128 .f32) (c : FTy.bits .bf16 < FTy.bits .f32) (x : S32x128.Idx) :
    (truncf (F := Ideal) .bf16 B c x : EReal) = (B x : EReal) := rfl

set_option maxHeartbeats 8000000 in
theorem series_lo (𝒱 : Variants) (c : Dev nD) (bd : Option 𝒱.V) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x2x128 .bf16) (harg9 : arg9.IsWhole) (v401 : Vec Ideal S1x128 .f32) (v402 : Vec Ideal S1x1x128 .f32) (X_arg7 : BufTy.Contents (Elt Ideal) arg7.view.ty) (X_arg8 : BufTy.Contents (Elt Ideal) arg8.view.ty) (k : Fin k0_t2_loop.trips) (j : Fin 32) (n : Fin 128) :
    (trip_k0_t2.sl.r_13 (F := Ideal) arg7 arg8 X_arg7 X_arg8 k (ix2 j n) : EReal) = serE (arg7.view.read (Elt Ideal) X_arg7) (arg8.view.read (Elt Ideal) X_arg8) (2 * k.val) j.val n := by
  simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, add_at, prod_at, scale_at, cast_row_at]
  simp only [col_at arg7 X_arg7 _ (2 * k.val) 0 (k0_off34_eq k), col_at arg7 X_arg7 _ (2 * k.val) 1 (k0_off35_eq k), col_at arg7 X_arg7 _ (2 * k.val) 2 (k0_off36_eq k), col_at arg7 X_arg7 _ (2 * k.val) 3 (k0_off37_eq k), col_at arg7 X_arg7 _ (2 * k.val) 4 (k0_off38_eq k), col_at arg7 X_arg7 _ (2 * k.val) 5 (k0_off39_eq k), col_at arg7 X_arg7 _ (2 * k.val) 6 (k0_off40_eq k), col_at arg7 X_arg7 _ (2 * k.val) 7 (k0_off41_eq k), col_at arg7 X_arg7 _ (2 * k.val) 8 (k0_off42_eq k), col_at arg7 X_arg7 _ (2 * k.val) 9 (k0_off43_eq k), col_at arg7 X_arg7 _ (2 * k.val) 10 (k0_off44_eq k), col_at arg7 X_arg7 _ (2 * k.val) 11 (k0_off45_eq k), col_at arg7 X_arg7 _ (2 * k.val) 12 (k0_off46_eq k), col_at arg7 X_arg7 _ (2 * k.val) 13 (k0_off47_eq k), col_at arg7 X_arg7 _ (2 * k.val) 14 (k0_off48_eq k), col_at arg7 X_arg7 _ (2 * k.val) 15 (k0_off49_eq k), col_at arg7 X_arg7 _ (2 * k.val) 16 (k0_off50_eq k), col_at arg7 X_arg7 _ (2 * k.val) 17 (k0_off51_eq k), col_at arg7 X_arg7 _ (2 * k.val) 18 (k0_off52_eq k), col_at arg7 X_arg7 _ (2 * k.val) 19 (k0_off53_eq k), col_at arg7 X_arg7 _ (2 * k.val) 20 (k0_off54_eq k), col_at arg7 X_arg7 _ (2 * k.val) 21 (k0_off55_eq k), col_at arg7 X_arg7 _ (2 * k.val) 22 (k0_off56_eq k), col_at arg7 X_arg7 _ (2 * k.val) 23 (k0_off57_eq k), col_at arg7 X_arg7 _ (2 * k.val) 24 (k0_off58_eq k), col_at arg7 X_arg7 _ (2 * k.val) 25 (k0_off59_eq k), col_at arg7 X_arg7 _ (2 * k.val) 26 (k0_off60_eq k), col_at arg7 X_arg7 _ (2 * k.val) 27 (k0_off61_eq k), col_at arg7 X_arg7 _ (2 * k.val) 28 (k0_off62_eq k), col_at arg7 X_arg7 _ (2 * k.val) 29 (k0_off63_eq k), col_at arg7 X_arg7 _ (2 * k.val) 30 (k0_off64_eq k), col_at arg7 X_arg7 _ (2 * k.val) 31 (k0_off65_eq k)]
  simp only [row_at arg8 X_arg8 ![0, 0, 0] 0 rfl, row_at arg8 X_arg8 ![1, 0, 0] 1 rfl, row_at arg8 X_arg8 ![2, 0, 0] 2 rfl, row_at arg8 X_arg8 ![3, 0, 0] 3 rfl, row_at arg8 X_arg8 ![4, 0, 0] 4 rfl, row_at arg8 X_arg8 ![5, 0, 0] 5 rfl, row_at arg8 X_arg8 ![6, 0, 0] 6 rfl, row_at arg8 X_arg8 ![7, 0, 0] 7 rfl, row_at arg8 X_arg8 ![8, 0, 0] 8 rfl, row_at arg8 X_arg8 ![9, 0, 0] 9 rfl, row_at arg8 X_arg8 ![10, 0, 0] 10 rfl, row_at arg8 X_arg8 ![11, 0, 0] 11 rfl, row_at arg8 X_arg8 ![12, 0, 0] 12 rfl, row_at arg8 X_arg8 ![13, 0, 0] 13 rfl, row_at arg8 X_arg8 ![14, 0, 0] 14 rfl, row_at arg8 X_arg8 ![15, 0, 0] 15 rfl, row_at arg8 X_arg8 ![16, 0, 0] 16 rfl, row_at arg8 X_arg8 ![17, 0, 0] 17 rfl, row_at arg8 X_arg8 ![18, 0, 0] 18 rfl, row_at arg8 X_arg8 ![19, 0, 0] 19 rfl, row_at arg8 X_arg8 ![20, 0, 0] 20 rfl, row_at arg8 X_arg8 ![21, 0, 0] 21 rfl, row_at arg8 X_arg8 ![22, 0, 0] 22 rfl, row_at arg8 X_arg8 ![23, 0, 0] 23 rfl, row_at arg8 X_arg8 ![24, 0, 0] 24 rfl, row_at arg8 X_arg8 ![25, 0, 0] 25 rfl, row_at arg8 X_arg8 ![26, 0, 0] 26 rfl, row_at arg8 X_arg8 ![27, 0, 0] 27 rfl, row_at arg8 X_arg8 ![28, 0, 0] 28 rfl, row_at arg8 X_arg8 ![29, 0, 0] 29 rfl, row_at arg8 X_arg8 ![30, 0, 0] 30 rfl, row_at arg8 X_arg8 ![31, 0, 0] 31 rfl, row_at arg8 X_arg8 _ (2 * k.val) (k0_off66_eq k)]
  unfold serE mm two
  simp only [Finset.sum_range_succ, Finset.sum_range_zero, zero_add]

set_option maxHeartbeats 8000000 in
theorem series_hi (𝒱 : Variants) (c : Dev nD) (bd : Option 𝒱.V) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x2x128 .bf16) (harg9 : arg9.IsWhole) (v401 : Vec Ideal S1x128 .f32) (v402 : Vec Ideal S1x1x128 .f32) (X_arg7 : BufTy.Contents (Elt Ideal) arg7.view.ty) (X_arg8 : BufTy.Contents (Elt Ideal) arg8.view.ty) (k : Fin k0_t2_loop.trips) (j : Fin 32) (n : Fin 128) (w) (inb1) (inb2) :
    (mulf (F := Ideal) (broadcast S32x128 (Scalar.ofBits .f32 0x40000000#32)) (addf (F := Ideal)
      (shapeCast S32x128 (View.readAt (Elt Ideal) arg8.view (Rect.unit (s := S32x32x128) (k0_off99 k) S1x32x128.size inb2).toLoadRect X_arg8) shapeCasts_S1x32x128_S32x128)
      (addf (F := Ideal) (trip_k0_t2.sl.r_27 (F := Ideal) arg7 arg8 X_arg7 X_arg8 k)
        (mulf (F := Ideal) (broadcastTo S32x128 (trip_k0_t2.sl.r_28 (F := Ideal) arg7 X_arg7 k) w)
          (shapeCast S32x128 (View.readAt (Elt Ideal) arg8.view (Rect.unit (s := S32x32x128) ![31, 0, 0] S1x32x128.size inb1).toLoadRect X_arg8) shapeCasts_S1x32x128_S32x128)))) (ix2 j n) : EReal)
      = serE (arg7.view.read (Elt Ideal) X_arg7) (arg8.view.read (Elt Ideal) X_arg8) (2 * k.val + 1) j.val n := by
  simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, add_at, prod_at, scale_at, cast_row_at]
  simp only [col_at arg7 X_arg7 _ (2 * k.val + 1) 0 (k0_off67_eq k), col_at arg7 X_arg7 _ (2 * k.val + 1) 1 (k0_off68_eq k), col_at arg7 X_arg7 _ (2 * k.val + 1) 2 (k0_off69_eq k), col_at arg7 X_arg7 _ (2 * k.val + 1) 3 (k0_off70_eq k), col_at arg7 X_arg7 _ (2 * k.val + 1) 4 (k0_off71_eq k), col_at arg7 X_arg7 _ (2 * k.val + 1) 5 (k0_off72_eq k), col_at arg7 X_arg7 _ (2 * k.val + 1) 6 (k0_off73_eq k), col_at arg7 X_arg7 _ (2 * k.val + 1) 7 (k0_off74_eq k), col_at arg7 X_arg7 _ (2 * k.val + 1) 8 (k0_off75_eq k), col_at arg7 X_arg7 _ (2 * k.val + 1) 9 (k0_off76_eq k), col_at arg7 X_arg7 _ (2 * k.val + 1) 10 (k0_off77_eq k), col_at arg7 X_arg7 _ (2 * k.val + 1) 11 (k0_off78_eq k), col_at arg7 X_arg7 _ (2 * k.val + 1) 12 (k0_off79_eq k), col_at arg7 X_arg7 _ (2 * k.val + 1) 13 (k0_off80_eq k), col_at arg7 X_arg7 _ (2 * k.val + 1) 14 (k0_off81_eq k), col_at arg7 X_arg7 _ (2 * k.val + 1) 15 (k0_off82_eq k), col_at arg7 X_arg7 _ (2 * k.val + 1) 16 (k0_off83_eq k), col_at arg7 X_arg7 _ (2 * k.val + 1) 17 (k0_off84_eq k), col_at arg7 X_arg7 _ (2 * k.val + 1) 18 (k0_off85_eq k), col_at arg7 X_arg7 _ (2 * k.val + 1) 19 (k0_off86_eq k), col_at arg7 X_arg7 _ (2 * k.val + 1) 20 (k0_off87_eq k), col_at arg7 X_arg7 _ (2 * k.val + 1) 21 (k0_off88_eq k), col_at arg7 X_arg7 _ (2 * k.val + 1) 22 (k0_off89_eq k), col_at arg7 X_arg7 _ (2 * k.val + 1) 23 (k0_off90_eq k), col_at arg7 X_arg7 _ (2 * k.val + 1) 24 (k0_off91_eq k), col_at arg7 X_arg7 _ (2 * k.val + 1) 25 (k0_off92_eq k), col_at arg7 X_arg7 _ (2 * k.val + 1) 26 (k0_off93_eq k), col_at arg7 X_arg7 _ (2 * k.val + 1) 27 (k0_off94_eq k), col_at arg7 X_arg7 _ (2 * k.val + 1) 28 (k0_off95_eq k), col_at arg7 X_arg7 _ (2 * k.val + 1) 29 (k0_off96_eq k), col_at arg7 X_arg7 _ (2 * k.val + 1) 30 (k0_off97_eq k), col_at arg7 X_arg7 _ (2 * k.val + 1) 31 (k0_off98_eq k)]
  simp only [row_at arg8 X_arg8 ![0, 0, 0] 0 rfl, row_at arg8 X_arg8 ![1, 0, 0] 1 rfl, row_at arg8 X_arg8 ![2, 0, 0] 2 rfl, row_at arg8 X_arg8 ![3, 0, 0] 3 rfl, row_at arg8 X_arg8 ![4, 0, 0] 4 rfl, row_at arg8 X_arg8 ![5, 0, 0] 5 rfl, row_at arg8 X_arg8 ![6, 0, 0] 6 rfl, row_at arg8 X_arg8 ![7, 0, 0] 7 rfl, row_at arg8 X_arg8 ![8, 0, 0] 8 rfl, row_at arg8 X_arg8 ![9, 0, 0] 9 rfl, row_at arg8 X_arg8 ![10, 0, 0] 10 rfl, row_at arg8 X_arg8 ![11, 0, 0] 11 rfl, row_at arg8 X_arg8 ![12, 0, 0] 12 rfl, row_at arg8 X_arg8 ![13, 0, 0] 13 rfl, row_at arg8 X_arg8 ![14, 0, 0] 14 rfl, row_at arg8 X_arg8 ![15, 0, 0] 15 rfl, row_at arg8 X_arg8 ![16, 0, 0] 16 rfl, row_at arg8 X_arg8 ![17, 0, 0] 17 rfl, row_at arg8 X_arg8 ![18, 0, 0] 18 rfl, row_at arg8 X_arg8 ![19, 0, 0] 19 rfl, row_at arg8 X_arg8 ![20, 0, 0] 20 rfl, row_at arg8 X_arg8 ![21, 0, 0] 21 rfl, row_at arg8 X_arg8 ![22, 0, 0] 22 rfl, row_at arg8 X_arg8 ![23, 0, 0] 23 rfl, row_at arg8 X_arg8 ![24, 0, 0] 24 rfl, row_at arg8 X_arg8 ![25, 0, 0] 25 rfl, row_at arg8 X_arg8 ![26, 0, 0] 26 rfl, row_at arg8 X_arg8 ![27, 0, 0] 27 rfl, row_at arg8 X_arg8 ![28, 0, 0] 28 rfl, row_at arg8 X_arg8 ![29, 0, 0] 29 rfl, row_at arg8 X_arg8 ![30, 0, 0] 30 rfl, row_at arg8 X_arg8 ![31, 0, 0] 31 rfl, row_at arg8 X_arg8 _ (2 * k.val + 1) (k0_off99_eq k)]
  unfold serE mm two
  simp only [Finset.sum_range_succ, Finset.sum_range_zero, zero_add]

/-- One trip writes two rows of the series. -/
theorem series_pieces (𝒱 : Variants) (c : Dev nD) (bd : Option 𝒱.V) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x2x128 .bf16) (harg9 : arg9.IsWhole) (v401 : Vec Ideal S1x128 .f32) (v402 : Vec Ideal S1x1x128 .f32) (X_arg7 : BufTy.Contents (Elt Ideal) arg7.view.ty) (X_arg8 : BufTy.Contents (Elt Ideal) arg8.view.ty) (k : Fin k0_t2_loop.trips) :
    View.PiecesOf (Val := Elt Ideal) (e := .bf16) (serW (arg7.view.read (Elt Ideal) X_arg7) (arg8.view.read (Elt Ideal) X_arg8)) (tripL_k0_t2 (F := Ideal) 𝒱 c bd i arg1 harg1 arg2 harg2 arg3 harg3 arg4 harg4 arg5 harg5 arg6 harg6 arg7 harg7 arg8 harg8 arg9 harg9 v401 v402 X_arg7 X_arg8 k) := by
  have hlo := series_lo 𝒱 c bd i arg1 harg1 arg2 harg2 arg3 harg3 arg4 harg4 arg5 harg5 arg6 harg6 arg7 harg7 arg8 harg8 arg9 harg9 v401 v402 X_arg7 X_arg8 k
  have hhi := series_hi 𝒱 c bd i arg1 harg1 arg2 harg2 arg3 harg3 arg4 harg4 arg5 harg5 arg6 harg6 arg7 harg7 arg8 harg8 arg9 harg9 v401 v402 X_arg7 X_arg8 k
  unfold tripL_k0_t2 trip_k0_t2
  dsimp only
  refine ⟨?_, trivial⟩
  intro x
  dsimp only
  have e0 : (((Rect.unit (s := S512x2x128) (k0_off100 k) ![32, 2, 128] (k0_off100_inb k)).emb x) 0).val = k0_off100 k 0 + (x 0).val := ValueKit.rect_emb_unit_val _ _ _ _ _
  have e1 : (((Rect.unit (s := S512x2x128) (k0_off100 k) ![32, 2, 128] (k0_off100_inb k)).emb x) 1).val = k0_off100 k 1 + (x 1).val := ValueKit.rect_emb_unit_val _ _ _ _ _
  have e2 : (((Rect.unit (s := S512x2x128) (k0_off100 k) ![32, 2, 128] (k0_off100_inb k)).emb x) 2).val = k0_off100 k 2 + (x 2).val := ValueKit.rect_emb_unit_val _ _ _ _ _
  generalize ((Rect.unit (s := S512x2x128) (k0_off100 k) ![32, 2, 128] (k0_off100_inb k)).emb x) = y at e0 e1 e2 ⊢
  have o0 : k0_off100 k 0 = 32 * k.val := congrFun (k0_off100_eq k) 0
  have o1 : k0_off100 k 1 = 0 := congrFun (k0_off100_eq k) 1
  have o2 : k0_off100 k 2 = 0 := congrFun (k0_off100_eq k) 2
  obtain ⟨j, p, n, rfl⟩ : ∃ (j : Fin 32) (p : Fin 2) (n : Fin 128), x = ix3 j p n := ⟨x 0, x 1, x 2, by funext c; match c with | ⟨0, _⟩ => rfl | ⟨1, _⟩ => rfl | ⟨2, _⟩ => rfl⟩
  replace e0 : (y 0).val = k0_off100 k 0 + j.val := e0
  replace e1 : (y 1).val = k0_off100 k 1 + p.val := e1
  replace e2 : (y 2).val = k0_off100 k 2 + n.val := e2
  have hj := j.isLt
  have hp := p.isLt
  have f0 : (y 0).val / 32 = k.val := by omega
  have f1 : (y 0).val % 32 = j.val := by omega
  have f2 : (y 1).val = p.val := by omega
  unfold serW
  rw [f0, f1, f2, show y 2 = n from Fin.ext (by omega)]
  unfold k0_pay145
  refine (interleave3 _ _ _ j p n).trans ?_
  split_ifs with hpz
  · rw [hpz]
    exact (cast_mid_at _ _ j n).trans (hlo j n)
  · rw [show p.val = 1 by omega]
    exact (cast_mid_at _ _ j n).trans (hhi j n _ _ _)

theorem series_loop (𝒱 : Variants) (c : Dev nD) (bd : Option 𝒱.V) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x2x128 .bf16) (harg9 : arg9.IsWhole) (v401 : Vec Ideal S1x128 .f32) (v402 : Vec Ideal S1x1x128 .f32) (X_arg7 : BufTy.Contents (Elt Ideal) arg7.view.ty) (X_arg8 : BufTy.Contents (Elt Ideal) arg8.view.ty) : ∀ n : Nat, n ≤ k0_t2_loop.trips →
    (∀ p ∈ (pb_k0_t2 (F := Ideal) 𝒱 c bd i arg1 harg1 arg2 harg2 arg3 harg3 arg4 harg4 arg5 harg5 arg6 harg6 arg7 harg7 arg8 harg8 arg9 harg9 v401 v402 X_arg7 X_arg8 n), ∀ x : p.1.shape.Idx, p.2 x = serW (arg7.view.read (Elt Ideal) X_arg7) (arg8.view.read (Elt Ideal) X_arg8) (p.1.emb x)) := by
  intro n
  induction n with
  | zero => intro _ p hp; exact absurd hp List.not_mem_nil
  | succ n ih =>
    intro hn
    have h := pb_k0_t2_succ (F := Ideal) 𝒱 c bd i arg1 harg1 arg2 harg2 arg3 harg3 arg4 harg4 arg5 harg5 arg6 harg6 arg7 harg7 arg8 harg8 arg9 harg9 v401 v402 X_arg7 X_arg8 ⟨n, hn⟩
    have hp2 := series_pieces 𝒱 c bd i arg1 harg1 arg2 harg2 arg3 harg3 arg4 harg4 arg5 harg5 arg6 harg6 arg7 harg7 arg8 harg8 arg9 harg9 v401 v402 X_arg7 X_arg8 ⟨n, hn⟩
    have ih := ih (Nat.le_of_lt hn)
    rw [h]
    intro p hp x
    rcases List.mem_append.mp hp with hp | hp
    · exact View.PiecesOf.mem hp2 p hp x
    · exact ih p hp x

theorem series_read (𝒱 : Variants) (c : Dev nD) (bd : Option 𝒱.V) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x2x128 .bf16) (harg9 : arg9.IsWhole) (v401 : Vec Ideal S1x128 .f32) (v402 : Vec Ideal S1x1x128 .f32) (X_arg7 : BufTy.Contents (Elt Ideal) arg7.view.ty) (X_arg8 : BufTy.Contents (Elt Ideal) arg8.view.ty) (f : BufTy.Contents (Elt Ideal) arg9.view.ty) :
    arg9.view.read (Elt Ideal) (arg9.view.writes (Elt Ideal) f (pb_k0_t2 (F := Ideal) 𝒱 c bd i arg1 harg1 arg2 harg2 arg3 harg3 arg4 harg4 arg5 harg5 arg6 harg6 arg7 harg7 arg8 harg8 arg9 harg9 v401 v402 X_arg7 X_arg8 (Scf.trips k0_t2_loop.lb k0_t2_loop.ub k0_t2_loop.st)))
      = serW (arg7.view.read (Elt Ideal) X_arg7) (arg8.view.read (Elt Ideal) X_arg8) := by
  funext y
  have hc := View.cover_of_tiledL (pb_k0_t2 (F := Ideal) 𝒱 c bd i arg1 harg1 arg2 harg2 arg3 harg3 arg4 harg4 arg5 harg5 arg6 harg6 arg7 harg7 arg8 harg8 arg9 harg9 v401 v402 X_arg7 X_arg8 (Scf.trips k0_t2_loop.lb k0_t2_loop.ub k0_t2_loop.st)) S32x2x128.size (by sl_kernel_rfl) y
  refine (View.read_writes_apply_eq_canon arg9.view f y _ hc).trans ?_
  have h := View.canon_append_of_pieces (serW (arg7.view.read (Elt Ideal) X_arg7) (arg8.view.read (Elt Ideal) X_arg8)) [] _ (series_loop 𝒱 c bd i arg1 harg1 arg2 harg2 arg3 harg3 arg4 harg4 arg5 harg5 arg6 harg6 arg7 harg7 arg8 harg8 arg9 harg9 v401 v402 X_arg7 X_arg8 _ (Nat.le_refl _)) y hc
  rwa [List.append_nil] at h

end Cert.RotationIdeal.Gen

end
-- ==== Proof.RotStage.lean ====
/- The rotation's antisymmetric matrices: the rows of the triangle's entries, one after another, stored above the diagonal,
   their negatives below it and zeros on it. -/
module

public import proofs.«01_k».proof.Proof.RotLoad
public import Idealize.ShloMosaic.Lib.Pointwise
public import Idealize.ShloMosaic.Lib.Pipeline.CanonAppend
public import Idealize.ShloMosaic.Lib.Pipeline.FrameBody

@[expose] public section

noncomputable section

namespace Cert.RotationIdeal.Gen

open Idealize.ShloMosaic hiding ix1 ix2 ix3 ix4
open Idealize.ShloMosaic.TcCoe Idealize.ShloMosaic.Tactic
open ValueIdx

/-- Where row `i` of the strict upper triangle begins among its 496 entries. -/
def tri (i : Nat) : Nat := i * 31 - i * (i - 1) / 2

/-- Entry `(i, j)` of the antisymmetric matrix with upper triangle `t`. -/
def qE (t : Nat → EReal) (i j : Nat) : EReal :=
  if i < j then t (tri i + (j - i - 1)) else if j < i then 0 - t (tri j + (i - j - 1)) else 0

/-- The antisymmetric matrices of all lanes, lane `n` with upper triangle `T · n`. -/
def qV (T : Nat → Fin 128 → EReal) : S32x32x128.Idx → EReal := fun y => qE (fun k => T k (y 2)) (y 0).val (y 1).val

theorem tri_lt : ∀ i : Fin 32, ∀ j : Fin 32, i.val < j.val → tri i.val + (j.val - i.val - 1) < 496 := by decide

/-- Only the first 496 entries matter. -/
theorem qV_congr (T T' : Nat → Fin 128 → EReal) (h : ∀ k, k < 496 → ∀ n, T k n = T' k n) : qV T = qV T' := by
  funext y
  unfold qV qE
  by_cases hij : (y 0).val < (y 1).val
  · rw [if_pos hij, if_pos hij]; exact h _ (tri_lt (y 0) (y 1) hij) _
  · rw [if_neg hij, if_neg hij]
    by_cases hji : (y 1).val < (y 0).val
    · rw [if_pos hji, if_pos hji]; exact congrArg (fun z : EReal => 0 - z) (h _ (tri_lt (y 1) (y 0) hji) _)
    · rw [if_neg hji, if_neg hji]

/-- A piece agrees with `qV T`: the statement about one store. -/
theorem diag_piece (T : Nat → Fin 128 → EReal) (b : Nat) (h : S1x128.ShapeCasts S1x1x128)
    (inb : ∀ a, (![b, b, 0] : Fin 3 → Nat) a + S1x1x128.size a ≤ S32x32x128.size a) (x : S1x1x128.Idx) :
    (shapeCast S1x1x128 (broadcast S1x128 (Scalar.ofBits (F := Ideal) .f32 0x00000000#32)) h x : EReal)
      = qV T ((Rect.unit (s := S32x32x128) ![b, b, 0] S1x1x128.size inb).emb x) := by
  have h0 : (x 0).val < 1 := (x 0).isLt
  have h1 : (x 1).val < 1 := (x 1).isLt
  have e0 : ((Rect.unit (s := S32x32x128) ![b, b, 0] S1x1x128.size inb).emb x 0).val = b + 1 * (x 0).val := rfl
  have e1 : ((Rect.unit (s := S32x32x128) ![b, b, 0] S1x1x128.size inb).emb x 1).val = b + 1 * (x 1).val := rfl
  unfold qV qE
  rw [if_neg (by rw [e0, e1]; omega), if_neg (by rw [e0, e1]; omega)]
  show (Scalar.ofBits (F := Ideal) .f32 0x00000000#32 : EReal) = 0
  simp

theorem row_piece (T : Nat → Fin 128 → EReal) (L b b1 o : Nat) (hb : b1 = b + 1) (ho : o = tri b)
    (v : FVec Ideal ⟨2, ![L, 128]⟩ .f32) (hv : ∀ (a : Fin L) (n : Fin 128), (v (ix2 a n) : EReal) = T (o + a.val) n)
    (h : (⟨2, ![L, 128]⟩ : Shape).ShapeCasts ⟨3, ![1, L, 128]⟩)
    (inb : ∀ a, (![b, b1, 0] : Fin 3 → Nat) a + (![1, L, 128] : Fin 3 → Nat) a ≤ S32x32x128.size a) (x : (⟨3, ![1, L, 128]⟩ : Shape).Idx) :
    (shapeCast ⟨3, ![1, L, 128]⟩ v h x : EReal)
      = qV T ((Rect.unit (s := S32x32x128) ![b, b1, 0] ![1, L, 128] inb).emb x) := by
  subst hb ho
  have h0 : (x 0).val < 1 := (x 0).isLt
  have e0 : ((Rect.unit (s := S32x32x128) ![b, b + 1, 0] ![1, L, 128] inb).emb x 0).val = b + 1 * (x 0).val := rfl
  have e1 : ((Rect.unit (s := S32x32x128) ![b, b + 1, 0] ![1, L, 128] inb).emb x 1).val = (b + 1) + 1 * (x 1).val := rfl
  have e2 : (Rect.unit (s := S32x32x128) ![b, b + 1, 0] ![1, L, 128] inb).emb x 2 = x 2 :=
    Fin.ext (by show 0 + 1 * (x 2).val = (x 2).val; omega)
  unfold qV qE
  rw [if_pos (by rw [e0, e1]; omega), e0, e1, e2]
  rw [shapeCast_apply _ h x (ix2 (x 1) (x 2)) ((Shape.rowMajor_val_two _).trans
    ((by show (x 1).val * 128 + (x 2).val = ((x 0).val * L + (x 1).val) * 128 + (x 2).val; rw [show (x 0).val = 0 by omega]; omega) |> fun h => Eq.trans h (Shape.rowMajor_val_three _).symm))]
  refine (hv (x 1) (x 2)).trans ?_
  have : tri (b + 1 * (x 0).val) + (b + 1 + 1 * (x 1).val - (b + 1 * (x 0).val) - 1) = tri b + (x 1).val := by
    rw [show b + 1 * (x 0).val = b by omega]; omega
  rw [this]

theorem col_piece (T : Nat → Fin 128 → EReal) (L b b1 o : Nat) (hb : b1 = b + 1) (ho : o = tri b)
    (v : FVec Ideal ⟨2, ![L, 128]⟩ .f32) (hv : ∀ (a : Fin L) (n : Fin 128), (v (ix2 a n) : EReal) = T (o + a.val) n)
    (h : (⟨2, ![L, 128]⟩ : Shape).ShapeCasts ⟨3, ![L, 1, 128]⟩)
    (inb : ∀ a, (![b1, b, 0] : Fin 3 → Nat) a + (![L, 1, 128] : Fin 3 → Nat) a ≤ S32x32x128.size a) (x : (⟨3, ![L, 1, 128]⟩ : Shape).Idx) :
    (shapeCast ⟨3, ![L, 1, 128]⟩ (subf (broadcast ⟨2, ![L, 128]⟩ (Scalar.ofBits (F := Ideal) .f32 0x00000000#32)) v) h x : EReal)
      = qV T ((Rect.unit (s := S32x32x128) ![b1, b, 0] ![L, 1, 128] inb).emb x) := by
  subst hb ho
  have h0 : (x 1).val < 1 := (x 1).isLt
  have e0 : ((Rect.unit (s := S32x32x128) ![b + 1, b, 0] ![L, 1, 128] inb).emb x 0).val = (b + 1) + 1 * (x 0).val := rfl
  have e1 : ((Rect.unit (s := S32x32x128) ![b + 1, b, 0] ![L, 1, 128] inb).emb x 1).val = b + 1 * (x 1).val := rfl
  have e2 : (Rect.unit (s := S32x32x128) ![b + 1, b, 0] ![L, 1, 128] inb).emb x 2 = x 2 :=
    Fin.ext (by show 0 + 1 * (x 2).val = (x 2).val; omega)
  unfold qV qE
  rw [if_neg (by rw [e0, e1]; omega), if_pos (by rw [e0, e1]; omega), e0, e1, e2]
  rw [shapeCast_apply _ h x (ix2 (x 0) (x 2)) ((Shape.rowMajor_val_two _).trans
    ((by show (x 0).val * 128 + (x 2).val = ((x 0).val * 1 + (x 1).val) * 128 + (x 2).val; omega) |> fun h => Eq.trans h (Shape.rowMajor_val_three _).symm))]
  show (Scalar.ofBits (F := Ideal) .f32 0x00000000#32 : EReal) - (v (ix2 (x 0) (x 2)) : EReal) = _
  rw [hv (x 0) (x 2)]
  have : tri (b + 1 * (x 1).val) + (b + 1 + 1 * (x 0).val - (b + 1 * (x 1).val) - 1) = tri b + (x 0).val := by
    rw [show b + 1 * (x 1).val = b by omega]; omega
  rw [this]
  simp

/-- A load of rows of a whole array just stored reads the stored rows. -/
theorem read_rows (mr : Memref sig .tc .vmem S512x128 .f32) (w : S512x128.Idx → Elt Ideal .f32)
    (inb0 : ∀ a, (![0, 0] : Fin 2 → Nat) a + S512x128.size a ≤ S512x128.size a) (L o : Nat)
    (inb : ∀ a, (![o, 0] : Fin 2 → Nat) a + (![L, 128] : Fin 2 → Nat) a ≤ S512x128.size a) (a : Fin L) (n : Fin 128) :
    (mr.view.readCov [⟨Rect.unit (s := S512x128) ![0, 0] S512x128.size inb0, w⟩]
        (Rect.unit (s := S512x128) ![o, 0] ![L, 128] inb).toLoadRect (ix2 a n) : EReal)
      = w (ix2 (Fin.ofNat 512 (o + a.val)) n) := by
  have hL : o + L ≤ 512 := inb 0
  have := a.isLt
  rw [View.readCov_eq_canon']
  have he : (Rect.unit (s := S512x128) ![o, 0] ![L, 128] inb).toLoadRect.idx (ix2 a n)
      = (Rect.unit (s := S512x128) ![0, 0] S512x128.size inb0).emb (ix2 (Fin.ofNat 512 (o + a.val)) n) := by
    funext e
    match e with
    | ⟨0, _⟩ => exact Fin.ext (by show o + 1 * a.val = 0 + 1 * ((o + a.val) % 512); omega)
    | ⟨1, _⟩ => exact Fin.ext (by show 0 + 1 * n.val = 0 + 1 * n.val; rfl)
  show View.canon _ ((Rect.unit (s := S512x128) ![o, 0] ![L, 128] inb).toLoadRect.idx (ix2 a n)) = _
  rw [he, View.canon_cons_emb]

/-- A list of pieces, one by one. -/
theorem cons_pieces {S : Shape} {e : EltTy} (G : S.Idx → Elt Ideal e) (r : Rect S) (v : r.shape.Idx → Elt Ideal e) (L : List (View.Piece (Elt Ideal) S e))
    (h : ∀ x : r.shape.Idx, v x = G (r.emb x)) (hL : ∀ p ∈ L, ∀ x : p.1.shape.Idx, p.2 x = G (p.1.emb x)) :
    ∀ p ∈ ((⟨r, v⟩ : View.Piece (Elt Ideal) S e) :: L), ∀ x : p.1.shape.Idx, p.2 x = G (p.1.emb x) :=
  List.forall_mem_cons.2 ⟨h, hL⟩

/-- A load of the whole block of triangles reads its contents. -/
theorem load_tri (mr : Memref sig .tc .vmem S128x496 .f32) (X : BufTy.Contents (Elt Ideal) mr.view.ty)
    (inb : ∀ e, (![0, 0] : Fin 2 → Nat) e + S128x496.size e ≤ S128x496.size e) (y : S128x496.Idx) :
    View.readAt (Elt Ideal) mr.view (Rect.unit (s := S128x496) ![0, 0] S128x496.size inb).toLoadRect X y
      = mr.view.read (Elt Ideal) X y := by
  rw [View.readAt_apply]
  refine congrArg _ (funext fun e => Fin.ext ?_)
  match e with
  | ⟨0, _⟩ => show 0 + 1 * (y 0).val = (y 0).val; omega
  | ⟨1, _⟩ => show 0 + 1 * (y 1).val = (y 1).val; omega

/-- The triangle's entries as the scratch array holds them: entry `k` of lane `n` in row `k`. -/
theorem entries_at (X : FVec Ideal S128x496 .f32) (k : Nat) (hk : k < 496) (n : Fin 128) :
    (k0_pay41 (F := Ideal) X (ix2 (Fin.ofNat 512 k) n) : EReal) = X (ix2 n (Fin.ofNat 496 k)) := by
  unfold k0_pay41
  pointwise
  have hm : k % 512 = k := Nat.mod_eq_of_lt (by omega)
  refine (dif_pos (show k % 512 < 496 by omega)).trans (congrArg X (funext fun e => Fin.ext ?_))
  match e with
  | ⟨0, _⟩ => rfl
  | ⟨1, _⟩ => show k % 512 = k % 496; omega

end Cert.RotationIdeal.Gen

end
-- ==== Proof.RotFinish.lean ====
/- The output block: the series, transposed out of the buffer of pairs, as each of the sixteen stores writes it. -/
module

public import proofs.«01_k».proof.Proof.Gen.RotationIdeal.Loops
public import Idealize.ShloMosaic.Lib.Pipeline.FrameBody
public import Idealize.ShloMosaic.Lib.Pipeline.ReadBack
public import Idealize.ShloMosaic.Lib.Pipeline.ValueKit.Geometry
public import Idealize.ShloMosaic.Lib.Pointwise.ElementwiseCore
public import Idealize.ShloMosaic.PureOps.Ideal
public import Idealize.ShloMosaic.Lib.Ring
public import Idealize.ShloMosaic.Lib.Pointwise
public import proofs.«01_k».proof.Proof.RotLoad
@[expose] public section

set_option maxRecDepth 16384

noncomputable section

namespace Cert.RotationIdeal.Gen

open Idealize.ShloMosaic hiding ix1 ix2 ix3 ix4
open Idealize.ShloMosaic hiding ix1 ix2 ix3 ix4

open ValueIdx

theorem interleave_out (lo hi : S128x1x32.Idx → EReal) (h : S128x2x32.Bitcasts 16 S128x1x32 32) (n : Fin 128) (p : Fin 2) (j : Fin 32) :
    interleaveRows S128x2x32 lo hi h (ix3 n p j) = if p.val = 0 then lo (ix3 n 0 j) else hi (ix3 n 0 j) := by
  match p with
  | 0 =>
    pointwise
    rfl
  | 1 =>
    pointwise
    rfl

theorem parity_words (p : Fin 2) (x : S512x2x128.Idx → EReal) (h : S512x2x128.Bitcasts 16 S512x1x128 32) (r : Fin 512) (l : Fin 128) :
    rowsOfParity p S512x1x128 x h (ix3 r 0 l) = x (ix3 r p l) := by
  match p with
  | 0 =>
    pointwise
    rfl
  | 1 =>
    pointwise
    rfl

theorem cast_words (B : FVec Ideal S512x1x128 .bf16) (c3 : S512x1x128.ShapeCasts S512x128) (k : Fin 512) (n : Fin 128) :
    (shapeCast S512x128 B c3 (ix2 k n) : EReal) = (B (ix3 k 0 n) : EReal) := by
  rw [shapeCast_apply _ c3 (ix2 k n) (ix3 k 0 n)
    ((Shape.rowMajor_val_three _).trans ((by show (k.val * 1 + 0) * 128 + n.val = k.val * 128 + n.val; omega) |> fun h => Eq.trans h (Shape.rowMajor_val_two _).symm))]

theorem cast_out (B : FVec Ideal S128x32 .bf16) (c3 : S128x32.ShapeCasts S128x1x32) (n : Fin 128) (j : Fin 32) :
    (shapeCast S128x1x32 B c3 (ix3 n 0 j) : EReal) = (B (ix2 n j) : EReal) := by
  rw [shapeCast_apply _ c3 (ix3 n 0 j) (ix2 n j)
    ((Shape.rowMajor_val_two _).trans ((by show n.val * 32 + j.val = (n.val * 1 + 0) * 32 + j.val; omega) |> fun h => Eq.trans h (Shape.rowMajor_val_three _).symm))]

theorem flip_at (B : FVec Ideal S512x128 .f32) (h) (n : Fin 128) (k : Fin 512) :
    (transpose S128x512 [1, 0] B h (ix2 n k) : EReal) = B (ix2 k n) := by
  pointwise
  rfl

theorem slice_at (o : Nat) (B : FVec Ideal S128x512 .bf16) (h) (n : Fin 128) (j : Fin 32) (ho : o + j.val < 512) :
    (extractStridedSlice S128x32 ![0, o] B h (ix2 n j) : EReal) = B (ix2 n ⟨o + j.val, ho⟩) := by
  refine congrArg B (funext fun e => ?_)
  match e with
  | ⟨0, _⟩ => exact Fin.ext (by show 0 + n.val = n.val; omega)
  | ⟨1, _⟩ => exact Fin.ext rfl

theorem lo_at (X : FVec Ideal S512x2x128 .bf16) (n : Fin 128) (k : Fin 512) :
    (k0_pay146 (F := Ideal) X (ix2 n k) : EReal) = X (ix3 k 0 n) := by
  unfold k0_pay146
  refine (flip_at (fun i => (shapeCast S512x128 (rowsOfParity 0 S512x1x128 X bitcasts_S512x2x128_w16_S512x1x128_w32) shapeCasts_S512x1x128_S512x128 i : EReal)) transposes_S512x128_p1_0_S128x512 n k).trans ?_
  refine (cast_words _ _ k n).trans ?_
  exact parity_words 0 X _ k n

theorem hi_at (X : FVec Ideal S512x2x128 .bf16) (n : Fin 128) (k : Fin 512) :
    (k0_pay147 (F := Ideal) X (ix2 n k) : EReal) = X (ix3 k 1 n) := by
  unfold k0_pay147
  refine (flip_at (fun i => (shapeCast S512x128 (rowsOfParity 1 S512x1x128 X bitcasts_S512x2x128_w16_S512x1x128_w32) shapeCasts_S512x1x128_S512x128 i : EReal)) transposes_S512x128_p1_0_S128x512 n k).trans ?_
  refine (cast_words _ _ k n).trans ?_
  exact parity_words 1 X _ k n

/-- The block that the pairs' buffer `W` holds: entry `(a, j)` of lane `n` is half `a % 2` of word row `32 (a / 2) + j`. -/
def outV (W : S512x2x128.Idx → EReal) : S128x32x32.Idx → EReal := fun y =>
  W (ix3 (Fin.ofNat 512 (32 * ((y 1).val / 2) + (y 2).val)) (Fin.ofNat 2 (y 1).val) (y 0))

/-- One of the sixteen stores writes its two rows of the block. -/
theorem out_piece (W : S512x2x128.Idx → EReal) (X : FVec Ideal S512x2x128 .bf16) (hX : ∀ y, (X y : EReal) = W y) (p2 o : Nat) (hpo : p2 % 2 = 0 ∧ o = 16 * p2)
    (hs : S128x512.Slices ![0, o] S128x32) (hs' : S128x512.Slices ![0, o] S128x32) (hc hc' : S128x32.ShapeCasts S128x1x32)
    (hb : S128x2x32.Bitcasts 16 S128x1x32 32)
    (inb : ∀ a, (![0, p2, 0] : Fin 3 → Nat) a + S128x2x32.size a ≤ S128x32x32.size a) (x : S128x2x32.Idx) :
    (interleaveRows S128x2x32 (shapeCast S128x1x32 (extractStridedSlice S128x32 ![0, o] (k0_pay146 (F := Ideal) X) hs) hc)
        (shapeCast S128x1x32 (extractStridedSlice S128x32 ![0, o] (k0_pay147 (F := Ideal) X) hs') hc') hb x : EReal)
      = outV W ((Rect.unit (s := S128x32x32) ![0, p2, 0] S128x2x32.size inb).emb x) := by
  obtain ⟨p, rfl⟩ : ∃ p, p2 = 2 * p := ⟨p2 / 2, by omega⟩
  obtain rfl : o = 32 * p := by omega
  have hp : 2 * p + 2 ≤ 32 := inb 1
  have h1 : (x 1).val < 2 := (x 1).isLt
  have h2 : (x 2).val < 32 := (x 2).isLt
  have e1 : ((Rect.unit (s := S128x32x32) ![0, 2 * p, 0] S128x2x32.size inb).emb x 1).val = 2 * p + 1 * (x 1).val := rfl
  have e2 : ((Rect.unit (s := S128x32x32) ![0, 2 * p, 0] S128x2x32.size inb).emb x 2).val = 0 + 1 * (x 2).val := rfl
  have e0 : (Rect.unit (s := S128x32x32) ![0, 2 * p, 0] S128x2x32.size inb).emb x 0 = x 0 :=
    Fin.ext (by show 0 + 1 * (x 0).val = (x 0).val; omega)
  have hx : x = ix3 (x 0) (x 1) (x 2) := by
    funext e
    match e with
    | ⟨0, _⟩ => rfl
    | ⟨1, _⟩ => rfl
    | ⟨2, _⟩ => rfl
  unfold outV
  rw [e1, e2, e0]
  refine (congrArg _ hx).trans ((interleave_out _ _ _ (x 0) (x 1) (x 2)).trans ?_)
  have hr : (Fin.ofNat 512 (32 * ((2 * p + 1 * (x 1).val) / 2) + (0 + 1 * (x 2).val)) : Fin 512) = ⟨32 * p + (x 2).val, by omega⟩ :=
    Fin.ext (by show (32 * ((2 * p + 1 * (x 1).val) / 2) + (0 + 1 * (x 2).val)) % 512 = 32 * p + (x 2).val; omega)
  rw [hr, ← hX]
  by_cases h0 : (x 1).val = 0
  · refine (if_pos h0).trans ((cast_out _ _ _ _).trans ((slice_at _ _ _ _ _ (by omega)).trans ((lo_at _ _ _).trans ?_)))
    refine congrArg X (congrArg₂ (fun a b => ix3 a b (x 0)) rfl (Fin.ext ?_))
    show 0 = (2 * p + 1 * (x 1).val) % 2
    omega
  · refine (if_neg h0).trans ((cast_out _ _ _ _).trans ((slice_at _ _ _ _ _ (by omega)).trans ((hi_at _ _ _).trans ?_)))
    refine congrArg X (congrArg₂ (fun a b => ix3 a b (x 0)) rfl (Fin.ext ?_))
    show 1 = (2 * p + 1 * (x 1).val) % 2
    omega

/-- A load of the whole buffer of pairs reads its contents. -/
theorem load_words (mr : Memref sig .tc .vmem S512x2x128 .bf16) (X : BufTy.Contents (Elt Ideal) mr.view.ty)
    (inb : ∀ e, (![0, 0, 0] : Fin 3 → Nat) e + S512x2x128.size e ≤ S512x2x128.size e) (y : S512x2x128.Idx) :
    View.readAt (Elt Ideal) mr.view (Rect.unit (s := S512x2x128) ![0, 0, 0] S512x2x128.size inb).toLoadRect X y
      = mr.view.read (Elt Ideal) X y := by
  rw [View.readAt_apply]
  refine congrArg _ (funext fun e => Fin.ext ?_)
  match e with
  | ⟨0, _⟩ => show 0 + 1 * (y 0).val = (y 0).val; omega
  | ⟨1, _⟩ => show 0 + 1 * (y 1).val = (y 1).val; omega
  | ⟨2, _⟩ => show 0 + 1 * (y 2).val = (y 2).val; omega

end Cert.RotationIdeal.Gen

end
-- ==== Proof.RotBody.lean ====
/- The rotation's body: what it leaves in its windows. -/
module

public import proofs.«01_k».proof.Proof.Gen.RotationIdeal.Frame
public import proofs.«01_k».proof.Proof.Gen.RotationIdeal.Points
public import proofs.«01_k».proof.Proof.RotSquare
public import proofs.«01_k».proof.Proof.RotSeries
public import proofs.«01_k».proof.Proof.RotStage
public import proofs.«01_k».proof.Proof.RotFinish
public import Idealize.ShloMosaic.Lib.Claim

@[expose] public section

-- membership in a rectangle of production extents (`View.cover_of_tiled`): the elaborator's structural look
-- recurses once per coordinate of the long axes
set_option maxRecDepth 16384

noncomputable section

namespace Cert.RotationIdeal.Gen

open Idealize.ShloMosaic hiding ix1 ix2 ix3 ix4
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open ValueIdx (ix2 ix3)
open Idealize.ShloMosaic.Pipeline (Dat Cfg Window BodyObligation cellOf)

local notation "𝕄" => MT nD τ sig Unit (Elt Ideal) ℕ (UR sig nD τ) ℕ

/-- The antisymmetric matrices of a block of triangles. -/
def triD (X : S128x496.Idx → EReal) : S32x32x128.Idx → EReal := qV (fun k n => X (ix2 n (Fin.ofNat 496 k)))

/-- The block of series the body writes for a block of triangles. -/
def rotBlk (X : S128x496.Idx → EReal) : S128x32x32.Idx → EReal := fun y =>
  serE (sqV (triD X)) (sqPlus (triD X)) (y 1).val (y 2).val (y 0)

theorem outV_ser (X : S128x496.Idx → EReal) (y : S128x32x32.Idx) :
    outV (serW (sqV (triD X)) (sqPlus (triD X))) y = rotBlk X y := by
  have h1 : (y 1).val < 32 := (y 1).isLt
  have h2 : (y 2).val < 32 := (y 2).isLt
  unfold outV serW rotBlk
  have e0 : 2 * ((32 * ((y 1).val / 2) + (y 2).val) % 512 / 32) + (y 1).val % 2 = (y 1).val := by omega
  have e1 : (32 * ((y 1).val / 2) + (y 2).val) % 512 % 32 = (y 2).val := by omega
  exact congrArg₂ (fun a b => serE (sqV (triD X)) (sqPlus (triD X)) a b (y 0)) e0 e1

-- (the run's proof term is large: checking it walks past the default budget)
set_option maxHeartbeats 2160000 in
/-- The body's triple: on whole staging memrefs, the inputs' at their contents and the others at anything, the body
    leaves the inputs as they were and the series of its triangles in the first output. -/
theorem rotRun (c : Dev nD) (i : grid0.Coords) (arg1 : Memref sig .tc .vmem S128x496 .f32) (harg1 : arg1.IsWhole) (arg2 : Memref sig .tc .vmem S256x4096 .bf16) (harg2 : arg2.IsWhole) (arg3 : Memref sig .tc .vmem S128x32x32 .bf16) (harg3 : arg3.IsWhole) (arg4 : Memref sig .tc .vmem S256x4096 .bf16) (harg4 : arg4.IsWhole) (arg5 : Memref sig .tc .vmem S512x128 .f32) (harg5 : arg5.IsWhole) (arg6 : Memref sig .tc .vmem S32x32x128 .f32) (harg6 : arg6.IsWhole) (arg7 : Memref sig .tc .vmem S32x32x128 .f32) (harg7 : arg7.IsWhole) (arg8 : Memref sig .tc .vmem S32x32x128 .f32) (harg8 : arg8.IsWhole) (arg9 : Memref sig .tc .vmem S512x2x128 .bf16) (harg9 : arg9.IsWhole)
    (x0 : Vec Ideal S128x496 .f32) (x1 : Vec Ideal S256x4096 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare (rotBlk x0) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := Ideal)) Variants.none c none) E (cc0_rot i arg1 harg1 arg2 harg2 arg3 harg3 arg4 harg4 arg5 harg5 arg6 harg6 arg7 harg7 arg8 harg8 arg9 harg9) K := by
    intro E K
    simp only [cc0_rot_eq_skeleton]; unfold cc0_rot_skel
    simp only [k0_part42_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1
    sl_exec
    sl_step
    have h6 : arg6.view.read (Elt Ideal) (arg6.view.writes (Elt Ideal) arg6.view.junk (rotRun.sl.HS1_94 c arg1 harg1 arg5 x0)) = qV (fun k n => (k0_pay41 (F := Ideal) (View.readAt (Elt Ideal) arg1.view (Rect.unit (s := S128x496) ![0, 0] S128x496.size inb_S128x496_S128x496_0_0).toLoadRect (harg1.unread x0)) (ix2 (Fin.ofNat 512 k) n) : EReal)) := by
      clear * -
      rw [View.read_writes_junk_eq_canon]
      funext y
      refine View.canon_apply_of_pieces (Val := Elt Ideal) _ _ ?_ y (View.cover_of_tiledBy _ ![1, 1, 128] (by sl_kernel_rfl) y)
      unfold rotRun.sl.HS1_94
      unfold k0_pay43 k0_pay46 k0_pay49 k0_pay52 k0_pay55 k0_pay58 k0_pay62 k0_pay65 k0_pay69 k0_pay72 k0_pay76 k0_pay79 k0_pay83 k0_pay86 k0_pay89 k0_pay92 k0_pay95 k0_pay96 k0_pay99 k0_pay102 k0_pay103 k0_pay106 k0_pay109 k0_pay110 k0_pay113 k0_pay116 k0_pay119 k0_pay122 k0_pay125 k0_pay128 k0_pay131 k0_pay134 k0_pay137 k0_pay140
      refine cons_pieces _ _ _ _ (fun x => diag_piece _ _ (by decide) (by decide) x) ?_
      iterate 31
        refine cons_pieces _ _ _ _ (fun x => col_piece _ _ _ _ _ (by rfl) (by rfl) _ (by exact fun a n => read_rows _ _ _ _ _ _ a n) (by decide) (by decide) x) ?_
        refine cons_pieces _ _ _ _ (fun x => row_piece _ _ _ _ _ (by rfl) (by rfl) _ (by exact fun a n => read_rows _ _ _ _ _ _ a n) (by decide) (by decide) x) ?_
        refine cons_pieces _ _ _ _ (fun x => diag_piece _ _ (by decide) (by decide) x) ?_
      exact fun p hp => absurd hp List.not_mem_nil
    have h6' : arg6.view.read (Elt Ideal) (arg6.view.writes (Elt Ideal) arg6.view.junk (rotRun.sl.HS1_94 c arg1 harg1 arg5 x0)) = triD x0 := by
      refine h6.trans (qV_congr _ _ fun k hk n => ?_)
      refine (entries_at _ k hk n).trans ((load_tri arg1 _ _ _).trans ?_)
      rw [harg1.read_unread]
    have hX : ∀ z : S512x2x128.Idx, (View.readAt (Elt Ideal) arg9.view (Rect.unit (s := S512x2x128) ![0, 0, 0] S512x2x128.size (by decide)).toLoadRect (arg9.view.writes (Elt Ideal) fs4 (pb_k0_t2 (F := Ideal) Variants.none c none i arg1 harg1 arg2 harg2 arg3 harg3 arg4 harg4 arg5 harg5 arg6 harg6 arg7 harg7 arg8 harg8 arg9 harg9 (rotRun.sl.v401 c arg1 harg1 arg5 x0) (rotRun.sl.v402 c arg6 fs1) (arg7.view.writes (Elt Ideal) fs2 (pb_k0_t1 (F := Ideal) Variants.none c none i arg1 harg1 arg2 harg2 arg3 harg3 arg4 harg4 arg5 harg5 arg6 harg6 arg7 harg7 arg8 harg8 arg9 harg9 (rotRun.sl.v401 c arg1 harg1 arg5 x0) (rotRun.sl.v402 c arg6 fs1) (arg6.view.writes (Elt Ideal) arg6.view.junk (rotRun.sl.HS1_94 c arg1 harg1 arg5 x0)) (Scf.trips k0_t1_loop.lb k0_t1_loop.ub k0_t1_loop.st)).1) (arg8.view.writes (Elt Ideal) fs3 (pb_k0_t1 (F := Ideal) Variants.none c none i arg1 harg1 arg2 harg2 arg3 harg3 arg4 harg4 arg5 harg5 arg6 harg6 arg7 harg7 arg8 harg8 arg9 harg9 (rotRun.sl.v401 c arg1 harg1 arg5 x0) (rotRun.sl.v402 c arg6 fs1) (arg6.view.writes (Elt Ideal) arg6.view.junk (rotRun.sl.HS1_94 c arg1 harg1 arg5 x0)) (Scf.trips k0_t1_loop.lb k0_t1_loop.ub k0_t1_loop.st)).2) (Scf.trips k0_t2_loop.lb k0_t2_loop.ub k0_t2_loop.st))) z : EReal) = serW (sqV (triD x0)) (sqPlus (triD x0)) z := by
      intro z
      refine (load_words arg9 _ _ z).trans ?_
      rw [series_read, square_read1, square_read2, h6']
    have h3 : arg3.view.read (Elt Ideal) (arg3.view.writes (Elt Ideal) arg3.view.junk
      (rotRun.sl.H2_16 c i arg1 harg1 arg2 harg2 arg3 harg3 arg4 harg4 arg5 harg5 arg6 harg6 arg7 harg7 arg8 harg8 arg9
        harg9 x0 fs1 fs2 fs3 fs4)) = rotBlk x0 := by
      clear h6 h6'
      rw [View.read_writes_junk_eq_canon]
      funext y
      rw [← outV_ser]
      refine View.canon_apply_of_pieces (Val := Elt Ideal) _ _ ?_ y (View.cover_of_tiledBy _ ![128, 2, 32] (by sl_kernel_rfl) y)
      unfold rotRun.sl.H2_16
      iterate 16
        refine cons_pieces _ _ _ _ (fun x => out_piece _ _ hX _ _ (by decide) (by decide) (by decide) (by decide) (by decide) (by decide) (by decide) x) ?_
      exact fun p hp => absurd hp List.not_mem_nil
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact h3
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.RotationIdeal.Gen

end
-- ==== Proof.RotRow.lean ====
/- The rotation's series of one triangle, as sums over 32 terms. -/
module

public import proofs.«01_k».proof.Proof.RotBody

@[expose] public section

noncomputable section

namespace Cert.RotationIdeal.Gen

open Idealize.ShloMosaic hiding ix1 ix2 ix3 ix4
open ValueIdx (ix2 ix3)

/-- Entry `(a, b)` of the square of the antisymmetric matrix with triangle `t`. -/
def q2E (t : Nat → EReal) (a b : Nat) : EReal := ∑ k ∈ Finset.range 32, qE t a k * qE t k b

/-- Entry `(a, b)` of the series the kernel forms: twice `q² + q + q² (q² + q)`. -/
def rowE (t : Nat → EReal) (a b : Nat) : EReal :=
  two * ((q2E t a b + qE t a b) + ∑ k ∈ Finset.range 32, q2E t a k * (q2E t k b + qE t k b))

theorem at3_qV (T : Nat → Fin 128 → EReal) (a b : Nat) (n : Fin 128) (ha : a < 32) (hb : b < 32) :
    at3 (qV T) a b n = qE (fun k => T k n) a b := by
  show qE (fun k => T k n) (a % 32) (b % 32) = _
  rw [Nat.mod_eq_of_lt ha, Nat.mod_eq_of_lt hb]

theorem mm_qV (T : Nat → Fin 128 → EReal) (a b : Nat) (n : Fin 128) (ha : a < 32) (hb : b < 32) :
    mm (qV T) (qV T) a b n = q2E (fun k => T k n) a b :=
  Finset.sum_congr rfl fun k hk => by
    rw [at3_qV T a k n ha (Finset.mem_range.1 hk), at3_qV T k b n (Finset.mem_range.1 hk) hb]

theorem at3_sqV (T : Nat → Fin 128 → EReal) (a b : Nat) (n : Fin 128) (ha : a < 32) (hb : b < 32) :
    at3 (sqV (qV T)) a b n = q2E (fun k => T k n) a b := by
  show mm (qV T) (qV T) (a % 32) (b % 32) n = _
  rw [Nat.mod_eq_of_lt ha, Nat.mod_eq_of_lt hb, mm_qV T a b n ha hb]

theorem at3_sqPlus (T : Nat → Fin 128 → EReal) (a b : Nat) (n : Fin 128) (ha : a < 32) (hb : b < 32) :
    at3 (sqPlus (qV T)) a b n = q2E (fun k => T k n) a b + qE (fun k => T k n) a b := by
  show mm (qV T) (qV T) (a % 32) (b % 32) n + qE (fun k => T k n) (a % 32) (b % 32) = _
  rw [Nat.mod_eq_of_lt ha, Nat.mod_eq_of_lt hb, mm_qV T a b n ha hb]

theorem serE_qV (T : Nat → Fin 128 → EReal) (a b : Nat) (n : Fin 128) (ha : a < 32) (hb : b < 32) :
    serE (sqV (qV T)) (sqPlus (qV T)) a b n = rowE (fun k => T k n) a b := by
  unfold serE rowE
  rw [at3_sqPlus T a b n ha hb]
  refine congrArg (HMul.hMul (α := EReal) (β := EReal) two) (congrArg (HAdd.hAdd (α := EReal) (β := EReal) _) ?_)
  exact Finset.sum_congr rfl fun k hk => by
    rw [at3_sqV T a k n ha (Finset.mem_range.1 hk), at3_sqPlus T k b n (Finset.mem_range.1 hk) hb]

/-- Only the first 496 entries of the triangle matter. -/
theorem qE_congr (t t' : Nat → EReal) (h : ∀ k, k < 496 → t k = t' k) (a b : Nat) (ha : a < 32) (hb : b < 32) :
    qE t a b = qE t' a b := by
  unfold qE
  by_cases hij : a < b
  · rw [if_pos hij, if_pos hij]; exact h _ (tri_lt ⟨a, ha⟩ ⟨b, hb⟩ hij)
  · rw [if_neg hij, if_neg hij]
    by_cases hji : b < a
    · rw [if_pos hji, if_pos hji, h _ (tri_lt ⟨b, hb⟩ ⟨a, ha⟩ hji)]
    · rw [if_neg hji, if_neg hji]

theorem q2E_congr (t t' : Nat → EReal) (h : ∀ k, k < 496 → t k = t' k) (a b : Nat) (ha : a < 32) (hb : b < 32) :
    q2E t a b = q2E t' a b :=
  Finset.sum_congr rfl fun k hk => by
    rw [qE_congr t t' h a k ha (Finset.mem_range.1 hk), qE_congr t t' h k b (Finset.mem_range.1 hk) hb]

theorem rowE_congr (t t' : Nat → EReal) (h : ∀ k, k < 496 → t k = t' k) (a b : Nat) (ha : a < 32) (hb : b < 32) :
    rowE t a b = rowE t' a b := by
  unfold rowE
  rw [q2E_congr t t' h a b ha hb, qE_congr t t' h a b ha hb]
  refine congrArg (HMul.hMul (α := EReal) (β := EReal) two) (congrArg (HAdd.hAdd (α := EReal) (β := EReal) _) ?_)
  exact Finset.sum_congr rfl fun k hk => by
    rw [q2E_congr t t' h a k ha (Finset.mem_range.1 hk), q2E_congr t t' h k b (Finset.mem_range.1 hk) hb,
      qE_congr t t' h k b (Finset.mem_range.1 hk) hb]

/-- The block of series, row by row. -/
theorem rotBlk_row (X : S128x496.Idx → EReal) (y : S128x32x32.Idx) :
    rotBlk X y = rowE (fun k => X (ix2 (y 0) (Fin.ofNat 496 k))) (y 1).val (y 2).val :=
  serE_qV _ _ _ _ (y 1).isLt (y 2).isLt

end Cert.RotationIdeal.Gen

end
-- ==== Proof.RotData.lean ====
/- The rotation's call over the extended reals: the data of its pipeline. -/
module

public import proofs.«01_k».proof.Proof.Gen.RotationIdeal.Frame
public import proofs.«01_k».proof.Proof.Gen.RotationIdeal.Loops
public import proofs.«01_k».proof.Proof.Gen.RotationIdeal.Points
public import proofs.«01_k».proof.Proof.RotFrameIdeal
public import proofs.«01_k».proof.Proof.RotRow
public import Idealize.ShloMosaic.Lib.Claim

@[expose] public section

-- membership in a rectangle of production extents (`View.cover_of_tiled`): the elaborator's structural look
-- recurses once per coordinate of the long axes
set_option maxRecDepth 16384

noncomputable section

namespace Cert.RotationIdeal.Out

open Cert.RotationIdeal.Gen hiding forgets0 dats A_eq cut0_0 cut0_1 before0_0 before0_1 bodyPre bodyPost sound_body body_obligation run_main_quiescent run_main frame

open Idealize.ShloMosaic hiding ix1 ix2 ix3 ix4
open ValueIdx (ix2 ix3)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The array of series: matrix `i 0` is the series of row `i 0` of the triangles. -/
def serA (X : S448x496.Idx → EReal) : S448x32x32.Idx → EReal := fun i =>
  rowE (fun k => X (ix2 (i 0) (Fin.ofNat 496 k))) (i 1).val (i 2).val

/-- The block of the array of series at a point. -/
def blkA (c : Dev nD) (t : Fin cfg0.N) : (win0_2.xblock (grid0.coords t)).Idx → EReal :=
  (win0_2.blk t).view.read (Elt Ideal) (serA (V m c main_arg1))

/-- The one window whose contents are not named: the second output's. -/
def forgets0 : Fin 4 → Bool := fun w => w.val == 3

/-- The proof data of the pipeline on core `c`: the arrays as the region finds them; after the body at point `t` each
    input's buffer at its block, the first output's at its block of the array of series, the second output's not named;
    full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (α := EReal) (grid0.coords t) (fun _ => 0) (iblk m c 0 t)
    | ⟨1, _⟩ => win0_1.fill (α := EReal) (grid0.coords t) (fun _ => 0) (iblk m c 1 t)
    | ⟨2, _⟩ => win0_2.fill (α := EReal) (grid0.coords t) (fun _ => 0) (blkA m c t)
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves in an input's buffer, on the part inside the array: its block. -/
theorem cut0_0 (c : Dev nD) (t : Fin cfg0.N) : win0_0.cut (grid0.coords t) ((dats m 0 c).after 0 t) = iblk m c 0 t := win0_0.cut_fill _ _ _
theorem cut0_1 (c : Dev nD) (t : Fin cfg0.N) : win0_1.cut (grid0.coords t) ((dats m 0 c).after 1 t) = iblk m c 1 t := win0_1.cut_fill _ _ _

theorem cut0_2 (c : Dev nD) (t : Fin cfg0.N) : win0_2.cut (grid0.coords t) ((dats m 0 c).after 2 t) = blkA m c t := win0_2.cut_fill _ _ _

/-- The rows the two transfers move are the same, and all 496 columns of the triangles are moved. -/
theorem xsize_rows : ∀ t : Fin cfg0.N, win0_0.xsize (grid0.coords t) 0 = win0_2.xsize (grid0.coords t) 0
    ∧ win0_0.xsize (grid0.coords t) 1 = 496 := by decide +kernel

/-- The rows' places in the two arrays are the same. -/
theorem index_rows : ∀ t : Fin cfg0.N, win0_0.index t 0 * 128 = win0_2.index t 0 * 128
    ∧ win0_0.index t 1 * 496 = 0 ∧ win0_2.index t 1 * 32 = 0 ∧ win0_2.index t 2 * 32 = 0 := by decide +kernel

/-- On the part inside the array the block of series is the array's, whatever lies past the triangles' end. -/
theorem fill_blkA (c : Dev nD) (t : Fin cfg0.N) (d0 : S128x496.Idx → EReal) :
    win0_2.fill (grid0.coords t) (rotBlk (win0_0.fill (grid0.coords t) d0 (iblk m c 0 t))) (blkA m c t)
      = rotBlk (win0_0.fill (grid0.coords t) d0 (iblk m c 0 t)) := by
  funext y
  unfold Window.fill
  by_cases h : win0_2.moved (grid0.coords t) y = true
  · rw [dif_pos h]
    refine Eq.trans ?_ (rotBlk_row _ y).symm
    have hm := (win0_2.moved_iff (grid0.coords t) y).mp h
    obtain ⟨i0, i1, i2, i3⟩ := index_rows t
    have hz : ∀ z : (win0_2.xblock (grid0.coords t)).Idx, (∀ a, (z a).val = (y a).val) → blkA m c t z
        = rowE (fun k => win0_0.fill (grid0.coords t) d0 (iblk m c 0 t) (ix2 (y 0) (Fin.ofNat 496 k))) (y 1).val (y 2).val := by
      intro z hz
      show serA (V m c main_arg1) ((win0_2.blk t).view.emb z) = _
      have e0 : ((win0_2.blk t).view.emb z 0).val = win0_2.index t 0 * 128 + 1 * (z 0).val := rfl
      have e1 : ((win0_2.blk t).view.emb z 1).val = win0_2.index t 1 * 32 + 1 * (z 1).val := rfl
      have e2 : ((win0_2.blk t).view.emb z 2).val = win0_2.index t 2 * 32 + 1 * (z 2).val := rfl
      have hz0 := hz 0
      have hz1 := hz 1
      have hz2 := hz 2
      unfold serA
      rw [show ((win0_2.blk t).view.emb z 1).val = (y 1).val by omega,
        show ((win0_2.blk t).view.emb z 2).val = (y 2).val by omega]
      refine congrArg (fun f => rowE f (y 1).val (y 2).val) (funext fun k => ?_)
      have hk : k % 496 < 496 := Nat.mod_lt _ (by decide)
      have hm0 : (y 0).val < win0_2.xsize (grid0.coords t) 0 := hm 0
      obtain ⟨x0, x1⟩ := xsize_rows t
      have hmv : win0_0.moved (grid0.coords t) (ix2 (y 0) (Fin.ofNat 496 k)) = true :=
        (win0_0.moved_iff (grid0.coords t) _).mpr fun a => match a with
          | ⟨0, _⟩ => lt_of_lt_of_eq hm0 x0.symm
          | ⟨1, _⟩ => lt_of_lt_of_eq hk x1.symm
      unfold Window.fill
      rw [dif_pos hmv]
      refine congrArg (V m c main_arg1) (funext fun a => Fin.ext ?_)
      match a with
      | ⟨0, _⟩ =>
        show ((win0_2.blk t).view.emb z 0).val = win0_0.index t 0 * 128 + 1 * (y 0).val
        omega
      | ⟨1, _⟩ =>
        show k % 496 = win0_0.index t 1 * 496 + 1 * (k % 496)
        omega
    exact hz _ fun _ => rfl
  · rw [dif_neg h]

/-- Each input's buffer arrives holding its block on the part inside the array and anything past it. -/
theorem before0_0 (c : Dev nD) (t : Fin cfg0.N) (d) : (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = win0_1.fill (grid0.coords t) d (iblk m c 1 t) := by
  unfold Dat.before; rw [if_pos (fetch0_1 t)]; rfl

/-- The array of the first result after the run is the array of series. -/
theorem final_2 (c : Dev nD) : (dats m 0 c).arrAt 2 cfg0.N = serA (V m c main_arg1) := by
  refine (dats m 0 c).arrAt_eq_of_covers 2 _ (by decide +kernel) (fun t hf y => ?_)
  change win0_2.fill (α := EReal) (grid0.coords t) (fun _ => 0) (blkA m c t) (win0_2.xinj (grid0.coords t) y) = _
  rw [Window.fill_xinj]
  rfl

end Cert.RotationIdeal.Out

end
-- ==== Proof.RotRun.lean ====
/- The rotation's call over the extended reals: what it leaves in its first result. -/
module

public import proofs.«01_k».proof.Proof.Gen.RotationIdeal.Frame
public import proofs.«01_k».proof.Proof.Gen.RotationIdeal.Loops
public import proofs.«01_k».proof.Proof.Gen.RotationIdeal.Points
public import proofs.«01_k».proof.Proof.RotFrameIdeal
public import proofs.«01_k».proof.Proof.RotData
public import Idealize.ShloMosaic.Lib.Claim

@[expose] public section

-- membership in a rectangle of production extents (`View.cover_of_tiled`): the elaborator's structural look
-- recurses once per coordinate of the long axes
set_option maxRecDepth 16384

noncomputable section

namespace Cert.RotationIdeal.Out

open Cert.RotationIdeal.Gen hiding forgets0 dats A_eq cut0_0 cut0_1 before0_0 before0_1 bodyPre bodyPost sound_body body_obligation run_main_quiescent run_main frame

open Idealize.ShloMosaic hiding ix1 ix2 ix3 ix4
open ValueIdx (ix2 ix3)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ (∃ d, owns (c : Thread nD τ) (ms0_1 t) fullShare (win0_1.fill (grid0.coords t) d (win0_1.cut (grid0.coords t) ((dats m 0 c).after 1 t))))
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩⟩
  iapply ((rotRun c (grid0.coords t) _ _ _ _ _ _ _ _ _ _ _ _ _ _ _ _ _ _ (win0_0.fill (grid0.coords t) d0 (iblk m c 0 t)) (win0_1.fill (grid0.coords t) d1 (iblk m c 1 t))) Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]
  · iexists d0
    change _ ⊢ owns (c : Thread nD τ) (ms0_0 t) fullShare (win0_0.fill (grid0.coords t) d0 (win0_0.cut (grid0.coords t) ((dats m 0 c).after 0 t)))
    rw [cut0_0]
  isplitl [H1]
  · iexists d1
    change _ ⊢ owns (c : Thread nD τ) (ms0_1 t) fullShare (win0_1.fill (grid0.coords t) d1 (win0_1.cut (grid0.coords t) ((dats m 0 c).after 1 t)))
    rw [cut0_1]
  isplitl [H2]
  · iexists (rotBlk (win0_0.fill (grid0.coords t) d0 (iblk m c 0 t)))
    change _ ⊢ owns (c : Thread nD τ) (ms0_2 t) fullShare (win0_2.fill (grid0.coords t) (rotBlk (win0_0.fill (grid0.coords t) d0 (iblk m c 0 t))) (win0_2.cut (grid0.coords t) ((dats m 0 c).after 2 t)))
    rw [cut0_2, fill_blkA]
  iexact H3

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationLoose (dats m 0 c) (defs₀ (F := Ideal)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- The call ends with the array of series in its first result and its arguments unchanged. -/
theorem run_value : θ_run defs (onTc (τ := τ) (main (F := Ideal))) ⟨m, fun _ => 0, ρ⟩ (fun r => ∀ c : Dev nD,
      r.2.mem ((c.tc : Thread nD τ).loc main_v0_0) = serA (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((Dat.toRForget_arrAt_iff (dats m 0 c) (fgt := forgets0) (w := 2) rfl cfg0.N _).mp ((h.1 c).1 2)).trans ((final_2 m c).trans (congrArg serA (V_main_arg1 m c))),
      (Pipeline.RDat.FramePost.arr_in h.1 c 1 rfl).trans ((A_eq m c 1).trans (V_main_arg0 m c)),
      (Pipeline.RDat.FramePost.arr_in h.1 c 0 rfl).trans ((A_eq m c 0).trans (V_main_arg1 m c))⟩) (run_main_quiescent m ρ)

end Cert.RotationIdeal.Out

end
-- ==== Proof.RotSum.lean ====
/- The two series agree on real triangles. -/
module

public import proofs.«01_k».proof.Proof.RotRow

@[expose] public section

noncomputable section

namespace Cert.RotationIdeal.Gen

open Idealize.ShloMosaic

/-- Entry `(a, b)` of the series as the reference forms it: `2 q + 2 q² + 2 q³ + 2 q⁴`. -/
def refE (t : Nat → EReal) (a b : Nat) : EReal :=
  two * qE t a b + two * q2E t a b + two * (∑ k ∈ Finset.range 32, q2E t a k * qE t k b)
    + two * (∑ k ∈ Finset.range 32, q2E t a k * q2E t k b)

theorem two_real : two = ((2 : ℝ) : EReal) := by
  show Ideal.ofBits .f32 0x40000000#32 = _
  simp [Ideal.ofBits, Ideal.ieee, -EReal.coe_mul]; norm_num

theorem coe_sum_range (f : Nat → ℝ) (n : Nat) : ((∑ k ∈ Finset.range n, f k : ℝ) : EReal) = ∑ k ∈ Finset.range n, (f k : EReal) := by
  induction n with
  | zero => simp
  | succ n ih => rw [Finset.sum_range_succ, Finset.sum_range_succ, EReal.coe_add, ih]

/-- The antisymmetric matrix of a real triangle. -/
def qR (r : Nat → ℝ) (i j : Nat) : ℝ :=
  if i < j then r (tri i + (j - i - 1)) else if j < i then 0 - r (tri j + (i - j - 1)) else 0

theorem qE_real (r : Nat → ℝ) (i j : Nat) : qE (fun k => (r k : EReal)) i j = (qR r i j : EReal) := by
  unfold qE qR
  split_ifs <;> simp

/-- Its square. -/
def q2R (r : Nat → ℝ) (a b : Nat) : ℝ := ∑ k ∈ Finset.range 32, qR r a k * qR r k b

theorem q2E_real (r : Nat → ℝ) (a b : Nat) : q2E (fun k => (r k : EReal)) a b = (q2R r a b : EReal) := by
  unfold q2E q2R
  rw [coe_sum_range]
  exact Finset.sum_congr rfl fun k _ => by rw [qE_real, qE_real, EReal.coe_mul]

/-- On a real triangle, factoring `q²` out of `q³ + q⁴` changes nothing. -/
theorem rowE_eq_refE (t : Nat → EReal) (h : ∀ k, ∃ r : ℝ, t k = (r : EReal)) (a b : Nat) : rowE t a b = refE t a b := by
  choose r hr using h
  obtain rfl : t = fun k => (r k : EReal) := funext hr
  unfold rowE refE
  simp only [qE_real, q2E_real, two_real, ← EReal.coe_mul, ← EReal.coe_add, ← coe_sum_range]
  refine congrArg Real.toEReal ?_
  simp only [mul_add, Finset.sum_add_distrib]
  ring

end Cert.RotationIdeal.Gen

end
-- ==== Proof.RotRef.lean ====
/- The rotation's reference, entry by entry. -/
module

public import proofs.«01_k».proof.Proof.Gen.RotationReferenceIdeal.Run
public import proofs.«01_k».proof.Proof.Gen.RotationReferenceIdeal
public import proofs.«01_k».proof.Proof.RotSum
public import Idealize.ShloMosaic.Lib.Routing.OpsSet
public import Idealize.ShloMosaic.Lib.Routing.OpsPair

@[expose] public section

set_option maxRecDepth 16384

noncomputable section

namespace Cert.RotationReferenceIdeal.Entry

open Cert.RotationReferenceIdeal Cert.RotationReferenceIdeal.Gen Cert.RotationReferenceIdeal.Value
open Idealize.ShloMosaic hiding ix1 ix2 ix3 ix4
open Idealize.ShloMosaic.TcCoe Idealize.ShloMosaic.Tactic Idealize.ShloMosaic.StableHlo
open ValueIdx
open Cert.RotationIdeal.Gen (tri qE q2E two refE)

/-- The tables of rows and columns list the pairs `i < j < 32` in order. -/
theorem tables : ∀ k : Fin 496, 0 ≤ (lit0 k).toInt ∧ (lit0 k).toInt < (lit1 k).toInt ∧ (lit1 k).toInt < 32
    ∧ tri (lit0 k).toInt.toNat + ((lit1 k).toInt.toNat - (lit0 k).toInt.toNat - 1) = k.val := by decide +kernel

theorem tables_at : ∀ i j : Fin 32, i.val < j.val →
    (lit0 (Fin.ofNat 496 (tri i.val + (j.val - i.val - 1)))).toInt = i.val
    ∧ (lit1 (Fin.ofNat 496 (tri i.val + (j.val - i.val - 1)))).toInt = j.val := by decide +kernel

/-- Update `(b, k)` lands at `(B, i, j)` exactly when `b` is `B` and its index words are `i` and `j`. -/
theorem lands (idx : IVec S496x2 32) (b : Fin 448) (k : Fin 496) (B : Fin 448) (i j : Fin 32) :
    scatter_S448x32x32_S496x2_S448x496_0_12_12_1.resultIdx? (ix2 b k) idx = some (ix3 B i j)
      ↔ b = B ∧ (idx (ix2 k (0 : Fin 2))).toInt = i.val ∧ (idx (ix2 k (1 : Fin 2))).toInt = j.val := by
  have s0 : scatter_S448x32x32_S496x2_S448x496_0_12_12_1.start (ix2 b k) idx 0 = 0 := rfl
  have s1 : scatter_S448x32x32_S496x2_S448x496_0_12_12_1.start (ix2 b k) idx 1 = (idx (ix2 k (0 : Fin 2))).toInt := by
    refine congrArg (fun z => (idx z).toInt) (funext fun a => ?_)
    match a with
    | ⟨0, _⟩ => rfl
    | ⟨1, _⟩ => rfl
  have s2 : scatter_S448x32x32_S496x2_S448x496_0_12_12_1.start (ix2 b k) idx 2 = (idx (ix2 k (1 : Fin 2))).toInt := by
    refine congrArg (fun z => (idx z).toInt) (funext fun a => ?_)
    match a with
    | ⟨0, _⟩ => rfl
    | ⟨1, _⟩ => rfl
  have w0 : scatter_S448x32x32_S496x2_S448x496_0_12_12_1.window (ix2 b k) 0 = b.val := rfl
  have w1 : scatter_S448x32x32_S496x2_S448x496_0_12_12_1.window (ix2 b k) 1 = 0 := rfl
  have w2 : scatter_S448x32x32_S496x2_S448x496_0_12_12_1.window (ix2 b k) 2 = 0 := rfl
  rw [Routing.resultIdx?_eq_some]
  constructor
  · intro h
    have h0 := h 0
    have h1 := h 1
    have h2 := h 2
    rw [s0, w0] at h0
    rw [s1, w1] at h1
    rw [s2, w2] at h2
    change 0 + (b.val : Int) = (B.val : Int) at h0
    change _ + ((0 : ℕ) : Int) = (i.val : Int) at h1
    change _ + ((0 : ℕ) : Int) = (j.val : Int) at h2
    exact ⟨Fin.ext (by omega), by omega, by omega⟩
  · rintro ⟨rfl, h1, h2⟩ a
    match a with
    | ⟨0, _⟩ => exact (congrArg₂ (fun (x : Int) (y : Nat) => x + (y : Int)) s0 w0).trans (zero_add _)
    | ⟨1, _⟩ => exact (congrArg₂ (fun (x : Int) (y : Nat) => x + (y : Int)) s1 w1).trans ((add_zero _).trans h1)
    | ⟨2, _⟩ => exact (congrArg₂ (fun (x : Int) (y : Nat) => x + (y : Int)) s2 w2).trans ((add_zero _).trans h2)

/-- A table of index words as the reference passes it. -/
abbrev wordsOf (l : Fin 496 → BitVec 32) : IVec S496x1 32 :=
  broadcastInDim S496x1 ![0] bcast_S496_S496x1_0 (select (constantI S496 1 0#1) (addi ((fun i => l (S496.rowMajor i)))
    (broadcastInDim S496 ![] bcast_S_S496 (constantI S_ 32 32#32))) ((fun i => l (S496.rowMajor i))))

theorem wordsOf_apply (l : Fin 496 → BitVec 32) (k : Fin 496) : wordsOf l (ix2 k (0 : Fin 1)) = l k := by
  have hb : ∀ R : IVec S496 32, broadcastInDim S496x1 ![0] bcast_S496_S496x1_0 R (ix2 k (0 : Fin 1)) = R (ix1 k) := fun R =>
    broadcastInDim_apply ![0] bcast_S496_S496x1_0 R _ _ (fun a => by match a with | 0 => rfl)
  refine (hb _).trans ?_
  show l (S496.rowMajor (ix1 k)) = l k
  exact congrArg l (Fin.ext (Shape.rowMajor_val_one _))

/-- Two tables side by side. -/
abbrev pairOf (l l' : Fin 496 → BitVec 32) : IVec S496x2 32 :=
  concatenate S496x2 1 [⟨S496x1, wordsOf l⟩, ⟨S496x1, wordsOf l'⟩] concatenates_S496x1_S496x1_S496x2_d1

theorem pairOf_fst (l l' : Fin 496 → BitVec 32) (k : Fin 496) : pairOf l l' (ix2 k (0 : Fin 2)) = l k := by
  refine (concatenate_pair_apply_left 1 _ _ concatenates_S496x1_S496x1_S496x2_d1 _ rfl (ix2 k (0 : Fin 1))
    (fun a => by match a with | 0 => rfl | 1 => rfl)).trans (wordsOf_apply l k)

theorem pairOf_snd (l l' : Fin 496 → BitVec 32) (k : Fin 496) : pairOf l l' (ix2 k (1 : Fin 2)) = l' k := by
  refine (concatenate_pair_apply_right 1 _ _ concatenates_S496x1_S496x1_S496x2_d1 _ rfl rfl (ix2 k (0 : Fin 1))
    (fun a ha => by match a with | 0 => rfl | 1 => exact absurd rfl ha) rfl).trans (wordsOf_apply l' k)

/-- A scatter of one triangle per matrix, at entries whose place in the triangle is known. -/
theorem set_hit (l l' : Fin 496 → BitVec 32) (x : S448x32x32.Idx → EReal) (u : S448x496.Idx → EReal) (B : Fin 448) (i j : Fin 32) (k : Fin 496)
    (hi : (l k).toInt = i.val) (hj : (l' k).toInt = j.val) (hu : ∀ k', (l k').toInt = i.val → (l' k').toInt = j.val → k' = k) :
    Host.scatter scatter_S448x32x32_S496x2_S448x496_0_12_12_1 (fun _ b => b) x (pairOf l l') u (ix3 B i j) = u (ix2 B k) := by
  refine Routing.scatter_set_hit _ _ _ _ _ _ (fun z hz => ?_) (ix2 B k)
    ((lands _ _ _ _ _ _).mpr ⟨rfl, (congrArg BitVec.toInt (pairOf_fst l l' k)).trans hi, (congrArg BitVec.toInt (pairOf_snd l l' k)).trans hj⟩)
  have ez : z = ix2 (z 0) (z 1) := funext fun a => by match a with | ⟨0, _⟩ => rfl | ⟨1, _⟩ => rfl
  rw [ez] at hz
  obtain ⟨hB, h1, h2⟩ := (lands _ _ _ _ _ _).mp hz
  have hk : z 1 = k := hu (z 1) ((congrArg BitVec.toInt (pairOf_fst l l' (z 1))).symm.trans h1) ((congrArg BitVec.toInt (pairOf_snd l l' (z 1))).symm.trans h2)
  exact congrArg u (ez.trans (congrArg₂ (fun p q => ix2 p q) hB hk))

theorem set_miss (l l' : Fin 496 → BitVec 32) (x : S448x32x32.Idx → EReal) (u : S448x496.Idx → EReal) (B : Fin 448) (i j : Fin 32)
    (hn : ∀ k, (l k).toInt = i.val → (l' k).toInt ≠ j.val) :
    Host.scatter scatter_S448x32x32_S496x2_S448x496_0_12_12_1 (fun _ b => b) x (pairOf l l') u (ix3 B i j) = x (ix3 B i j) := by
  refine Routing.scatter_set_miss _ _ _ _ _ (fun z hz => ?_)
  have ez : z = ix2 (z 0) (z 1) := funext fun a => by match a with | ⟨0, _⟩ => rfl | ⟨1, _⟩ => rfl
  rw [ez] at hz
  obtain ⟨hB, h1, h2⟩ := (lands _ _ _ _ _ _).mp hz
  exact hn (z 1) ((congrArg BitVec.toInt (pairOf_fst l l' (z 1))).symm.trans h1) ((congrArg BitVec.toInt (pairOf_snd l l' (z 1))).symm.trans h2)

/-- The reference's antisymmetric matrices of an array of triangles. -/
abbrev refQ (s : S448x496.Idx → EReal) : S448x32x32.Idx → EReal :=
  Host.scatter scatter_S448x32x32_S496x2_S448x496_0_12_12_1 (fun _ b => b)
    (Host.scatter scatter_S448x32x32_S496x2_S448x496_0_12_12_1 (fun _ b => b)
      (broadcastInDim S448x32x32 ![] bcast_S_S448x32x32 (constant (F := Ideal) S_ .f32 0x00000000#32)) (pairOf lit0 lit1) s)
    (pairOf lit1 lit0) (Host.negf (F := Ideal) (φ := .f32) s)

/-- A pair's place in the tables is the only one. -/
theorem tables_inj (i j : Nat) (k : Fin 496) (hi : (lit0 k).toInt = i) (hj : (lit1 k).toInt = j) :
    i < j ∧ Fin.ofNat 496 (tri i + (j - i - 1)) = k := by
  obtain ⟨h0, h1, h2, h3⟩ := tables k
  rw [hi, hj] at h1 h3
  refine ⟨by omega, Fin.ext ?_⟩
  show (tri i + (j - i - 1)) % 496 = k.val
  have : tri i + (j - i - 1) = k.val := by simpa using h3
  rw [this]
  exact Nat.mod_eq_of_lt k.isLt

theorem refQ_apply (s : S448x496.Idx → EReal) (B : Fin 448) (i j : Fin 32) :
    refQ s (ix3 B i j) = qE (fun k => s (ix2 B (Fin.ofNat 496 k))) i.val j.val := by
  unfold qE
  by_cases hij : i.val < j.val
  · rw [if_pos hij]
    obtain ⟨a, b⟩ := tables_at i j hij
    refine (set_miss lit1 lit0 _ _ B i j fun k h1 h0 => ?_).trans (set_hit lit0 lit1 _ _ B i j _ a b fun k h0 h1 => ?_)
    · have := (tables_inj _ _ k h0 h1).1
      omega
    · exact (tables_inj _ _ k h0 h1).2.symm
  · rw [if_neg hij]
    by_cases hji : j.val < i.val
    · rw [if_pos hji]
      obtain ⟨a, b⟩ := tables_at j i hji
      refine (set_hit lit1 lit0 _ _ B i j _ b a fun k h1 h0 => (tables_inj _ _ k h0 h1).2.symm).trans ?_
      exact (zero_sub (G := EReal) _).symm
    · rw [if_neg hji]
      refine (set_miss lit1 lit0 _ _ B i j fun k h1 h0 => ?_).trans ((set_miss lit0 lit1 _ _ B i j fun k h0 h1 => ?_).trans ?_)
      · have := (tables_inj _ _ k h0 h1).1
        omega
      · have := (tables_inj _ _ k h0 h1).1
        omega
      · show (FloatOps.ofBits (F := Ideal) .f32 0x00000000#32 : EReal) = 0
        simp

/-- The reference's matrix product at an entry. -/
theorem dot_apply (x y : FVec Ideal S448x32x32 .f32) (B : Fin 448) (i j : Fin 32) :
    ((Host.dotGeneral dot_S448x32x32_S448x32x32_S448x32x32_2_1_1_2_0_0 (some .fp32) x y : FVec Ideal S448x32x32 .f32) (ix3 B i j) : EReal)
      = ∑ k : Fin 32, (x (ix3 B i k) : EReal) * y (ix3 B k j) := by
  pointwise
  rfl

theorem refQ2_apply (s : S448x496.Idx → EReal) (B : Fin 448) (i j : Fin 32) :
    ((Host.dotGeneral (φ₁ := .f32) (φ₂ := .f32) dot_S448x32x32_S448x32x32_S448x32x32_2_1_1_2_0_0 (some .fp32) (refQ s) (refQ s) : FVec Ideal S448x32x32 .f32) (ix3 B i j) : EReal)
      = q2E (fun k => s (ix2 B (Fin.ofNat 496 k))) i.val j.val := by
  refine (dot_apply _ _ B i j).trans ?_
  unfold q2E
  rw [Finset.sum_range]
  exact Finset.sum_congr rfl fun k _ => congrArg₂ (fun a b : EReal => a * b) (refQ_apply s B i k) (refQ_apply s B k j)

/-- The reference's result at an entry. -/
theorem result_apply (m : (ℓ : Loc nD τ sig) → Buf (Elt Ideal) ℓ) (c : Dev nD) (B : Fin 448) (i j : Fin 32) :
    (res_main_v36 m c (ix3 B i j) : EReal)
      = refE (fun k => (m ((c.tc : Thread nD τ).loc main_arg1) : S448x496.Idx → EReal) (ix2 B (Fin.ofNat 496 k))) i.val j.val := by
  unfold refE
  rw [Finset.sum_range, Finset.sum_range]
  refine congrArg₂ (fun a b : EReal => a + b) (congrArg₂ (fun a b : EReal => a + b) (congrArg₂ (fun a b : EReal => a + b) ?_ ?_) ?_) ?_
  · exact congrArg (fun z : EReal => two * z) (refQ_apply _ B i j)
  · exact congrArg (fun z : EReal => two * z) (refQ2_apply _ B i j)
  · refine congrArg (fun z : EReal => two * z) ((dot_apply _ _ B i j).trans ?_)
    exact Finset.sum_congr rfl fun k _ => congrArg₂ (fun a b : EReal => a * b) (refQ2_apply _ B i k) (refQ_apply _ B k j)
  · refine congrArg (fun z : EReal => two * z) ((dot_apply _ _ B i j).trans ?_)
    exact Finset.sum_congr rfl fun k _ => congrArg₂ (fun a b : EReal => a * b) (refQ2_apply _ B i k) (refQ2_apply _ B k j)

end Cert.RotationReferenceIdeal.Entry

end
-- ==== Proof.RotEquation.lean ====
/- Over the extended reals, on finite triangles, the rotation and its reference end with equal series. -/
module

public import proofs.«01_k».proof.Defs
public import proofs.«01_k».proof.Proof.RotRun
public import proofs.«01_k».proof.Proof.RotRef
public import proofs.«01_k».proof.Proof.RotClaims
public import proofs.«01_k».proof.Proof.Gen.Pre_finite
public import Idealize.ShloMosaic.Lib.KernelVsHost

@[expose] public section

noncomputable section

namespace Cert.Proof

open Idealize.ShloMosaic hiding ix1 ix2 ix3 ix4
open Idealize.ShloMosaic.TcCoe
open Idealize.SL.Sem
open ValueIdx (ix2 ix3)

/-- A value whose magnitude is below infinity is a real number. -/
theorem real_of_finite (x : Ideal .f32)
    (h : FloatOps.cmpf .olt (FloatOps.hostAbsf x) (FloatOps.ofBits (F := Ideal) .f32 0x7F800000#32) = 1#1) :
    ∃ r : ℝ, (x : EReal) = (r : EReal) := by
  rw [← Ideal.xori_weird_eq_hostAbsf_olt_inf] at h
  change IntOp.xori (BitVec.ofBool (decide ((x : EReal) = ⊤ ∨ (x : EReal) = ⊥))) 1#1 = 1#1 at h
  by_cases hx : (x : EReal) = ⊤ ∨ (x : EReal) = ⊥
  · simp [hx, IntOp.xori] at h
  · have ht : (x : EReal) ≠ ⊤ := fun e => hx (Or.inl e)
    have hb : (x : EReal) ≠ ⊥ := fun e => hx (Or.inr e)
    exact ⟨EReal.toReal x, (EReal.coe_toReal ht hb).symm⟩

/-- The reference of the rotation terminates without a fault and leaves its arguments unchanged; it declares no
    semaphore. -/
theorem frame_rotationReferenceIdeal : Cert.quiescent_RotationReferenceIdeal := fun m g _ =>
  (θ_run Cert.RotationReferenceIdeal.defs _ _).mono
    (fun r h => ⟨fun c => (h c).2, Idealize.ShloMosaic.sem_eq_zero_of_no_sems (by decide) r.2⟩)
    (Cert.RotationReferenceIdeal.Value.run (F := Ideal) m g)

/-- The same two frames on finite triangles. -/
theorem frame_rotationIdeal_finite : Cert.quiescent_RotationIdeal_pre_finite := fun m g _ =>
  Cert.RotationIdeal.Gen.frame (F := Ideal) m g

theorem frame_rotationReferenceIdeal_finite : Cert.quiescent_RotationReferenceIdeal_pre_finite := fun m g _ =>
  frame_rotationReferenceIdeal m g trivial

/-- The reference's result is the array of series of the same triangles. -/
theorem rotation_result_eq (m : (ℓ : Loc Cert.RotationIdeal.nD Cert.RotationIdeal.τ Cert.RotationIdeal.sig) → Buf (Elt Ideal) ℓ)
    (m' : (ℓ : Loc Cert.RotationReferenceIdeal.nD Cert.RotationReferenceIdeal.τ Cert.RotationReferenceIdeal.sig) → Buf (Elt Ideal) ℓ)
    (c : Dev Cert.RotationIdeal.nD) (hp : Cert.Pre_RotationIdeal_finite m)
    (h1 : m' ((c.tc : Thread Cert.RotationReferenceIdeal.nD Cert.RotationReferenceIdeal.τ).loc Cert.RotationReferenceIdeal.main_arg1)
      = m ((c.tc : Thread Cert.RotationIdeal.nD Cert.RotationIdeal.τ).loc Cert.RotationIdeal.main_arg1)) :
    Cert.RotationReferenceIdeal.Value.res_main_v36 m' c
      = Cert.RotationIdeal.Out.serA (m ((c.tc : Thread Cert.RotationIdeal.nD Cert.RotationIdeal.τ).loc Cert.RotationIdeal.main_arg1)) := by
  funext y
  have ey : y = ix3 (y 0) (y 1) (y 2) := funext fun a => by match a with | ⟨0, _⟩ => rfl | ⟨1, _⟩ => rfl | ⟨2, _⟩ => rfl
  refine (congrArg (Cert.RotationReferenceIdeal.Value.res_main_v36 m' c) ey).trans ?_
  refine (Cert.RotationReferenceIdeal.Entry.result_apply m' c (y 0) (y 1) (y 2)).trans ?_
  rw [h1]
  refine (Cert.RotationIdeal.Gen.rowE_eq_refE _ (fun k => ?_) _ _).symm
  exact real_of_finite _ (congrFun (hp c) (ix2 (y 0) (Fin.ofNat 496 k)))

/-- Over the extended reals, on finite triangles, the rotation and its reference end with equal results. -/
theorem algebraic_rotation : Cert.algebraic_RotationIdeal_RotationReferenceIdeal_pre_finite := fun m g m' g' hp hag =>
  ⟨fun c => Cert.RotationIdeal.Out.serA (m ((c.tc : Thread Cert.RotationIdeal.nD Cert.RotationIdeal.τ).loc Cert.RotationIdeal.main_arg1)),
    Cert.RotationIdeal.Out.run_value m g,
    (θ_run Cert.RotationReferenceIdeal.defs _ _).mono
      (fun _ h c => ⟨(h c).1.trans (rotation_result_eq m m' c hp (hag c).2), (h c).2⟩)
      (Cert.RotationReferenceIdeal.Value.run m' g')⟩

end Cert.Proof

end
-- ==== Proof.lean ====
/- The proof of the certificate: the frames, the rewriting's soundness and the equations with the references, assembled. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Value
public import proofs.«01_k».proof.Proof.Gen.ReferenceIdeal.Run
public import proofs.«01_k».proof.Proof.Gen.KernelIdeal.Frame
public import proofs.«01_k».proof.Proof.Gen.ReferenceIdeal
public import proofs.«01_k».proof.Proof.Gen.Rotation
public import proofs.«01_k».proof.Proof.Gen.Rotation.Frame
public import proofs.«01_k».proof.Proof.Gen.Rotation.Skeleton
public import proofs.«01_k».proof.Proof.Gen.Rotation.Loops
public import proofs.«01_k».proof.Proof.Gen.Rotation.Launch
public import proofs.«01_k».proof.Proof.Gen.Rotation.Points
public import proofs.«01_k».proof.Proof.Gen.RotationIdeal
public import proofs.«01_k».proof.Proof.Gen.RotationIdeal.Frame
public import proofs.«01_k».proof.Proof.Gen.RotationIdeal.Skeleton
public import proofs.«01_k».proof.Proof.Gen.RotationIdeal.Loops
public import proofs.«01_k».proof.Proof.Gen.RotationIdeal.Launch
public import proofs.«01_k».proof.Proof.Gen.RotationIdeal.Points
public import proofs.«01_k».proof.Proof.Gen.RotationReferenceIdeal
public import proofs.«01_k».proof.Proof.Gen.Pre_finite
public import proofs.«01_k».proof.Proof.Gen.RotationReferenceIdeal.Run
public import proofs.«01_k».proof.Proof.Frames
public import proofs.«01_k».proof.Proof.Equation
public import proofs.«01_k».proof.Proof.RotClaims
public import proofs.«01_k».proof.Proof.RotEquation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Rotation.Gen.facts, Cert.RotationIdeal.Gen.facts, Cert.RotationReferenceIdeal.Gen.facts, Cert.Pre_finite.Gen.facts,
  frame_kernel, frame_kernelIdeal, frame_referenceIdeal, frame_rotation, frame_rotationIdeal, frame_rotationIdeal_finite,
  frame_rotationReferenceIdeal, frame_rotationReferenceIdeal_finite, preserves, algebraic, preserves_rotation,
  algebraic_rotation⟩

end Cert.Proof

end
